-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelNormMix (m : (ℓ : Loc Cert.KernelNormMix.nD Cert.KernelNormMix.τ Cert.KernelNormMix.sig) → Buf (Elt Bits) ℓ) : Prop :=
  True

def Pre_KernelNormMixIdeal (m : (ℓ : Loc Cert.KernelNormMixIdeal.nD Cert.KernelNormMixIdeal.τ Cert.KernelNormMixIdeal.sig) → Buf (Elt Ideal) ℓ) : Prop :=
  True

def Pre_ReferenceNormMixIdeal (m : (ℓ : Loc Cert.ReferenceNormMixIdeal.nD Cert.ReferenceNormMixIdeal.τ Cert.ReferenceNormMixIdeal.sig) → Buf (Elt Ideal) ℓ) : Prop :=
  True

def Pre_KernelNormFfn (m : (ℓ : Loc Cert.KernelNormFfn.nD Cert.KernelNormFfn.τ Cert.KernelNormFfn.sig) → Buf (Elt Bits) ℓ) : Prop :=
  True

def Pre_KernelNormFfnIdeal (m : (ℓ : Loc Cert.KernelNormFfnIdeal.nD Cert.KernelNormFfnIdeal.τ Cert.KernelNormFfnIdeal.sig) → Buf (Elt Ideal) ℓ) : Prop :=
  True

def Pre_ReferenceNormFfnIdeal (m : (ℓ : Loc Cert.ReferenceNormFfnIdeal.nD Cert.ReferenceNormFfnIdeal.τ Cert.ReferenceNormFfnIdeal.sig) → Buf (Elt Ideal) ℓ) : Prop :=
  True

def Pre_KernelNormFinal (m : (ℓ : Loc Cert.KernelNormFinal.nD Cert.KernelNormFinal.τ Cert.KernelNormFinal.sig) → Buf (Elt Bits) ℓ) : Prop :=
  True

def Pre_KernelNormFinalIdeal (m : (ℓ : Loc Cert.KernelNormFinalIdeal.nD Cert.KernelNormFinalIdeal.τ Cert.KernelNormFinalIdeal.sig) → Buf (Elt Ideal) ℓ) : Prop :=
  True

def Pre_ReferenceNormFinalIdeal (m : (ℓ : Loc Cert.ReferenceNormFinalIdeal.nD Cert.ReferenceNormFinalIdeal.τ Cert.ReferenceNormFinalIdeal.sig) → Buf (Elt Ideal) ℓ) : Prop :=
  True

def Pre_KernelPlain (m : (ℓ : Loc Cert.KernelPlain.nD Cert.KernelPlain.τ Cert.KernelPlain.sig) → Buf (Elt Bits) ℓ) : Prop :=
  True

def Pre_KernelPlainIdeal (m : (ℓ : Loc Cert.KernelPlainIdeal.nD Cert.KernelPlainIdeal.τ Cert.KernelPlainIdeal.sig) → Buf (Elt Ideal) ℓ) : Prop :=
  True

def Pre_ReferencePlainIdeal (m : (ℓ : Loc Cert.ReferencePlainIdeal.nD Cert.ReferencePlainIdeal.τ Cert.ReferencePlainIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelRope (m : (ℓ : Loc Cert.KernelRope.nD Cert.KernelRope.τ Cert.KernelRope.sig) → Buf (Elt Bits) ℓ) : Prop :=
  True

def Pre_KernelRopeIdeal (m : (ℓ : Loc Cert.KernelRopeIdeal.nD Cert.KernelRopeIdeal.τ Cert.KernelRopeIdeal.sig) → Buf (Elt Ideal) ℓ) : Prop :=
  True

def Pre_ReferenceRopeIdeal (m : (ℓ : Loc Cert.ReferenceRopeIdeal.nD Cert.ReferenceRopeIdeal.τ Cert.ReferenceRopeIdeal.sig) → Buf (Elt Ideal) ℓ) : Prop :=
  True

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelCmpK (m : (ℓ : Loc Cert.KernelCmpK.nD Cert.KernelCmpK.τ Cert.KernelCmpK.sig) → Buf (Elt Bits) ℓ) : Prop :=
  True

def Pre_KernelCmpKIdeal (m : (ℓ : Loc Cert.KernelCmpKIdeal.nD Cert.KernelCmpKIdeal.τ Cert.KernelCmpKIdeal.sig) → Buf (Elt Ideal) ℓ) : Prop :=
  True

def Pre_ReferenceCmpKIdeal (m : (ℓ : Loc Cert.ReferenceCmpKIdeal.nD Cert.ReferenceCmpKIdeal.τ Cert.ReferenceCmpKIdeal.sig) → Buf (Elt Ideal) ℓ) : Prop :=
  True

def Pre_KernelCmpV (m : (ℓ : Loc Cert.KernelCmpV.nD Cert.KernelCmpV.τ Cert.KernelCmpV.sig) → Buf (Elt Bits) ℓ) : Prop :=
  True

def Pre_KernelCmpVIdeal (m : (ℓ : Loc Cert.KernelCmpVIdeal.nD Cert.KernelCmpVIdeal.τ Cert.KernelCmpVIdeal.sig) → Buf (Elt Ideal) ℓ) : Prop :=
  True

def Pre_ReferenceCmpVIdeal (m : (ℓ : Loc Cert.ReferenceCmpVIdeal.nD Cert.ReferenceCmpVIdeal.τ Cert.ReferenceCmpVIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelNormMix [hKernelNormMix : Cert.KernelNormMix.Facts] : Prop :=
  ∀ (m : (ℓ : Loc Cert.KernelNormMix.nD Cert.KernelNormMix.τ Cert.KernelNormMix.sig) → Buf (Elt Bits) ℓ) (g : Dev Cert.KernelNormMix.nD → PrngReg), Pre_KernelNormMix m →
    θ_run (Cert.KernelNormMix.defs (F := Bits)) (onTc (τ := Cert.KernelNormMix.τ) (Cert.KernelNormMix.main (F := Bits))) ⟨m, fun _ => 0, g⟩ (fun r => (∀ c : Dev Cert.KernelNormMix.nD,
      r.2.mem ((c.tc : Thread Cert.KernelNormMix.nD Cert.KernelNormMix.τ).loc Cert.KernelNormMix.main_arg0) = m ((c.tc : Thread Cert.KernelNormMix.nD Cert.KernelNormMix.τ).loc Cert.KernelNormMix.main_arg0)
      ∧ r.2.mem ((c.tc : Thread Cert.KernelNormMix.nD Cert.KernelNormMix.τ).loc Cert.KernelNormMix.main_arg1) = m ((c.tc : Thread Cert.KernelNormMix.nD Cert.KernelNormMix.τ).loc Cert.KernelNormMix.main_arg1))
      ∧ r.2.sem = fun _ => 0)

def quiescent_KernelNormMixIdeal [hKernelNormMixIdeal : Cert.KernelNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg), Pre_KernelNormMixIdeal m →
    θ_run (Cert.KernelNormMixIdeal.defs (F := Ideal)) (onTc (τ := Cert.KernelNormMixIdeal.τ) (Cert.KernelNormMixIdeal.main (F := Ideal))) ⟨m, fun _ => 0, g⟩ (fun r => (∀ c : Dev Cert.KernelNormMixIdeal.nD,
      r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
      ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1))
      ∧ r.2.sem = fun _ => 0)

def quiescent_ReferenceNormMixIdeal [hReferenceNormMixIdeal : Cert.ReferenceNormMixIdeal.Facts] : Prop :=
  ∀ (m : (ℓ : Loc Cert.ReferenceNormMixIdeal.nD Cert.ReferenceNormMixIdeal.τ Cert.ReferenceNormMixIdeal.sig) → Buf (Elt Ideal) ℓ) (g : Dev Cert.ReferenceNormMixIdeal.nD → PrngReg), Pre_ReferenceNormMixIdeal m →
    θ_run (Cert.ReferenceNormMixIdeal.defs (F := Ideal)) (onTc (τ := Cert.ReferenceNormMixIdeal.τ) (Cert.ReferenceNormMixIdeal.main (F := Ideal))) ⟨m, fun _ => 0, g⟩ (fun r => (∀ c : Dev Cert.ReferenceNormMixIdeal.nD,
      r.2.mem ((c.tc : Thread Cert.ReferenceNormMixIdeal.nD Cert.ReferenceNormMixIdeal.τ).loc Cert.ReferenceNormMixIdeal.main_arg0) = m ((c.tc : Thread Cert.ReferenceNormMixIdeal.nD Cert.ReferenceNormMixIdeal.τ).loc Cert.ReferenceNormMixIdeal.main_arg0)
      ∧ r.2.mem ((c.tc : Thread Cert.ReferenceNormMixIdeal.nD Cert.ReferenceNormMixIdeal.τ).loc Cert.ReferenceNormMixIdeal.main_arg1) = m ((c.tc : Thread Cert.ReferenceNormMixIdeal.nD Cert.ReferenceNormMixIdeal.τ).loc Cert.ReferenceNormMixIdeal.main_arg1))
      ∧ r.2.sem = fun _ => 0)

def quiescent_KernelNormFfn [hKernelNormFfn : Cert.KernelNormFfn.Facts] : Prop :=
  ∀ (m : (ℓ : Loc Cert.KernelNormFfn.nD Cert.KernelNormFfn.τ Cert.KernelNormFfn.sig) → Buf (Elt Bits) ℓ) (g : Dev Cert.KernelNormFfn.nD → PrngReg), Pre_KernelNormFfn m →
    θ_run (Cert.KernelNormFfn.defs (F := Bits)) (onTc (τ := Cert.KernelNormFfn.τ) (Cert.KernelNormFfn.main (F := Bits))) ⟨m, fun _ => 0, g⟩ (fun r => (∀ c : Dev Cert.KernelNormFfn.nD,
      r.2.mem ((c.tc : Thread Cert.KernelNormFfn.nD Cert.KernelNormFfn.τ).loc Cert.KernelNormFfn.main_arg0) = m ((c.tc : Thread Cert.KernelNormFfn.nD Cert.KernelNormFfn.τ).loc Cert.KernelNormFfn.main_arg0)
      ∧ r.2.mem ((c.tc : Thread Cert.KernelNormFfn.nD Cert.KernelNormFfn.τ).loc Cert.KernelNormFfn.main_arg1) = m ((c.tc : Thread Cert.KernelNormFfn.nD Cert.KernelNormFfn.τ).loc Cert.KernelNormFfn.main_arg1))
      ∧ r.2.sem = fun _ => 0)

def quiescent_KernelNormFfnIdeal [hKernelNormFfnIdeal : Cert.KernelNormFfnIdeal.Facts] : Prop :=
  ∀ (m : (ℓ : Loc Cert.KernelNormFfnIdeal.nD Cert.KernelNormFfnIdeal.τ Cert.KernelNormFfnIdeal.sig) → Buf (Elt Ideal) ℓ) (g : Dev Cert.KernelNormFfnIdeal.nD → PrngReg), Pre_KernelNormFfnIdeal m →
    θ_run (Cert.KernelNormFfnIdeal.defs (F := Ideal)) (onTc (τ := Cert.KernelNormFfnIdeal.τ) (Cert.KernelNormFfnIdeal.main (F := Ideal))) ⟨m, fun _ => 0, g⟩ (fun r => (∀ c : Dev Cert.KernelNormFfnIdeal.nD,
      r.2.mem ((c.tc : Thread Cert.KernelNormFfnIdeal.nD Cert.KernelNormFfnIdeal.τ).loc Cert.KernelNormFfnIdeal.main_arg0) = m ((c.tc : Thread Cert.KernelNormFfnIdeal.nD Cert.KernelNormFfnIdeal.τ).loc Cert.KernelNormFfnIdeal.main_arg0)
      ∧ r.2.mem ((c.tc : Thread Cert.KernelNormFfnIdeal.nD Cert.KernelNormFfnIdeal.τ).loc Cert.KernelNormFfnIdeal.main_arg1) = m ((c.tc : Thread Cert.KernelNormFfnIdeal.nD Cert.KernelNormFfnIdeal.τ).loc Cert.KernelNormFfnIdeal.main_arg1))
      ∧ r.2.sem = fun _ => 0)

def quiescent_ReferenceNormFfnIdeal [hReferenceNormFfnIdeal : Cert.ReferenceNormFfnIdeal.Facts] : Prop :=
  ∀ (m : (ℓ : Loc Cert.ReferenceNormFfnIdeal.nD Cert.ReferenceNormFfnIdeal.τ Cert.ReferenceNormFfnIdeal.sig) → Buf (Elt Ideal) ℓ) (g : Dev Cert.ReferenceNormFfnIdeal.nD → PrngReg), Pre_ReferenceNormFfnIdeal m →
    θ_run (Cert.ReferenceNormFfnIdeal.defs (F := Ideal)) (onTc (τ := Cert.ReferenceNormFfnIdeal.τ) (Cert.ReferenceNormFfnIdeal.main (F := Ideal))) ⟨m, fun _ => 0, g⟩ (fun r => (∀ c : Dev Cert.ReferenceNormFfnIdeal.nD,
      r.2.mem ((c.tc : Thread Cert.ReferenceNormFfnIdeal.nD Cert.ReferenceNormFfnIdeal.τ).loc Cert.ReferenceNormFfnIdeal.main_arg0) = m ((c.tc : Thread Cert.ReferenceNormFfnIdeal.nD Cert.ReferenceNormFfnIdeal.τ).loc Cert.ReferenceNormFfnIdeal.main_arg0)
      ∧ r.2.mem ((c.tc : Thread Cert.ReferenceNormFfnIdeal.nD Cert.ReferenceNormFfnIdeal.τ).loc Cert.ReferenceNormFfnIdeal.main_arg1) = m ((c.tc : Thread Cert.ReferenceNormFfnIdeal.nD Cert.ReferenceNormFfnIdeal.τ).loc Cert.ReferenceNormFfnIdeal.main_arg1))
      ∧ r.2.sem = fun _ => 0)

def quiescent_KernelNormFinal [hKernelNormFinal : Cert.KernelNormFinal.Facts] : Prop :=
  ∀ (m : (ℓ : Loc Cert.KernelNormFinal.nD Cert.KernelNormFinal.τ Cert.KernelNormFinal.sig) → Buf (Elt Bits) ℓ) (g : Dev Cert.KernelNormFinal.nD → PrngReg), Pre_KernelNormFinal m →
    θ_run (Cert.KernelNormFinal.defs (F := Bits)) (onTc (τ := Cert.KernelNormFinal.τ) (Cert.KernelNormFinal.main (F := Bits))) ⟨m, fun _ => 0, g⟩ (fun r => (∀ c : Dev Cert.KernelNormFinal.nD,
      r.2.mem ((c.tc : Thread Cert.KernelNormFinal.nD Cert.KernelNormFinal.τ).loc Cert.KernelNormFinal.main_arg0) = m ((c.tc : Thread Cert.KernelNormFinal.nD Cert.KernelNormFinal.τ).loc Cert.KernelNormFinal.main_arg0)
      ∧ r.2.mem ((c.tc : Thread Cert.KernelNormFinal.nD Cert.KernelNormFinal.τ).loc Cert.KernelNormFinal.main_arg1) = m ((c.tc : Thread Cert.KernelNormFinal.nD Cert.KernelNormFinal.τ).loc Cert.KernelNormFinal.main_arg1))
      ∧ r.2.sem = fun _ => 0)

def quiescent_KernelNormFinalIdeal [hKernelNormFinalIdeal : Cert.KernelNormFinalIdeal.Facts] : Prop :=
  ∀ (m : (ℓ : Loc Cert.KernelNormFinalIdeal.nD Cert.KernelNormFinalIdeal.τ Cert.KernelNormFinalIdeal.sig) → Buf (Elt Ideal) ℓ) (g : Dev Cert.KernelNormFinalIdeal.nD → PrngReg), Pre_KernelNormFinalIdeal m →
    θ_run (Cert.KernelNormFinalIdeal.defs (F := Ideal)) (onTc (τ := Cert.KernelNormFinalIdeal.τ) (Cert.KernelNormFinalIdeal.main (F := Ideal))) ⟨m, fun _ => 0, g⟩ (fun r => (∀ c : Dev Cert.KernelNormFinalIdeal.nD,
      r.2.mem ((c.tc : Thread Cert.KernelNormFinalIdeal.nD Cert.KernelNormFinalIdeal.τ).loc Cert.KernelNormFinalIdeal.main_arg0) = m ((c.tc : Thread Cert.KernelNormFinalIdeal.nD Cert.KernelNormFinalIdeal.τ).loc Cert.KernelNormFinalIdeal.main_arg0)
      ∧ r.2.mem ((c.tc : Thread Cert.KernelNormFinalIdeal.nD Cert.KernelNormFinalIdeal.τ).loc Cert.KernelNormFinalIdeal.main_arg1) = m ((c.tc : Thread Cert.KernelNormFinalIdeal.nD Cert.KernelNormFinalIdeal.τ).loc Cert.KernelNormFinalIdeal.main_arg1))
      ∧ r.2.sem = fun _ => 0)

def quiescent_ReferenceNormFinalIdeal [hReferenceNormFinalIdeal : Cert.ReferenceNormFinalIdeal.Facts] : Prop :=
  ∀ (m : (ℓ : Loc Cert.ReferenceNormFinalIdeal.nD Cert.ReferenceNormFinalIdeal.τ Cert.ReferenceNormFinalIdeal.sig) → Buf (Elt Ideal) ℓ) (g : Dev Cert.ReferenceNormFinalIdeal.nD → PrngReg), Pre_ReferenceNormFinalIdeal m →
    θ_run (Cert.ReferenceNormFinalIdeal.defs (F := Ideal)) (onTc (τ := Cert.ReferenceNormFinalIdeal.τ) (Cert.ReferenceNormFinalIdeal.main (F := Ideal))) ⟨m, fun _ => 0, g⟩ (fun r => (∀ c : Dev Cert.ReferenceNormFinalIdeal.nD,
      r.2.mem ((c.tc : Thread Cert.ReferenceNormFinalIdeal.nD Cert.ReferenceNormFinalIdeal.τ).loc Cert.ReferenceNormFinalIdeal.main_arg0) = m ((c.tc : Thread Cert.ReferenceNormFinalIdeal.nD Cert.ReferenceNormFinalIdeal.τ).loc Cert.ReferenceNormFinalIdeal.main_arg0)
      ∧ r.2.mem ((c.tc : Thread Cert.ReferenceNormFinalIdeal.nD Cert.ReferenceNormFinalIdeal.τ).loc Cert.ReferenceNormFinalIdeal.main_arg1) = m ((c.tc : Thread Cert.ReferenceNormFinalIdeal.nD Cert.ReferenceNormFinalIdeal.τ).loc Cert.ReferenceNormFinalIdeal.main_arg1))
      ∧ r.2.sem = fun _ => 0)

def quiescent_KernelPlain [hKernelPlain : Cert.KernelPlain.Facts] : Prop :=
  ∀ (m : (ℓ : Loc Cert.KernelPlain.nD Cert.KernelPlain.τ Cert.KernelPlain.sig) → Buf (Elt Bits) ℓ) (g : Dev Cert.KernelPlain.nD → PrngReg), Pre_KernelPlain m →
    θ_run (Cert.KernelPlain.defs (F := Bits)) (onTc (τ := Cert.KernelPlain.τ) (Cert.KernelPlain.main (F := Bits))) ⟨m, fun _ => 0, g⟩ (fun r => (∀ c : Dev Cert.KernelPlain.nD,
      r.2.mem ((c.tc : Thread Cert.KernelPlain.nD Cert.KernelPlain.τ).loc Cert.KernelPlain.main_arg0) = m ((c.tc : Thread Cert.KernelPlain.nD Cert.KernelPlain.τ).loc Cert.KernelPlain.main_arg0)
      ∧ r.2.mem ((c.tc : Thread Cert.KernelPlain.nD Cert.KernelPlain.τ).loc Cert.KernelPlain.main_arg1) = m ((c.tc : Thread Cert.KernelPlain.nD Cert.KernelPlain.τ).loc Cert.KernelPlain.main_arg1))
      ∧ r.2.sem = fun _ => 0)

def quiescent_KernelPlainIdeal [hKernelPlainIdeal : Cert.KernelPlainIdeal.Facts] : Prop :=
  ∀ (m : (ℓ : Loc Cert.KernelPlainIdeal.nD Cert.KernelPlainIdeal.τ Cert.KernelPlainIdeal.sig) → Buf (Elt Ideal) ℓ) (g : Dev Cert.KernelPlainIdeal.nD → PrngReg), Pre_KernelPlainIdeal m →
    θ_run (Cert.KernelPlainIdeal.defs (F := Ideal)) (onTc (τ := Cert.KernelPlainIdeal.τ) (Cert.KernelPlainIdeal.main (F := Ideal))) ⟨m, fun _ => 0, g⟩ (fun r => (∀ c : Dev Cert.KernelPlainIdeal.nD,
      r.2.mem ((c.tc : Thread Cert.KernelPlainIdeal.nD Cert.KernelPlainIdeal.τ).loc Cert.KernelPlainIdeal.main_arg0) = m ((c.tc : Thread Cert.KernelPlainIdeal.nD Cert.KernelPlainIdeal.τ).loc Cert.KernelPlainIdeal.main_arg0)
      ∧ r.2.mem ((c.tc : Thread Cert.KernelPlainIdeal.nD Cert.KernelPlainIdeal.τ).loc Cert.KernelPlainIdeal.main_arg1) = m ((c.tc : Thread Cert.KernelPlainIdeal.nD Cert.KernelPlainIdeal.τ).loc Cert.KernelPlainIdeal.main_arg1))
      ∧ r.2.sem = fun _ => 0)

def quiescent_ReferencePlainIdeal [hReferencePlainIdeal : Cert.ReferencePlainIdeal.Facts] : Prop :=
  ∀ (m : (ℓ : Loc Cert.ReferencePlainIdeal.nD Cert.ReferencePlainIdeal.τ Cert.ReferencePlainIdeal.sig) → Buf (Elt Ideal) ℓ) (g : Dev Cert.ReferencePlainIdeal.nD → PrngReg), Pre_ReferencePlainIdeal m →
    θ_run (Cert.ReferencePlainIdeal.defs (F := Ideal)) (onTc (τ := Cert.ReferencePlainIdeal.τ) (Cert.ReferencePlainIdeal.main (F := Ideal))) ⟨m, fun _ => 0, g⟩ (fun r => (∀ c : Dev Cert.ReferencePlainIdeal.nD,
      r.2.mem ((c.tc : Thread Cert.ReferencePlainIdeal.nD Cert.ReferencePlainIdeal.τ).loc Cert.ReferencePlainIdeal.main_arg0) = m ((c.tc : Thread Cert.ReferencePlainIdeal.nD Cert.ReferencePlainIdeal.τ).loc Cert.ReferencePlainIdeal.main_arg0)
      ∧ r.2.mem ((c.tc : Thread Cert.ReferencePlainIdeal.nD Cert.ReferencePlainIdeal.τ).loc Cert.ReferencePlainIdeal.main_arg1) = m ((c.tc : Thread Cert.ReferencePlainIdeal.nD Cert.ReferencePlainIdeal.τ).loc Cert.ReferencePlainIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelRope [hKernelRope : Cert.KernelRope.Facts] : Prop :=
  ∀ (m : (ℓ : Loc Cert.KernelRope.nD Cert.KernelRope.τ Cert.KernelRope.sig) → Buf (Elt Bits) ℓ) (g : Dev Cert.KernelRope.nD → PrngReg), Pre_KernelRope m →
    θ_run (Cert.KernelRope.defs (F := Bits)) (onTc (τ := Cert.KernelRope.τ) (Cert.KernelRope.main (F := Bits))) ⟨m, fun _ => 0, g⟩ (fun r => (∀ c : Dev Cert.KernelRope.nD,
      r.2.mem ((c.tc : Thread Cert.KernelRope.nD Cert.KernelRope.τ).loc Cert.KernelRope.main_arg0) = m ((c.tc : Thread Cert.KernelRope.nD Cert.KernelRope.τ).loc Cert.KernelRope.main_arg0)
      ∧ r.2.mem ((c.tc : Thread Cert.KernelRope.nD Cert.KernelRope.τ).loc Cert.KernelRope.main_arg1) = m ((c.tc : Thread Cert.KernelRope.nD Cert.KernelRope.τ).loc Cert.KernelRope.main_arg1))
      ∧ r.2.sem = fun _ => 0)

def quiescent_KernelRopeIdeal [hKernelRopeIdeal : Cert.KernelRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg), Pre_KernelRopeIdeal m →
    θ_run (Cert.KernelRopeIdeal.defs (F := Ideal)) (onTc (τ := Cert.KernelRopeIdeal.τ) (Cert.KernelRopeIdeal.main (F := Ideal))) ⟨m, fun _ => 0, g⟩ (fun r => (∀ c : Dev Cert.KernelRopeIdeal.nD,
      r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
      ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ r.2.sem = fun _ => 0)

def quiescent_ReferenceRopeIdeal [hReferenceRopeIdeal : Cert.ReferenceRopeIdeal.Facts] : Prop :=
  ∀ (m : (ℓ : Loc Cert.ReferenceRopeIdeal.nD Cert.ReferenceRopeIdeal.τ Cert.ReferenceRopeIdeal.sig) → Buf (Elt Ideal) ℓ) (g : Dev Cert.ReferenceRopeIdeal.nD → PrngReg), Pre_ReferenceRopeIdeal m →
    θ_run (Cert.ReferenceRopeIdeal.defs (F := Ideal)) (onTc (τ := Cert.ReferenceRopeIdeal.τ) (Cert.ReferenceRopeIdeal.main (F := Ideal))) ⟨m, fun _ => 0, g⟩ (fun r => (∀ c : Dev Cert.ReferenceRopeIdeal.nD,
      r.2.mem ((c.tc : Thread Cert.ReferenceRopeIdeal.nD Cert.ReferenceRopeIdeal.τ).loc Cert.ReferenceRopeIdeal.main_arg0) = m ((c.tc : Thread Cert.ReferenceRopeIdeal.nD Cert.ReferenceRopeIdeal.τ).loc Cert.ReferenceRopeIdeal.main_arg0)
      ∧ r.2.mem ((c.tc : Thread Cert.ReferenceRopeIdeal.nD Cert.ReferenceRopeIdeal.τ).loc Cert.ReferenceRopeIdeal.main_arg1) = m ((c.tc : Thread Cert.ReferenceRopeIdeal.nD Cert.ReferenceRopeIdeal.τ).loc Cert.ReferenceRopeIdeal.main_arg1))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelCmpK [hKernelCmpK : Cert.KernelCmpK.Facts] : Prop :=
  ∀ (m : (ℓ : Loc Cert.KernelCmpK.nD Cert.KernelCmpK.τ Cert.KernelCmpK.sig) → Buf (Elt Bits) ℓ) (g : Dev Cert.KernelCmpK.nD → PrngReg), Pre_KernelCmpK m →
    θ_run (Cert.KernelCmpK.defs (F := Bits)) (onTc (τ := Cert.KernelCmpK.τ) (Cert.KernelCmpK.main (F := Bits))) ⟨m, fun _ => 0, g⟩ (fun r => (∀ c : Dev Cert.KernelCmpK.nD,
      r.2.mem ((c.tc : Thread Cert.KernelCmpK.nD Cert.KernelCmpK.τ).loc Cert.KernelCmpK.main_arg0) = m ((c.tc : Thread Cert.KernelCmpK.nD Cert.KernelCmpK.τ).loc Cert.KernelCmpK.main_arg0)
      ∧ r.2.mem ((c.tc : Thread Cert.KernelCmpK.nD Cert.KernelCmpK.τ).loc Cert.KernelCmpK.main_arg1) = m ((c.tc : Thread Cert.KernelCmpK.nD Cert.KernelCmpK.τ).loc Cert.KernelCmpK.main_arg1)
      ∧ r.2.mem ((c.tc : Thread Cert.KernelCmpK.nD Cert.KernelCmpK.τ).loc Cert.KernelCmpK.main_arg2) = m ((c.tc : Thread Cert.KernelCmpK.nD Cert.KernelCmpK.τ).loc Cert.KernelCmpK.main_arg2)
      ∧ r.2.mem ((c.tc : Thread Cert.KernelCmpK.nD Cert.KernelCmpK.τ).loc Cert.KernelCmpK.main_arg3) = m ((c.tc : Thread Cert.KernelCmpK.nD Cert.KernelCmpK.τ).loc Cert.KernelCmpK.main_arg3))
      ∧ r.2.sem = fun _ => 0)

def quiescent_KernelCmpKIdeal [hKernelCmpKIdeal : Cert.KernelCmpKIdeal.Facts] : Prop :=
  ∀ (m : (ℓ : Loc Cert.KernelCmpKIdeal.nD Cert.KernelCmpKIdeal.τ Cert.KernelCmpKIdeal.sig) → Buf (Elt Ideal) ℓ) (g : Dev Cert.KernelCmpKIdeal.nD → PrngReg), Pre_KernelCmpKIdeal m →
    θ_run (Cert.KernelCmpKIdeal.defs (F := Ideal)) (onTc (τ := Cert.KernelCmpKIdeal.τ) (Cert.KernelCmpKIdeal.main (F := Ideal))) ⟨m, fun _ => 0, g⟩ (fun r => (∀ c : Dev Cert.KernelCmpKIdeal.nD,
      r.2.mem ((c.tc : Thread Cert.KernelCmpKIdeal.nD Cert.KernelCmpKIdeal.τ).loc Cert.KernelCmpKIdeal.main_arg0) = m ((c.tc : Thread Cert.KernelCmpKIdeal.nD Cert.KernelCmpKIdeal.τ).loc Cert.KernelCmpKIdeal.main_arg0)
      ∧ r.2.mem ((c.tc : Thread Cert.KernelCmpKIdeal.nD Cert.KernelCmpKIdeal.τ).loc Cert.KernelCmpKIdeal.main_arg1) = m ((c.tc : Thread Cert.KernelCmpKIdeal.nD Cert.KernelCmpKIdeal.τ).loc Cert.KernelCmpKIdeal.main_arg1)
      ∧ r.2.mem ((c.tc : Thread Cert.KernelCmpKIdeal.nD Cert.KernelCmpKIdeal.τ).loc Cert.KernelCmpKIdeal.main_arg2) = m ((c.tc : Thread Cert.KernelCmpKIdeal.nD Cert.KernelCmpKIdeal.τ).loc Cert.KernelCmpKIdeal.main_arg2)
      ∧ r.2.mem ((c.tc : Thread Cert.KernelCmpKIdeal.nD Cert.KernelCmpKIdeal.τ).loc Cert.KernelCmpKIdeal.main_arg3) = m ((c.tc : Thread Cert.KernelCmpKIdeal.nD Cert.KernelCmpKIdeal.τ).loc Cert.KernelCmpKIdeal.main_arg3))
      ∧ r.2.sem = fun _ => 0)

def quiescent_ReferenceCmpKIdeal [hReferenceCmpKIdeal : Cert.ReferenceCmpKIdeal.Facts] : Prop :=
  ∀ (m : (ℓ : Loc Cert.ReferenceCmpKIdeal.nD Cert.ReferenceCmpKIdeal.τ Cert.ReferenceCmpKIdeal.sig) → Buf (Elt Ideal) ℓ) (g : Dev Cert.ReferenceCmpKIdeal.nD → PrngReg), Pre_ReferenceCmpKIdeal m →
    θ_run (Cert.ReferenceCmpKIdeal.defs (F := Ideal)) (onTc (τ := Cert.ReferenceCmpKIdeal.τ) (Cert.ReferenceCmpKIdeal.main (F := Ideal))) ⟨m, fun _ => 0, g⟩ (fun r => (∀ c : Dev Cert.ReferenceCmpKIdeal.nD,
      r.2.mem ((c.tc : Thread Cert.ReferenceCmpKIdeal.nD Cert.ReferenceCmpKIdeal.τ).loc Cert.ReferenceCmpKIdeal.main_arg0) = m ((c.tc : Thread Cert.ReferenceCmpKIdeal.nD Cert.ReferenceCmpKIdeal.τ).loc Cert.ReferenceCmpKIdeal.main_arg0)
      ∧ r.2.mem ((c.tc : Thread Cert.ReferenceCmpKIdeal.nD Cert.ReferenceCmpKIdeal.τ).loc Cert.ReferenceCmpKIdeal.main_arg1) = m ((c.tc : Thread Cert.ReferenceCmpKIdeal.nD Cert.ReferenceCmpKIdeal.τ).loc Cert.ReferenceCmpKIdeal.main_arg1)
      ∧ r.2.mem ((c.tc : Thread Cert.ReferenceCmpKIdeal.nD Cert.ReferenceCmpKIdeal.τ).loc Cert.ReferenceCmpKIdeal.main_arg2) = m ((c.tc : Thread Cert.ReferenceCmpKIdeal.nD Cert.ReferenceCmpKIdeal.τ).loc Cert.ReferenceCmpKIdeal.main_arg2)
      ∧ r.2.mem ((c.tc : Thread Cert.ReferenceCmpKIdeal.nD Cert.ReferenceCmpKIdeal.τ).loc Cert.ReferenceCmpKIdeal.main_arg3) = m ((c.tc : Thread Cert.ReferenceCmpKIdeal.nD Cert.ReferenceCmpKIdeal.τ).loc Cert.ReferenceCmpKIdeal.main_arg3))
      ∧ r.2.sem = fun _ => 0)

def quiescent_KernelCmpV [hKernelCmpV : Cert.KernelCmpV.Facts] : Prop :=
  ∀ (m : (ℓ : Loc Cert.KernelCmpV.nD Cert.KernelCmpV.τ Cert.KernelCmpV.sig) → Buf (Elt Bits) ℓ) (g : Dev Cert.KernelCmpV.nD → PrngReg), Pre_KernelCmpV m →
    θ_run (Cert.KernelCmpV.defs (F := Bits)) (onTc (τ := Cert.KernelCmpV.τ) (Cert.KernelCmpV.main (F := Bits))) ⟨m, fun _ => 0, g⟩ (fun r => (∀ c : Dev Cert.KernelCmpV.nD,
      r.2.mem ((c.tc : Thread Cert.KernelCmpV.nD Cert.KernelCmpV.τ).loc Cert.KernelCmpV.main_arg0) = m ((c.tc : Thread Cert.KernelCmpV.nD Cert.KernelCmpV.τ).loc Cert.KernelCmpV.main_arg0)
      ∧ r.2.mem ((c.tc : Thread Cert.KernelCmpV.nD Cert.KernelCmpV.τ).loc Cert.KernelCmpV.main_arg1) = m ((c.tc : Thread Cert.KernelCmpV.nD Cert.KernelCmpV.τ).loc Cert.KernelCmpV.main_arg1)
      ∧ r.2.mem ((c.tc : Thread Cert.KernelCmpV.nD Cert.KernelCmpV.τ).loc Cert.KernelCmpV.main_arg2) = m ((c.tc : Thread Cert.KernelCmpV.nD Cert.KernelCmpV.τ).loc Cert.KernelCmpV.main_arg2)
      ∧ r.2.mem ((c.tc : Thread Cert.KernelCmpV.nD Cert.KernelCmpV.τ).loc Cert.KernelCmpV.main_arg3) = m ((c.tc : Thread Cert.KernelCmpV.nD Cert.KernelCmpV.τ).loc Cert.KernelCmpV.main_arg3))
      ∧ r.2.sem = fun _ => 0)

def quiescent_KernelCmpVIdeal [hKernelCmpVIdeal : Cert.KernelCmpVIdeal.Facts] : Prop :=
  ∀ (m : (ℓ : Loc Cert.KernelCmpVIdeal.nD Cert.KernelCmpVIdeal.τ Cert.KernelCmpVIdeal.sig) → Buf (Elt Ideal) ℓ) (g : Dev Cert.KernelCmpVIdeal.nD → PrngReg), Pre_KernelCmpVIdeal m →
    θ_run (Cert.KernelCmpVIdeal.defs (F := Ideal)) (onTc (τ := Cert.KernelCmpVIdeal.τ) (Cert.KernelCmpVIdeal.main (F := Ideal))) ⟨m, fun _ => 0, g⟩ (fun r => (∀ c : Dev Cert.KernelCmpVIdeal.nD,
      r.2.mem ((c.tc : Thread Cert.KernelCmpVIdeal.nD Cert.KernelCmpVIdeal.τ).loc Cert.KernelCmpVIdeal.main_arg0) = m ((c.tc : Thread Cert.KernelCmpVIdeal.nD Cert.KernelCmpVIdeal.τ).loc Cert.KernelCmpVIdeal.main_arg0)
      ∧ r.2.mem ((c.tc : Thread Cert.KernelCmpVIdeal.nD Cert.KernelCmpVIdeal.τ).loc Cert.KernelCmpVIdeal.main_arg1) = m ((c.tc : Thread Cert.KernelCmpVIdeal.nD Cert.KernelCmpVIdeal.τ).loc Cert.KernelCmpVIdeal.main_arg1)
      ∧ r.2.mem ((c.tc : Thread Cert.KernelCmpVIdeal.nD Cert.KernelCmpVIdeal.τ).loc Cert.KernelCmpVIdeal.main_arg2) = m ((c.tc : Thread Cert.KernelCmpVIdeal.nD Cert.KernelCmpVIdeal.τ).loc Cert.KernelCmpVIdeal.main_arg2)
      ∧ r.2.mem ((c.tc : Thread Cert.KernelCmpVIdeal.nD Cert.KernelCmpVIdeal.τ).loc Cert.KernelCmpVIdeal.main_arg3) = m ((c.tc : Thread Cert.KernelCmpVIdeal.nD Cert.KernelCmpVIdeal.τ).loc Cert.KernelCmpVIdeal.main_arg3))
      ∧ r.2.sem = fun _ => 0)

def quiescent_ReferenceCmpVIdeal [hReferenceCmpVIdeal : Cert.ReferenceCmpVIdeal.Facts] : Prop :=
  ∀ (m : (ℓ : Loc Cert.ReferenceCmpVIdeal.nD Cert.ReferenceCmpVIdeal.τ Cert.ReferenceCmpVIdeal.sig) → Buf (Elt Ideal) ℓ) (g : Dev Cert.ReferenceCmpVIdeal.nD → PrngReg), Pre_ReferenceCmpVIdeal m →
    θ_run (Cert.ReferenceCmpVIdeal.defs (F := Ideal)) (onTc (τ := Cert.ReferenceCmpVIdeal.τ) (Cert.ReferenceCmpVIdeal.main (F := Ideal))) ⟨m, fun _ => 0, g⟩ (fun r => (∀ c : Dev Cert.ReferenceCmpVIdeal.nD,
      r.2.mem ((c.tc : Thread Cert.ReferenceCmpVIdeal.nD Cert.ReferenceCmpVIdeal.τ).loc Cert.ReferenceCmpVIdeal.main_arg0) = m ((c.tc : Thread Cert.ReferenceCmpVIdeal.nD Cert.ReferenceCmpVIdeal.τ).loc Cert.ReferenceCmpVIdeal.main_arg0)
      ∧ r.2.mem ((c.tc : Thread Cert.ReferenceCmpVIdeal.nD Cert.ReferenceCmpVIdeal.τ).loc Cert.ReferenceCmpVIdeal.main_arg1) = m ((c.tc : Thread Cert.ReferenceCmpVIdeal.nD Cert.ReferenceCmpVIdeal.τ).loc Cert.ReferenceCmpVIdeal.main_arg1)
      ∧ r.2.mem ((c.tc : Thread Cert.ReferenceCmpVIdeal.nD Cert.ReferenceCmpVIdeal.τ).loc Cert.ReferenceCmpVIdeal.main_arg2) = m ((c.tc : Thread Cert.ReferenceCmpVIdeal.nD Cert.ReferenceCmpVIdeal.τ).loc Cert.ReferenceCmpVIdeal.main_arg2)
      ∧ r.2.mem ((c.tc : Thread Cert.ReferenceCmpVIdeal.nD Cert.ReferenceCmpVIdeal.τ).loc Cert.ReferenceCmpVIdeal.main_arg3) = m ((c.tc : Thread Cert.ReferenceCmpVIdeal.nD Cert.ReferenceCmpVIdeal.τ).loc Cert.ReferenceCmpVIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelNormMix_KernelNormMixIdeal : Prop :=
  True

def algebraic_KernelNormMixIdeal_ReferenceNormMixIdeal [hKernelNormMixIdeal : Cert.KernelNormMixIdeal.Facts] [hReferenceNormMixIdeal : Cert.ReferenceNormMixIdeal.Facts] : Prop :=
  ∀ (m : (ℓ : Loc Cert.KernelNormMixIdeal.nD Cert.KernelNormMixIdeal.τ Cert.KernelNormMixIdeal.sig) → Buf (Elt Ideal) ℓ) (g : Dev Cert.KernelNormMixIdeal.nD → PrngReg)
    (m' : (ℓ : Loc Cert.ReferenceNormMixIdeal.nD Cert.ReferenceNormMixIdeal.τ Cert.ReferenceNormMixIdeal.sig) → Buf (Elt Ideal) ℓ) (g' : Dev Cert.ReferenceNormMixIdeal.nD → PrngReg), Pre_KernelNormMixIdeal m →
    (∀ c : Dev Cert.KernelNormMixIdeal.nD,
      m' ((c.tc : Thread Cert.ReferenceNormMixIdeal.nD Cert.ReferenceNormMixIdeal.τ).loc Cert.ReferenceNormMixIdeal.main_arg0) = m ((c.tc : Thread Cert.KernelNormMixIdeal.nD Cert.KernelNormMixIdeal.τ).loc Cert.KernelNormMixIdeal.main_arg0)
      ∧ m' ((c.tc : Thread Cert.ReferenceNormMixIdeal.nD Cert.ReferenceNormMixIdeal.τ).loc Cert.ReferenceNormMixIdeal.main_arg1) = m ((c.tc : Thread Cert.KernelNormMixIdeal.nD Cert.KernelNormMixIdeal.τ).loc Cert.KernelNormMixIdeal.main_arg1)) →
    ∃ (v0 : (c : Dev Cert.KernelNormMixIdeal.nD) → Buf (Elt Ideal) ((c.tc : Thread Cert.KernelNormMixIdeal.nD Cert.KernelNormMixIdeal.τ).loc Cert.KernelNormMixIdeal.main_v2)),
      θ_run (Cert.KernelNormMixIdeal.defs (F := Ideal)) (onTc (τ := Cert.KernelNormMixIdeal.τ) (Cert.KernelNormMixIdeal.main (F := Ideal))) ⟨m, fun _ => 0, g⟩ (fun r => ∀ c : Dev Cert.KernelNormMixIdeal.nD,
          r.2.mem ((c.tc : Thread Cert.KernelNormMixIdeal.nD Cert.KernelNormMixIdeal.τ).loc Cert.KernelNormMixIdeal.main_v2) = v0 c
          ∧ r.2.mem ((c.tc : Thread Cert.KernelNormMixIdeal.nD Cert.KernelNormMixIdeal.τ).loc Cert.KernelNormMixIdeal.main_arg0) = m ((c.tc : Thread Cert.KernelNormMixIdeal.nD Cert.KernelNormMixIdeal.τ).loc Cert.KernelNormMixIdeal.main_arg0)
          ∧ r.2.mem ((c.tc : Thread Cert.KernelNormMixIdeal.nD Cert.KernelNormMixIdeal.τ).loc Cert.KernelNormMixIdeal.main_arg1) = m ((c.tc : Thread Cert.KernelNormMixIdeal.nD Cert.KernelNormMixIdeal.τ).loc Cert.KernelNormMixIdeal.main_arg1))
      ∧ θ_run (Cert.ReferenceNormMixIdeal.defs (F := Ideal)) (onTc (τ := Cert.ReferenceNormMixIdeal.τ) (Cert.ReferenceNormMixIdeal.main (F := Ideal))) ⟨m', fun _ => 0, g'⟩ (fun r => ∀ c : Dev Cert.ReferenceNormMixIdeal.nD,
          r.2.mem ((c.tc : Thread Cert.ReferenceNormMixIdeal.nD Cert.ReferenceNormMixIdeal.τ).loc Cert.ReferenceNormMixIdeal.main_v14) = v0 c
          ∧ r.2.mem ((c.tc : Thread Cert.ReferenceNormMixIdeal.nD Cert.ReferenceNormMixIdeal.τ).loc Cert.ReferenceNormMixIdeal.main_arg0) = m' ((c.tc : Thread Cert.ReferenceNormMixIdeal.nD Cert.ReferenceNormMixIdeal.τ).loc Cert.ReferenceNormMixIdeal.main_arg0)
          ∧ r.2.mem ((c.tc : Thread Cert.ReferenceNormMixIdeal.nD Cert.ReferenceNormMixIdeal.τ).loc Cert.ReferenceNormMixIdeal.main_arg1) = m' ((c.tc : Thread Cert.ReferenceNormMixIdeal.nD Cert.ReferenceNormMixIdeal.τ).loc Cert.ReferenceNormMixIdeal.main_arg1))

def preserves_KernelNormFfn_KernelNormFfnIdeal : Prop :=
  True

def algebraic_KernelNormFfnIdeal_ReferenceNormFfnIdeal [hKernelNormFfnIdeal : Cert.KernelNormFfnIdeal.Facts] [hReferenceNormFfnIdeal : Cert.ReferenceNormFfnIdeal.Facts] : Prop :=
  ∀ (m : (ℓ : Loc Cert.KernelNormFfnIdeal.nD Cert.KernelNormFfnIdeal.τ Cert.KernelNormFfnIdeal.sig) → Buf (Elt Ideal) ℓ) (g : Dev Cert.KernelNormFfnIdeal.nD → PrngReg)
    (m' : (ℓ : Loc Cert.ReferenceNormFfnIdeal.nD Cert.ReferenceNormFfnIdeal.τ Cert.ReferenceNormFfnIdeal.sig) → Buf (Elt Ideal) ℓ) (g' : Dev Cert.ReferenceNormFfnIdeal.nD → PrngReg), Pre_KernelNormFfnIdeal m →
    (∀ c : Dev Cert.KernelNormFfnIdeal.nD,
      m' ((c.tc : Thread Cert.ReferenceNormFfnIdeal.nD Cert.ReferenceNormFfnIdeal.τ).loc Cert.ReferenceNormFfnIdeal.main_arg0) = m ((c.tc : Thread Cert.KernelNormFfnIdeal.nD Cert.KernelNormFfnIdeal.τ).loc Cert.KernelNormFfnIdeal.main_arg0)
      ∧ m' ((c.tc : Thread Cert.ReferenceNormFfnIdeal.nD Cert.ReferenceNormFfnIdeal.τ).loc Cert.ReferenceNormFfnIdeal.main_arg1) = m ((c.tc : Thread Cert.KernelNormFfnIdeal.nD Cert.KernelNormFfnIdeal.τ).loc Cert.KernelNormFfnIdeal.main_arg1)) →
    ∃ (v0 : (c : Dev Cert.KernelNormFfnIdeal.nD) → Buf (Elt Ideal) ((c.tc : Thread Cert.KernelNormFfnIdeal.nD Cert.KernelNormFfnIdeal.τ).loc Cert.KernelNormFfnIdeal.main_v2_0)) (v1 : (c : Dev Cert.KernelNormFfnIdeal.nD) → Buf (Elt Ideal) ((c.tc : Thread Cert.KernelNormFfnIdeal.nD Cert.KernelNormFfnIdeal.τ).loc Cert.KernelNormFfnIdeal.main_v2_1)),
      θ_run (Cert.KernelNormFfnIdeal.defs (F := Ideal)) (onTc (τ := Cert.KernelNormFfnIdeal.τ) (Cert.KernelNormFfnIdeal.main (F := Ideal))) ⟨m, fun _ => 0, g⟩ (fun r => ∀ c : Dev Cert.KernelNormFfnIdeal.nD,
          r.2.mem ((c.tc : Thread Cert.KernelNormFfnIdeal.nD Cert.KernelNormFfnIdeal.τ).loc Cert.KernelNormFfnIdeal.main_v2_0) = v0 c
          ∧ r.2.mem ((c.tc : Thread Cert.KernelNormFfnIdeal.nD Cert.KernelNormFfnIdeal.τ).loc Cert.KernelNormFfnIdeal.main_v2_1) = v1 c
          ∧ r.2.mem ((c.tc : Thread Cert.KernelNormFfnIdeal.nD Cert.KernelNormFfnIdeal.τ).loc Cert.KernelNormFfnIdeal.main_arg0) = m ((c.tc : Thread Cert.KernelNormFfnIdeal.nD Cert.KernelNormFfnIdeal.τ).loc Cert.KernelNormFfnIdeal.main_arg0)
          ∧ r.2.mem ((c.tc : Thread Cert.KernelNormFfnIdeal.nD Cert.KernelNormFfnIdeal.τ).loc Cert.KernelNormFfnIdeal.main_arg1) = m ((c.tc : Thread Cert.KernelNormFfnIdeal.nD Cert.KernelNormFfnIdeal.τ).loc Cert.KernelNormFfnIdeal.main_arg1))
      ∧ θ_run (Cert.ReferenceNormFfnIdeal.defs (F := Ideal)) (onTc (τ := Cert.ReferenceNormFfnIdeal.τ) (Cert.ReferenceNormFfnIdeal.main (F := Ideal))) ⟨m', fun _ => 0, g'⟩ (fun r => ∀ c : Dev Cert.ReferenceNormFfnIdeal.nD,
          r.2.mem ((c.tc : Thread Cert.ReferenceNormFfnIdeal.nD Cert.ReferenceNormFfnIdeal.τ).loc Cert.ReferenceNormFfnIdeal.main_v14) = v0 c
          ∧ r.2.mem ((c.tc : Thread Cert.ReferenceNormFfnIdeal.nD Cert.ReferenceNormFfnIdeal.τ).loc Cert.ReferenceNormFfnIdeal.main_v13) = v1 c
          ∧ r.2.mem ((c.tc : Thread Cert.ReferenceNormFfnIdeal.nD Cert.ReferenceNormFfnIdeal.τ).loc Cert.ReferenceNormFfnIdeal.main_arg0) = m' ((c.tc : Thread Cert.ReferenceNormFfnIdeal.nD Cert.ReferenceNormFfnIdeal.τ).loc Cert.ReferenceNormFfnIdeal.main_arg0)
          ∧ r.2.mem ((c.tc : Thread Cert.ReferenceNormFfnIdeal.nD Cert.ReferenceNormFfnIdeal.τ).loc Cert.ReferenceNormFfnIdeal.main_arg1) = m' ((c.tc : Thread Cert.ReferenceNormFfnIdeal.nD Cert.ReferenceNormFfnIdeal.τ).loc Cert.ReferenceNormFfnIdeal.main_arg1))

def preserves_KernelNormFinal_KernelNormFinalIdeal : Prop :=
  True

def algebraic_KernelNormFinalIdeal_ReferenceNormFinalIdeal [hKernelNormFinalIdeal : Cert.KernelNormFinalIdeal.Facts] [hReferenceNormFinalIdeal : Cert.ReferenceNormFinalIdeal.Facts] : Prop :=
  ∀ (m : (ℓ : Loc Cert.KernelNormFinalIdeal.nD Cert.KernelNormFinalIdeal.τ Cert.KernelNormFinalIdeal.sig) → Buf (Elt Ideal) ℓ) (g : Dev Cert.KernelNormFinalIdeal.nD → PrngReg)
    (m' : (ℓ : Loc Cert.ReferenceNormFinalIdeal.nD Cert.ReferenceNormFinalIdeal.τ Cert.ReferenceNormFinalIdeal.sig) → Buf (Elt Ideal) ℓ) (g' : Dev Cert.ReferenceNormFinalIdeal.nD → PrngReg), Pre_KernelNormFinalIdeal m →
    (∀ c : Dev Cert.KernelNormFinalIdeal.nD,
      m' ((c.tc : Thread Cert.ReferenceNormFinalIdeal.nD Cert.ReferenceNormFinalIdeal.τ).loc Cert.ReferenceNormFinalIdeal.main_arg0) = m ((c.tc : Thread Cert.KernelNormFinalIdeal.nD Cert.KernelNormFinalIdeal.τ).loc Cert.KernelNormFinalIdeal.main_arg0)
      ∧ m' ((c.tc : Thread Cert.ReferenceNormFinalIdeal.nD Cert.ReferenceNormFinalIdeal.τ).loc Cert.ReferenceNormFinalIdeal.main_arg1) = m ((c.tc : Thread Cert.KernelNormFinalIdeal.nD Cert.KernelNormFinalIdeal.τ).loc Cert.KernelNormFinalIdeal.main_arg1)) →
    ∃ (v0 : (c : Dev Cert.KernelNormFinalIdeal.nD) → Buf (Elt Ideal) ((c.tc : Thread Cert.KernelNormFinalIdeal.nD Cert.KernelNormFinalIdeal.τ).loc Cert.KernelNormFinalIdeal.main_v2)),
      θ_run (Cert.KernelNormFinalIdeal.defs (F := Ideal)) (onTc (τ := Cert.KernelNormFinalIdeal.τ) (Cert.KernelNormFinalIdeal.main (F := Ideal))) ⟨m, fun _ => 0, g⟩ (fun r => ∀ c : Dev Cert.KernelNormFinalIdeal.nD,
          r.2.mem ((c.tc : Thread Cert.KernelNormFinalIdeal.nD Cert.KernelNormFinalIdeal.τ).loc Cert.KernelNormFinalIdeal.main_v2) = v0 c
          ∧ r.2.mem ((c.tc : Thread Cert.KernelNormFinalIdeal.nD Cert.KernelNormFinalIdeal.τ).loc Cert.KernelNormFinalIdeal.main_arg0) = m ((c.tc : Thread Cert.KernelNormFinalIdeal.nD Cert.KernelNormFinalIdeal.τ).loc Cert.KernelNormFinalIdeal.main_arg0)
          ∧ r.2.mem ((c.tc : Thread Cert.KernelNormFinalIdeal.nD Cert.KernelNormFinalIdeal.τ).loc Cert.KernelNormFinalIdeal.main_arg1) = m ((c.tc : Thread Cert.KernelNormFinalIdeal.nD Cert.KernelNormFinalIdeal.τ).loc Cert.KernelNormFinalIdeal.main_arg1))
      ∧ θ_run (Cert.ReferenceNormFinalIdeal.defs (F := Ideal)) (onTc (τ := Cert.ReferenceNormFinalIdeal.τ) (Cert.ReferenceNormFinalIdeal.main (F := Ideal))) ⟨m', fun _ => 0, g'⟩ (fun r => ∀ c : Dev Cert.ReferenceNormFinalIdeal.nD,
          r.2.mem ((c.tc : Thread Cert.ReferenceNormFinalIdeal.nD Cert.ReferenceNormFinalIdeal.τ).loc Cert.ReferenceNormFinalIdeal.main_v13) = v0 c
          ∧ r.2.mem ((c.tc : Thread Cert.ReferenceNormFinalIdeal.nD Cert.ReferenceNormFinalIdeal.τ).loc Cert.ReferenceNormFinalIdeal.main_arg0) = m' ((c.tc : Thread Cert.ReferenceNormFinalIdeal.nD Cert.ReferenceNormFinalIdeal.τ).loc Cert.ReferenceNormFinalIdeal.main_arg0)
          ∧ r.2.mem ((c.tc : Thread Cert.ReferenceNormFinalIdeal.nD Cert.ReferenceNormFinalIdeal.τ).loc Cert.ReferenceNormFinalIdeal.main_arg1) = m' ((c.tc : Thread Cert.ReferenceNormFinalIdeal.nD Cert.ReferenceNormFinalIdeal.τ).loc Cert.ReferenceNormFinalIdeal.main_arg1))

def preserves_KernelPlain_KernelPlainIdeal : Prop :=
  True

def algebraic_KernelPlainIdeal_ReferencePlainIdeal [hKernelPlainIdeal : Cert.KernelPlainIdeal.Facts] [hReferencePlainIdeal : Cert.ReferencePlainIdeal.Facts] : Prop :=
  ∀ (m : (ℓ : Loc Cert.KernelPlainIdeal.nD Cert.KernelPlainIdeal.τ Cert.KernelPlainIdeal.sig) → Buf (Elt Ideal) ℓ) (g : Dev Cert.KernelPlainIdeal.nD → PrngReg)
    (m' : (ℓ : Loc Cert.ReferencePlainIdeal.nD Cert.ReferencePlainIdeal.τ Cert.ReferencePlainIdeal.sig) → Buf (Elt Ideal) ℓ) (g' : Dev Cert.ReferencePlainIdeal.nD → PrngReg), Pre_KernelPlainIdeal m →
    (∀ c : Dev Cert.KernelPlainIdeal.nD,
      m' ((c.tc : Thread Cert.ReferencePlainIdeal.nD Cert.ReferencePlainIdeal.τ).loc Cert.ReferencePlainIdeal.main_arg0) = m ((c.tc : Thread Cert.KernelPlainIdeal.nD Cert.KernelPlainIdeal.τ).loc Cert.KernelPlainIdeal.main_arg0)
      ∧ m' ((c.tc : Thread Cert.ReferencePlainIdeal.nD Cert.ReferencePlainIdeal.τ).loc Cert.ReferencePlainIdeal.main_arg1) = m ((c.tc : Thread Cert.KernelPlainIdeal.nD Cert.KernelPlainIdeal.τ).loc Cert.KernelPlainIdeal.main_arg1)) →
    ∃ (v0 : (c : Dev Cert.KernelPlainIdeal.nD) → Buf (Elt Ideal) ((c.tc : Thread Cert.KernelPlainIdeal.nD Cert.KernelPlainIdeal.τ).loc Cert.KernelPlainIdeal.main_v18)),
      θ_run (Cert.KernelPlainIdeal.defs (F := Ideal)) (onTc (τ := Cert.KernelPlainIdeal.τ) (Cert.KernelPlainIdeal.main (F := Ideal))) ⟨m, fun _ => 0, g⟩ (fun r => ∀ c : Dev Cert.KernelPlainIdeal.nD,
          r.2.mem ((c.tc : Thread Cert.KernelPlainIdeal.nD Cert.KernelPlainIdeal.τ).loc Cert.KernelPlainIdeal.main_v18) = v0 c
          ∧ r.2.mem ((c.tc : Thread Cert.KernelPlainIdeal.nD Cert.KernelPlainIdeal.τ).loc Cert.KernelPlainIdeal.main_arg0) = m ((c.tc : Thread Cert.KernelPlainIdeal.nD Cert.KernelPlainIdeal.τ).loc Cert.KernelPlainIdeal.main_arg0)
          ∧ r.2.mem ((c.tc : Thread Cert.KernelPlainIdeal.nD Cert.KernelPlainIdeal.τ).loc Cert.KernelPlainIdeal.main_arg1) = m ((c.tc : Thread Cert.KernelPlainIdeal.nD Cert.KernelPlainIdeal.τ).loc Cert.KernelPlainIdeal.main_arg1))
      ∧ θ_run (Cert.ReferencePlainIdeal.defs (F := Ideal)) (onTc (τ := Cert.ReferencePlainIdeal.τ) (Cert.ReferencePlainIdeal.main (F := Ideal))) ⟨m', fun _ => 0, g'⟩ (fun r => ∀ c : Dev Cert.ReferencePlainIdeal.nD,
          r.2.mem ((c.tc : Thread Cert.ReferencePlainIdeal.nD Cert.ReferencePlainIdeal.τ).loc Cert.ReferencePlainIdeal.main_v19) = v0 c
          ∧ r.2.mem ((c.tc : Thread Cert.ReferencePlainIdeal.nD Cert.ReferencePlainIdeal.τ).loc Cert.ReferencePlainIdeal.main_arg0) = m' ((c.tc : Thread Cert.ReferencePlainIdeal.nD Cert.ReferencePlainIdeal.τ).loc Cert.ReferencePlainIdeal.main_arg0)
          ∧ r.2.mem ((c.tc : Thread Cert.ReferencePlainIdeal.nD Cert.ReferencePlainIdeal.τ).loc Cert.ReferencePlainIdeal.main_arg1) = m' ((c.tc : Thread Cert.ReferencePlainIdeal.nD Cert.ReferencePlainIdeal.τ).loc Cert.ReferencePlainIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v19)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v19) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v37) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelRope_KernelRopeIdeal : Prop :=
  True

def algebraic_KernelRopeIdeal_ReferenceRopeIdeal [hKernelRopeIdeal : Cert.KernelRopeIdeal.Facts] [hReferenceRopeIdeal : Cert.ReferenceRopeIdeal.Facts] : Prop :=
  ∀ (m : (ℓ : Loc Cert.KernelRopeIdeal.nD Cert.KernelRopeIdeal.τ Cert.KernelRopeIdeal.sig) → Buf (Elt Ideal) ℓ) (g : Dev Cert.KernelRopeIdeal.nD → PrngReg)
    (m' : (ℓ : Loc Cert.ReferenceRopeIdeal.nD Cert.ReferenceRopeIdeal.τ Cert.ReferenceRopeIdeal.sig) → Buf (Elt Ideal) ℓ) (g' : Dev Cert.ReferenceRopeIdeal.nD → PrngReg), Pre_KernelRopeIdeal m →
    (∀ c : Dev Cert.KernelRopeIdeal.nD,
      m' ((c.tc : Thread Cert.ReferenceRopeIdeal.nD Cert.ReferenceRopeIdeal.τ).loc Cert.ReferenceRopeIdeal.main_arg0) = m ((c.tc : Thread Cert.KernelRopeIdeal.nD Cert.KernelRopeIdeal.τ).loc Cert.KernelRopeIdeal.main_arg0)
      ∧ m' ((c.tc : Thread Cert.ReferenceRopeIdeal.nD Cert.ReferenceRopeIdeal.τ).loc Cert.ReferenceRopeIdeal.main_arg1) = m ((c.tc : Thread Cert.KernelRopeIdeal.nD Cert.KernelRopeIdeal.τ).loc Cert.KernelRopeIdeal.main_arg1)) →
    ∃ (v0 : (c : Dev Cert.KernelRopeIdeal.nD) → Buf (Elt Ideal) ((c.tc : Thread Cert.KernelRopeIdeal.nD Cert.KernelRopeIdeal.τ).loc Cert.KernelRopeIdeal.main_v40)),
      θ_run (Cert.KernelRopeIdeal.defs (F := Ideal)) (onTc (τ := Cert.KernelRopeIdeal.τ) (Cert.KernelRopeIdeal.main (F := Ideal))) ⟨m, fun _ => 0, g⟩ (fun r => ∀ c : Dev Cert.KernelRopeIdeal.nD,
          r.2.mem ((c.tc : Thread Cert.KernelRopeIdeal.nD Cert.KernelRopeIdeal.τ).loc Cert.KernelRopeIdeal.main_v40) = v0 c
          ∧ r.2.mem ((c.tc : Thread Cert.KernelRopeIdeal.nD Cert.KernelRopeIdeal.τ).loc Cert.KernelRopeIdeal.main_arg0) = m ((c.tc : Thread Cert.KernelRopeIdeal.nD Cert.KernelRopeIdeal.τ).loc Cert.KernelRopeIdeal.main_arg0)
          ∧ r.2.mem ((c.tc : Thread Cert.KernelRopeIdeal.nD Cert.KernelRopeIdeal.τ).loc Cert.KernelRopeIdeal.main_arg1) = m ((c.tc : Thread Cert.KernelRopeIdeal.nD Cert.KernelRopeIdeal.τ).loc Cert.KernelRopeIdeal.main_arg1))
      ∧ θ_run (Cert.ReferenceRopeIdeal.defs (F := Ideal)) (onTc (τ := Cert.ReferenceRopeIdeal.τ) (Cert.ReferenceRopeIdeal.main (F := Ideal))) ⟨m', fun _ => 0, g'⟩ (fun r => ∀ c : Dev Cert.ReferenceRopeIdeal.nD,
          r.2.mem ((c.tc : Thread Cert.ReferenceRopeIdeal.nD Cert.ReferenceRopeIdeal.τ).loc Cert.ReferenceRopeIdeal.main_v86) = v0 c
          ∧ r.2.mem ((c.tc : Thread Cert.ReferenceRopeIdeal.nD Cert.ReferenceRopeIdeal.τ).loc Cert.ReferenceRopeIdeal.main_arg0) = m' ((c.tc : Thread Cert.ReferenceRopeIdeal.nD Cert.ReferenceRopeIdeal.τ).loc Cert.ReferenceRopeIdeal.main_arg0)
          ∧ r.2.mem ((c.tc : Thread Cert.ReferenceRopeIdeal.nD Cert.ReferenceRopeIdeal.τ).loc Cert.ReferenceRopeIdeal.main_arg1) = m' ((c.tc : Thread Cert.ReferenceRopeIdeal.nD Cert.ReferenceRopeIdeal.τ).loc Cert.ReferenceRopeIdeal.main_arg1))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)) →
    ∃ (v0 : (c : Dev Cert.KernelSmallIdeal.nD) → Buf (Elt Ideal) ((c.tc : Thread Cert.KernelSmallIdeal.nD Cert.KernelSmallIdeal.τ).loc Cert.KernelSmallIdeal.main_v19)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v19) = v0 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v17) = v0 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v10)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v10) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v9) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelCmpK_KernelCmpKIdeal : Prop :=
  True

def algebraic_KernelCmpKIdeal_ReferenceCmpKIdeal [hKernelCmpKIdeal : Cert.KernelCmpKIdeal.Facts] [hReferenceCmpKIdeal : Cert.ReferenceCmpKIdeal.Facts] : Prop :=
  ∀ (m : (ℓ : Loc Cert.KernelCmpKIdeal.nD Cert.KernelCmpKIdeal.τ Cert.KernelCmpKIdeal.sig) → Buf (Elt Ideal) ℓ) (g : Dev Cert.KernelCmpKIdeal.nD → PrngReg)
    (m' : (ℓ : Loc Cert.ReferenceCmpKIdeal.nD Cert.ReferenceCmpKIdeal.τ Cert.ReferenceCmpKIdeal.sig) → Buf (Elt Ideal) ℓ) (g' : Dev Cert.ReferenceCmpKIdeal.nD → PrngReg), Pre_KernelCmpKIdeal m →
    (∀ c : Dev Cert.KernelCmpKIdeal.nD,
      m' ((c.tc : Thread Cert.ReferenceCmpKIdeal.nD Cert.ReferenceCmpKIdeal.τ).loc Cert.ReferenceCmpKIdeal.main_arg0) = m ((c.tc : Thread Cert.KernelCmpKIdeal.nD Cert.KernelCmpKIdeal.τ).loc Cert.KernelCmpKIdeal.main_arg0)
      ∧ m' ((c.tc : Thread Cert.ReferenceCmpKIdeal.nD Cert.ReferenceCmpKIdeal.τ).loc Cert.ReferenceCmpKIdeal.main_arg1) = m ((c.tc : Thread Cert.KernelCmpKIdeal.nD Cert.KernelCmpKIdeal.τ).loc Cert.KernelCmpKIdeal.main_arg1)
      ∧ m' ((c.tc : Thread Cert.ReferenceCmpKIdeal.nD Cert.ReferenceCmpKIdeal.τ).loc Cert.ReferenceCmpKIdeal.main_arg2) = m ((c.tc : Thread Cert.KernelCmpKIdeal.nD Cert.KernelCmpKIdeal.τ).loc Cert.KernelCmpKIdeal.main_arg2)
      ∧ m' ((c.tc : Thread Cert.ReferenceCmpKIdeal.nD Cert.ReferenceCmpKIdeal.τ).loc Cert.ReferenceCmpKIdeal.main_arg3) = m ((c.tc : Thread Cert.KernelCmpKIdeal.nD Cert.KernelCmpKIdeal.τ).loc Cert.KernelCmpKIdeal.main_arg3)) →
    ∃ (v0 : (c : Dev Cert.KernelCmpKIdeal.nD) → Buf (Elt Ideal) ((c.tc : Thread Cert.KernelCmpKIdeal.nD Cert.KernelCmpKIdeal.τ).loc Cert.KernelCmpKIdeal.main_v36)),
      θ_run (Cert.KernelCmpKIdeal.defs (F := Ideal)) (onTc (τ := Cert.KernelCmpKIdeal.τ) (Cert.KernelCmpKIdeal.main (F := Ideal))) ⟨m, fun _ => 0, g⟩ (fun r => ∀ c : Dev Cert.KernelCmpKIdeal.nD,
          r.2.mem ((c.tc : Thread Cert.KernelCmpKIdeal.nD Cert.KernelCmpKIdeal.τ).loc Cert.KernelCmpKIdeal.main_v36) = v0 c
          ∧ r.2.mem ((c.tc : Thread Cert.KernelCmpKIdeal.nD Cert.KernelCmpKIdeal.τ).loc Cert.KernelCmpKIdeal.main_arg0) = m ((c.tc : Thread Cert.KernelCmpKIdeal.nD Cert.KernelCmpKIdeal.τ).loc Cert.KernelCmpKIdeal.main_arg0)
          ∧ r.2.mem ((c.tc : Thread Cert.KernelCmpKIdeal.nD Cert.KernelCmpKIdeal.τ).loc Cert.KernelCmpKIdeal.main_arg1) = m ((c.tc : Thread Cert.KernelCmpKIdeal.nD Cert.KernelCmpKIdeal.τ).loc Cert.KernelCmpKIdeal.main_arg1)
          ∧ r.2.mem ((c.tc : Thread Cert.KernelCmpKIdeal.nD Cert.KernelCmpKIdeal.τ).loc Cert.KernelCmpKIdeal.main_arg2) = m ((c.tc : Thread Cert.KernelCmpKIdeal.nD Cert.KernelCmpKIdeal.τ).loc Cert.KernelCmpKIdeal.main_arg2)
          ∧ r.2.mem ((c.tc : Thread Cert.KernelCmpKIdeal.nD Cert.KernelCmpKIdeal.τ).loc Cert.KernelCmpKIdeal.main_arg3) = m ((c.tc : Thread Cert.KernelCmpKIdeal.nD Cert.KernelCmpKIdeal.τ).loc Cert.KernelCmpKIdeal.main_arg3))
      ∧ θ_run (Cert.ReferenceCmpKIdeal.defs (F := Ideal)) (onTc (τ := Cert.ReferenceCmpKIdeal.τ) (Cert.ReferenceCmpKIdeal.main (F := Ideal))) ⟨m', fun _ => 0, g'⟩ (fun r => ∀ c : Dev Cert.ReferenceCmpKIdeal.nD,
          r.2.mem ((c.tc : Thread Cert.ReferenceCmpKIdeal.nD Cert.ReferenceCmpKIdeal.τ).loc Cert.ReferenceCmpKIdeal.main_v68) = v0 c
          ∧ r.2.mem ((c.tc : Thread Cert.ReferenceCmpKIdeal.nD Cert.ReferenceCmpKIdeal.τ).loc Cert.ReferenceCmpKIdeal.main_arg0) = m' ((c.tc : Thread Cert.ReferenceCmpKIdeal.nD Cert.ReferenceCmpKIdeal.τ).loc Cert.ReferenceCmpKIdeal.main_arg0)
          ∧ r.2.mem ((c.tc : Thread Cert.ReferenceCmpKIdeal.nD Cert.ReferenceCmpKIdeal.τ).loc Cert.ReferenceCmpKIdeal.main_arg1) = m' ((c.tc : Thread Cert.ReferenceCmpKIdeal.nD Cert.ReferenceCmpKIdeal.τ).loc Cert.ReferenceCmpKIdeal.main_arg1)
          ∧ r.2.mem ((c.tc : Thread Cert.ReferenceCmpKIdeal.nD Cert.ReferenceCmpKIdeal.τ).loc Cert.ReferenceCmpKIdeal.main_arg2) = m' ((c.tc : Thread Cert.ReferenceCmpKIdeal.nD Cert.ReferenceCmpKIdeal.τ).loc Cert.ReferenceCmpKIdeal.main_arg2)
          ∧ r.2.mem ((c.tc : Thread Cert.ReferenceCmpKIdeal.nD Cert.ReferenceCmpKIdeal.τ).loc Cert.ReferenceCmpKIdeal.main_arg3) = m' ((c.tc : Thread Cert.ReferenceCmpKIdeal.nD Cert.ReferenceCmpKIdeal.τ).loc Cert.ReferenceCmpKIdeal.main_arg3))

def preserves_KernelCmpV_KernelCmpVIdeal : Prop :=
  True

def algebraic_KernelCmpVIdeal_ReferenceCmpVIdeal [hKernelCmpVIdeal : Cert.KernelCmpVIdeal.Facts] [hReferenceCmpVIdeal : Cert.ReferenceCmpVIdeal.Facts] : Prop :=
  ∀ (m : (ℓ : Loc Cert.KernelCmpVIdeal.nD Cert.KernelCmpVIdeal.τ Cert.KernelCmpVIdeal.sig) → Buf (Elt Ideal) ℓ) (g : Dev Cert.KernelCmpVIdeal.nD → PrngReg)
    (m' : (ℓ : Loc Cert.ReferenceCmpVIdeal.nD Cert.ReferenceCmpVIdeal.τ Cert.ReferenceCmpVIdeal.sig) → Buf (Elt Ideal) ℓ) (g' : Dev Cert.ReferenceCmpVIdeal.nD → PrngReg), Pre_KernelCmpVIdeal m →
    (∀ c : Dev Cert.KernelCmpVIdeal.nD,
      m' ((c.tc : Thread Cert.ReferenceCmpVIdeal.nD Cert.ReferenceCmpVIdeal.τ).loc Cert.ReferenceCmpVIdeal.main_arg0) = m ((c.tc : Thread Cert.KernelCmpVIdeal.nD Cert.KernelCmpVIdeal.τ).loc Cert.KernelCmpVIdeal.main_arg0)
      ∧ m' ((c.tc : Thread Cert.ReferenceCmpVIdeal.nD Cert.ReferenceCmpVIdeal.τ).loc Cert.ReferenceCmpVIdeal.main_arg1) = m ((c.tc : Thread Cert.KernelCmpVIdeal.nD Cert.KernelCmpVIdeal.τ).loc Cert.KernelCmpVIdeal.main_arg1)
      ∧ m' ((c.tc : Thread Cert.ReferenceCmpVIdeal.nD Cert.ReferenceCmpVIdeal.τ).loc Cert.ReferenceCmpVIdeal.main_arg2) = m ((c.tc : Thread Cert.KernelCmpVIdeal.nD Cert.KernelCmpVIdeal.τ).loc Cert.KernelCmpVIdeal.main_arg2)
      ∧ m' ((c.tc : Thread Cert.ReferenceCmpVIdeal.nD Cert.ReferenceCmpVIdeal.τ).loc Cert.ReferenceCmpVIdeal.main_arg3) = m ((c.tc : Thread Cert.KernelCmpVIdeal.nD Cert.KernelCmpVIdeal.τ).loc Cert.KernelCmpVIdeal.main_arg3)) →
    ∃ (v0 : (c : Dev Cert.KernelCmpVIdeal.nD) → Buf (Elt Ideal) ((c.tc : Thread Cert.KernelCmpVIdeal.nD Cert.KernelCmpVIdeal.τ).loc Cert.KernelCmpVIdeal.main_v36)),
      θ_run (Cert.KernelCmpVIdeal.defs (F := Ideal)) (onTc (τ := Cert.KernelCmpVIdeal.τ) (Cert.KernelCmpVIdeal.main (F := Ideal))) ⟨m, fun _ => 0, g⟩ (fun r => ∀ c : Dev Cert.KernelCmpVIdeal.nD,
          r.2.mem ((c.tc : Thread Cert.KernelCmpVIdeal.nD Cert.KernelCmpVIdeal.τ).loc Cert.KernelCmpVIdeal.main_v36) = v0 c
          ∧ r.2.mem ((c.tc : Thread Cert.KernelCmpVIdeal.nD Cert.KernelCmpVIdeal.τ).loc Cert.KernelCmpVIdeal.main_arg0) = m ((c.tc : Thread Cert.KernelCmpVIdeal.nD Cert.KernelCmpVIdeal.τ).loc Cert.KernelCmpVIdeal.main_arg0)
          ∧ r.2.mem ((c.tc : Thread Cert.KernelCmpVIdeal.nD Cert.KernelCmpVIdeal.τ).loc Cert.KernelCmpVIdeal.main_arg1) = m ((c.tc : Thread Cert.KernelCmpVIdeal.nD Cert.KernelCmpVIdeal.τ).loc Cert.KernelCmpVIdeal.main_arg1)
          ∧ r.2.mem ((c.tc : Thread Cert.KernelCmpVIdeal.nD Cert.KernelCmpVIdeal.τ).loc Cert.KernelCmpVIdeal.main_arg2) = m ((c.tc : Thread Cert.KernelCmpVIdeal.nD Cert.KernelCmpVIdeal.τ).loc Cert.KernelCmpVIdeal.main_arg2)
          ∧ r.2.mem ((c.tc : Thread Cert.KernelCmpVIdeal.nD Cert.KernelCmpVIdeal.τ).loc Cert.KernelCmpVIdeal.main_arg3) = m ((c.tc : Thread Cert.KernelCmpVIdeal.nD Cert.KernelCmpVIdeal.τ).loc Cert.KernelCmpVIdeal.main_arg3))
      ∧ θ_run (Cert.ReferenceCmpVIdeal.defs (F := Ideal)) (onTc (τ := Cert.ReferenceCmpVIdeal.τ) (Cert.ReferenceCmpVIdeal.main (F := Ideal))) ⟨m', fun _ => 0, g'⟩ (fun r => ∀ c : Dev Cert.ReferenceCmpVIdeal.nD,
          r.2.mem ((c.tc : Thread Cert.ReferenceCmpVIdeal.nD Cert.ReferenceCmpVIdeal.τ).loc Cert.ReferenceCmpVIdeal.main_v28) = v0 c
          ∧ r.2.mem ((c.tc : Thread Cert.ReferenceCmpVIdeal.nD Cert.ReferenceCmpVIdeal.τ).loc Cert.ReferenceCmpVIdeal.main_arg0) = m' ((c.tc : Thread Cert.ReferenceCmpVIdeal.nD Cert.ReferenceCmpVIdeal.τ).loc Cert.ReferenceCmpVIdeal.main_arg0)
          ∧ r.2.mem ((c.tc : Thread Cert.ReferenceCmpVIdeal.nD Cert.ReferenceCmpVIdeal.τ).loc Cert.ReferenceCmpVIdeal.main_arg1) = m' ((c.tc : Thread Cert.ReferenceCmpVIdeal.nD Cert.ReferenceCmpVIdeal.τ).loc Cert.ReferenceCmpVIdeal.main_arg1)
          ∧ r.2.mem ((c.tc : Thread Cert.ReferenceCmpVIdeal.nD Cert.ReferenceCmpVIdeal.τ).loc Cert.ReferenceCmpVIdeal.main_arg2) = m' ((c.tc : Thread Cert.ReferenceCmpVIdeal.nD Cert.ReferenceCmpVIdeal.τ).loc Cert.ReferenceCmpVIdeal.main_arg2)
          ∧ r.2.mem ((c.tc : Thread Cert.ReferenceCmpVIdeal.nD Cert.ReferenceCmpVIdeal.τ).loc Cert.ReferenceCmpVIdeal.main_arg3) = m' ((c.tc : Thread Cert.ReferenceCmpVIdeal.nD Cert.ReferenceCmpVIdeal.τ).loc Cert.ReferenceCmpVIdeal.main_arg3))

def Claim : Prop :=
  ∃ (hKernel : Cert.Kernel.Facts) (hKernelIdeal : Cert.KernelIdeal.Facts) (hReferenceIdeal : Cert.ReferenceIdeal.Facts) (hKernelNormMix : Cert.KernelNormMix.Facts) (hKernelNormMixIdeal : Cert.KernelNormMixIdeal.Facts) (hReferenceNormMixIdeal : Cert.ReferenceNormMixIdeal.Facts) (hKernelNormFfn : Cert.KernelNormFfn.Facts) (hKernelNormFfnIdeal : Cert.KernelNormFfnIdeal.Facts) (hReferenceNormFfnIdeal : Cert.ReferenceNormFfnIdeal.Facts) (hKernelNormFinal : Cert.KernelNormFinal.Facts) (hKernelNormFinalIdeal : Cert.KernelNormFinalIdeal.Facts) (hReferenceNormFinalIdeal : Cert.ReferenceNormFinalIdeal.Facts) (hKernelPlain : Cert.KernelPlain.Facts) (hKernelPlainIdeal : Cert.KernelPlainIdeal.Facts) (hReferencePlainIdeal : Cert.ReferencePlainIdeal.Facts) (hKernelGate : Cert.KernelGate.Facts) (hKernelGateIdeal : Cert.KernelGateIdeal.Facts) (hReferenceGateIdeal : Cert.ReferenceGateIdeal.Facts) (hKernelRope : Cert.KernelRope.Facts) (hKernelRopeIdeal : Cert.KernelRopeIdeal.Facts) (hReferenceRopeIdeal : Cert.ReferenceRopeIdeal.Facts) (hKernelSmall : Cert.KernelSmall.Facts) (hKernelSmallIdeal : Cert.KernelSmallIdeal.Facts) (hReferenceSmallIdeal : Cert.ReferenceSmallIdeal.Facts) (hKernelMerge : Cert.KernelMerge.Facts) (hKernelMergeIdeal : Cert.KernelMergeIdeal.Facts) (hReferenceMergeIdeal : Cert.ReferenceMergeIdeal.Facts) (hKernelCmpK : Cert.KernelCmpK.Facts) (hKernelCmpKIdeal : Cert.KernelCmpKIdeal.Facts) (hReferenceCmpKIdeal : Cert.ReferenceCmpKIdeal.Facts) (hKernelCmpV : Cert.KernelCmpV.Facts) (hKernelCmpVIdeal : Cert.KernelCmpVIdeal.Facts) (hReferenceCmpVIdeal : Cert.ReferenceCmpVIdeal.Facts),
    quiescent_Kernel (hKernel := hKernel)
    ∧ quiescent_KernelIdeal (hKernelIdeal := hKernelIdeal)
    ∧ quiescent_ReferenceIdeal (hReferenceIdeal := hReferenceIdeal)
    ∧ quiescent_KernelNormMix (hKernelNormMix := hKernelNormMix)
    ∧ quiescent_KernelNormMixIdeal (hKernelNormMixIdeal := hKernelNormMixIdeal)
    ∧ quiescent_ReferenceNormMixIdeal (hReferenceNormMixIdeal := hReferenceNormMixIdeal)
    ∧ quiescent_KernelNormFfn (hKernelNormFfn := hKernelNormFfn)
    ∧ quiescent_KernelNormFfnIdeal (hKernelNormFfnIdeal := hKernelNormFfnIdeal)
    ∧ quiescent_ReferenceNormFfnIdeal (hReferenceNormFfnIdeal := hReferenceNormFfnIdeal)
    ∧ quiescent_KernelNormFinal (hKernelNormFinal := hKernelNormFinal)
    ∧ quiescent_KernelNormFinalIdeal (hKernelNormFinalIdeal := hKernelNormFinalIdeal)
    ∧ quiescent_ReferenceNormFinalIdeal (hReferenceNormFinalIdeal := hReferenceNormFinalIdeal)
    ∧ quiescent_KernelPlain (hKernelPlain := hKernelPlain)
    ∧ quiescent_KernelPlainIdeal (hKernelPlainIdeal := hKernelPlainIdeal)
    ∧ quiescent_ReferencePlainIdeal (hReferencePlainIdeal := hReferencePlainIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelRope (hKernelRope := hKernelRope)
    ∧ quiescent_KernelRopeIdeal (hKernelRopeIdeal := hKernelRopeIdeal)
    ∧ quiescent_ReferenceRopeIdeal (hReferenceRopeIdeal := hReferenceRopeIdeal)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelCmpK (hKernelCmpK := hKernelCmpK)
    ∧ quiescent_KernelCmpKIdeal (hKernelCmpKIdeal := hKernelCmpKIdeal)
    ∧ quiescent_ReferenceCmpKIdeal (hReferenceCmpKIdeal := hReferenceCmpKIdeal)
    ∧ quiescent_KernelCmpV (hKernelCmpV := hKernelCmpV)
    ∧ quiescent_KernelCmpVIdeal (hKernelCmpVIdeal := hKernelCmpVIdeal)
    ∧ quiescent_ReferenceCmpVIdeal (hReferenceCmpVIdeal := hReferenceCmpVIdeal)
    ∧ preserves_Kernel_KernelIdeal
    ∧ algebraic_KernelIdeal_ReferenceIdeal (hKernelIdeal := hKernelIdeal) (hReferenceIdeal := hReferenceIdeal)
    ∧ preserves_KernelNormMix_KernelNormMixIdeal
    ∧ algebraic_KernelNormMixIdeal_ReferenceNormMixIdeal (hKernelNormMixIdeal := hKernelNormMixIdeal) (hReferenceNormMixIdeal := hReferenceNormMixIdeal)
    ∧ preserves_KernelNormFfn_KernelNormFfnIdeal
    ∧ algebraic_KernelNormFfnIdeal_ReferenceNormFfnIdeal (hKernelNormFfnIdeal := hKernelNormFfnIdeal) (hReferenceNormFfnIdeal := hReferenceNormFfnIdeal)
    ∧ preserves_KernelNormFinal_KernelNormFinalIdeal
    ∧ algebraic_KernelNormFinalIdeal_ReferenceNormFinalIdeal (hKernelNormFinalIdeal := hKernelNormFinalIdeal) (hReferenceNormFinalIdeal := hReferenceNormFinalIdeal)
    ∧ preserves_KernelPlain_KernelPlainIdeal
    ∧ algebraic_KernelPlainIdeal_ReferencePlainIdeal (hKernelPlainIdeal := hKernelPlainIdeal) (hReferencePlainIdeal := hReferencePlainIdeal)
    ∧ preserves_KernelGate_KernelGateIdeal
    ∧ algebraic_KernelGateIdeal_ReferenceGateIdeal (hKernelGateIdeal := hKernelGateIdeal) (hReferenceGateIdeal := hReferenceGateIdeal)
    ∧ preserves_KernelRope_KernelRopeIdeal
    ∧ algebraic_KernelRopeIdeal_ReferenceRopeIdeal (hKernelRopeIdeal := hKernelRopeIdeal) (hReferenceRopeIdeal := hReferenceRopeIdeal)
    ∧ preserves_KernelSmall_KernelSmallIdeal
    ∧ algebraic_KernelSmallIdeal_ReferenceSmallIdeal (hKernelSmallIdeal := hKernelSmallIdeal) (hReferenceSmallIdeal := hReferenceSmallIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelCmpK_KernelCmpKIdeal
    ∧ algebraic_KernelCmpKIdeal_ReferenceCmpKIdeal (hKernelCmpKIdeal := hKernelCmpKIdeal) (hReferenceCmpKIdeal := hReferenceCmpKIdeal)
    ∧ preserves_KernelCmpV_KernelCmpVIdeal
    ∧ algebraic_KernelCmpVIdeal_ReferenceCmpVIdeal (hKernelCmpVIdeal := hKernelCmpVIdeal) (hReferenceCmpVIdeal := hReferenceCmpVIdeal)
-- ==== Kernel.lean ====
abbrev S8x2048x1024 : Shape := ⟨3, ![8, 2048, 1024]⟩
abbrev S8x2048x8 : Shape := ⟨3, ![8, 2048, 8]⟩
abbrev S_ : Shape := ⟨0, ![]⟩
abbrev S8x2048x4096 : Shape := ⟨3, ![8, 2048, 4096]⟩
abbrev S8x2048x24 : Shape := ⟨3, ![8, 2048, 24]⟩
abbrev S8x2048x96 : Shape := ⟨3, ![8, 2048, 96]⟩
abbrev S8x2048x128 : Shape := ⟨3, ![8, 2048, 128]⟩
abbrev S8x8x2048 : Shape := ⟨3, ![8, 8, 2048]⟩
abbrev S1x256x1024 : Shape := ⟨3, ![1, 256, 1024]⟩
abbrev S1x2048x1024 : Shape := ⟨3, ![1, 2048, 1024]⟩
abbrev S1x256x128 : Shape := ⟨3, ![1, 256, 128]⟩
abbrev S1x8x2048 : Shape := ⟨3, ![1, 8, 2048]⟩
abbrev S256x1 : Shape := ⟨2, ![256, 1]⟩
abbrev S256x512 : Shape := ⟨2, ![256, 512]⟩
abbrev S256x128 : Shape := ⟨2, ![256, 128]⟩
abbrev S1x512x128 : Shape := ⟨3, ![1, 512, 128]⟩
abbrev S512x128 : Shape := ⟨2, ![512, 128]⟩
abbrev S1x256x1 : Shape := ⟨3, ![1, 256, 1]⟩
abbrev S1x1x512 : Shape := ⟨3, ![1, 1, 512]⟩
abbrev S1x512 : Shape := ⟨2, ![1, 512]⟩
abbrev S256 : Shape := ⟨1, ![256]⟩
abbrev S256x1024 : Shape := ⟨2, ![256, 1024]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S256x1536 : Shape := ⟨2, ![256, 1536]⟩
abbrev S1x1536x128 : Shape := ⟨3, ![1, 1536, 128]⟩
abbrev S1536x128 : Shape := ⟨2, ![1536, 128]⟩
abbrev S1x1x1536 : Shape := ⟨3, ![1, 1, 1536]⟩
abbrev S1x1536 : Shape := ⟨2, ![1, 1536]⟩
abbrev S256x2048 : Shape := ⟨2, ![256, 2048]⟩
abbrev S1x2048x128 : Shape := ⟨3, ![1, 2048, 128]⟩
abbrev S2048x128 : Shape := ⟨2, ![2048, 128]⟩
abbrev S1x1x2048 : Shape := ⟨3, ![1, 1, 2048]⟩
abbrev S1x2048 : Shape := ⟨2, ![1, 2048]⟩

abbrev nBuf : Space → Nat
  | .hbm => 17
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x8, .f32⟩
  | .hbm, ⟨5, _⟩ => ⟨S_, .f32⟩
  | .hbm, ⟨6, _⟩ => ⟨S8x2048x1024, .f32⟩
  | .hbm, ⟨7, _⟩ => ⟨S8x2048x1024, .f32⟩
  | .hbm, ⟨8, _⟩ => ⟨S8x2048x4096, .f32⟩
  | .hbm, ⟨9, _⟩ => ⟨S8x2048x4096, .bf16⟩
  | .hbm, ⟨10, _⟩ => ⟨S_, .f32⟩
  | .hbm, ⟨11, _⟩ => ⟨S8x2048x24, .f32⟩
  | .hbm, ⟨12, _⟩ => ⟨S_, .f32⟩
  | .hbm, ⟨13, _⟩ => ⟨S8x2048x96, .f32⟩
  | .hbm, ⟨14, _⟩ => ⟨S8x2048x128, .f32⟩
  | .hbm, ⟨15, _⟩ => ⟨S8x8x2048, .f32⟩
  | .hbm, ⟨16, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x256x128, .f32⟩
  | .local _ .vmem, ⟨7, _⟩ => ⟨S1x256x128, .f32⟩
  | .local _ .vmem, ⟨8, _⟩ => ⟨S1x8x2048, .f32⟩
  | .local _ .vmem, ⟨9, _⟩ => ⟨S1x8x2048, .f32⟩
  | .local _ .vmem, ⟨10, _⟩ => ⟨S1x256x1024, .bf16⟩
  | .local _ .vmem, ⟨11, _⟩ => ⟨S1x256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c1_i32 : BitVec 32 := 1#32
  let v4 : BitVec 32 := Scalar.addi arg1 c1_i32
  let c256_i32_0 : BitVec 32 := 256#32
  let v5 : BitVec 32 := Scalar.muli v4 c256_i32_0
  let c1_i32_1 : BitVec 32 := 1#32
  let v6 : BitVec 32 := Scalar.subi v5 c1_i32_1
  let c9_i32 : BitVec 32 := 9#32
  let v7 : BitVec 32 := Scalar.shrui v6 c9_i32
  let c0_i32 : BitVec 32 := 0#32
  let v8 : BitVec 1 := Scalar.cmpi .eq v7 c0_i32
  let v9 : BitVec 32 := Scalar.extui v8
  let c0_i32_2 : BitVec 32 := 0#32
  let v10 : BitVec 1 := Scalar.cmpi .ne v9 c0_i32_2
  v10

def k0_cond2 (i : grid0.Coords) : BitVec 1 :=
  let arg1 : BitVec 32 := BitVec.ofNat 32 (i 1).val
  let c1_i32_3 : BitVec 32 := 1#32
  let v11 : BitVec 32 := Scalar.addi arg1 c1_i32_3
  let c256_i32_4 : BitVec 32 := 256#32
  let v12 : BitVec 32 := Scalar.muli v11 c256_i32_4
  let c1_i32_5 : BitVec 32 := 1#32
  let v13 : BitVec 32 := Scalar.subi v12 c1_i32_5
  let c9_i32_6 : BitVec 32 := 9#32
  let v14 : BitVec 32 := Scalar.shrui v13 c9_i32_6
  let c1_i32_7 : BitVec 32 := 1#32
  let v15 : BitVec 1 := Scalar.cmpi .eq v14 c1_i32_7
  let v16 : BitVec 32 := Scalar.extui v15
  let c0_i32_8 : BitVec 32 := 0#32
  let v17 : BitVec 1 := Scalar.cmpi .ne v16 c0_i32_8
  v17

def k0_cond3 (i : grid0.Coords) : BitVec 1 :=
  let arg1 : BitVec 32 := BitVec.ofNat 32 (i 1).val
  let c1_i32_9 : BitVec 32 := 1#32
  let v18 : BitVec 32 := Scalar.addi arg1 c1_i32_9
  let c256_i32_10 : BitVec 32 := 256#32
  let v19 : BitVec 32 := Scalar.muli v18 c256_i32_10
  let c1_i32_11 : BitVec 32 := 1#32
  let v20 : BitVec 32 := Scalar.subi v19 c1_i32_11
  let c9_i32_12 : BitVec 32 := 9#32
  let v21 : BitVec 32 := Scalar.shrui v20 c9_i32_12
  let c2_i32 : BitVec 32 := 2#32
  let v22 : BitVec 1 := Scalar.cmpi .eq v21 c2_i32
  let v23 : BitVec 32 := Scalar.extui v22
  let c0_i32_13 : BitVec 32 := 0#32
  let v24 : BitVec 1 := Scalar.cmpi .ne v23 c0_i32_13
  v24

def k0_cond4 (i : grid0.Coords) : BitVec 1 :=
  let arg1 : BitVec 32 := BitVec.ofNat 32 (i 1).val
  let c1_i32_14 : BitVec 32 := 1#32
  let v25 : BitVec 32 := Scalar.addi arg1 c1_i32_14
  let c256_i32_15 : BitVec 32 := 256#32
  let v26 : BitVec 32 := Scalar.muli v25 c256_i32_15
  let c1_i32_16 : BitVec 32 := 1#32
  let v27 : BitVec 32 := Scalar.subi v26 c1_i32_16
  let c9_i32_17 : BitVec 32 := 9#32
  let v28 : BitVec 32 := Scalar.shrui v27 c9_i32_17
  let c3_i32 : BitVec 32 := 3#32
  let v29 : BitVec 1 := Scalar.cmpi .eq v28 c3_i32
  let v30 : BitVec 32 := Scalar.extui v29
  let c0_i32_18 : BitVec 32 := 0#32
  let v31 : BitVec 1 := Scalar.cmpi .ne v30 c0_i32_18
  v31

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1024 : Shape := ⟨3, ![8, 2048, 1024]⟩
abbrev S8x2048x8 : Shape := ⟨3, ![8, 2048, 8]⟩
abbrev S8x2048x8x128 : Shape := ⟨4, ![8, 2048, 8, 128]⟩
abbrev S8x8x2048 : Shape := ⟨3, ![8, 8, 2048]⟩
abbrev S8x8x2048x2048 : Shape := ⟨4, ![8, 8, 2048, 2048]⟩
abbrev S_ : Shape := ⟨0, ![]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S8x2048x8, .f32⟩
  | .hbm, ⟨5, _⟩ => ⟨S8x2048x8x128, .f32⟩
  | .hbm, ⟨6, _⟩ => ⟨S8x2048x8x128, .f32⟩
  | .hbm, ⟨7, _⟩ => ⟨S8x2048x8x128, .f32⟩
  | .hbm, ⟨8, _⟩ => ⟨S8x8x2048, .f32⟩
  | .hbm, ⟨9, _⟩ => ⟨S8x8x2048x2048, .f32⟩
  | .hbm, ⟨10, _⟩ => ⟨S_, .f32⟩
  | .hbm, ⟨11, _⟩ => ⟨S8x8x2048x2048, .f32⟩
  | .hbm, ⟨12, _⟩ => ⟨S8x8x2048x2048, .f32⟩
  | .hbm, ⟨13, _⟩ => ⟨S8x8x2048x1, .f32⟩
  | .hbm, ⟨14, _⟩ => ⟨S8x8x2048x2048, .f32⟩
  | .hbm, ⟨15, _⟩ => ⟨S8x8x2048x2048, .f32⟩
  | .hbm, ⟨16, _⟩ => ⟨S8x8x1x2048, .f32⟩
  | .hbm, ⟨17, _⟩ => ⟨S8x8x2048x2048, .f32⟩
  | .hbm, ⟨18, _⟩ => ⟨S8x8x2048x2048, .f32⟩
  | .hbm, ⟨19, _⟩ => ⟨S2048, .i32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S8x8x2048x2048, .i1⟩
  | .hbm, ⟨28, _⟩ => ⟨S8x8x2048x2048, .f32⟩
  | .hbm, ⟨29, _⟩ => ⟨S8x8x2048x2048, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S_, .f32⟩
  | .hbm, ⟨38, _⟩ => ⟨S8x8x2048x2048, .i1⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048, .f32⟩
  | .hbm, ⟨43, _⟩ => ⟨S8x8x2048x1, .f32⟩
  | .hbm, ⟨44, _⟩ => ⟨S_, .f32⟩
  | .hbm, ⟨45, _⟩ => ⟨S8x8x2048x1, .f32⟩
  | .hbm, ⟨46, _⟩ => ⟨S8x8x2048x1, .f32⟩
  | .hbm, ⟨47, _⟩ => ⟨S8x8x2048x2048, .f32⟩
  | .hbm, ⟨48, _⟩ => ⟨S8x8x2048x2048, .f32⟩
  | .hbm, ⟨49, _⟩ => ⟨S8x8x128x2048, .f32⟩
  | .hbm, ⟨50, _⟩ => ⟨S8x2048x8x128, .f32⟩
  | .hbm, ⟨51, _⟩ => ⟨S8x2048x1024, .f32⟩
  | .hbm, ⟨52, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== KernelNormMix.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormMixIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | .hbm, ⟨19, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelNormFfn.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormFfnIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | .hbm, ⟨19, _⟩ => ⟨S16384x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelNormFinal.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormFinalIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelPlain.lean ====
abbrev S8x2048x2048 : Shape := ⟨3, ![8, 2048, 2048]⟩
abbrev S2048x9760 : Shape := ⟨2, ![2048, 9760]⟩
abbrev S2048x1024 : Shape := ⟨2, ![2048, 1024]⟩
abbrev S2048x256 : Shape := ⟨2, ![2048, 256]⟩
abbrev S2048x24 : Shape := ⟨2, ![2048, 24]⟩
abbrev S2048x8 : Shape := ⟨2, ![2048, 8]⟩
abbrev S2048x2048 : Shape := ⟨2, ![2048, 2048]⟩
abbrev S2048x4096 : Shape := ⟨2, ![2048, 4096]⟩
abbrev S16384x2048 : Shape := ⟨2, ![16384, 2048]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x8, .f32⟩
  | .hbm, ⟨14, _⟩ => ⟨S2048x2048, .f32⟩
  | .hbm, ⟨15, _⟩ => ⟨S2048x2048, .f32⟩
  | .hbm, ⟨16, _⟩ => ⟨S2048x4096, .f32⟩
  | .hbm, ⟨17, _⟩ => ⟨S2048x4096, .bf16⟩
  | .hbm, ⟨18, _⟩ => ⟨S16384x2048, .f32⟩
  | .hbm, ⟨19, _⟩ => ⟨S16384x2048, .bf16⟩
  | .hbm, ⟨20, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePlainIdeal.lean ====
abbrev S8x2048x2048 : Shape := ⟨3, ![8, 2048, 2048]⟩
abbrev S2048x9760 : Shape := ⟨2, ![2048, 9760]⟩
abbrev S8x2048x9760 : Shape := ⟨3, ![8, 2048, 9760]⟩
abbrev S8x2048x1024 : Shape := ⟨3, ![8, 2048, 1024]⟩
abbrev S8x2048x256 : Shape := ⟨3, ![8, 2048, 256]⟩
abbrev S8x2048x24 : Shape := ⟨3, ![8, 2048, 24]⟩
abbrev S8x2048x8 : Shape := ⟨3, ![8, 2048, 8]⟩
abbrev S_ : Shape := ⟨0, ![]⟩
abbrev S8x2048x4096 : Shape := ⟨3, ![8, 2048, 4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S8x2048x9760, .f32⟩
  | .hbm, ⟨3, _⟩ => ⟨S8x2048x1024, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S8x2048x24, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x8, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S8x2048x4096, .f32⟩
  | .hbm, ⟨21, _⟩ => ⟨S16384x4096, .f32⟩
  | .hbm, ⟨22, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== KernelGate.lean ====
abbrev S8x2048x2048 : Shape := ⟨3, ![8, 2048, 2048]⟩
abbrev S2048x9760 : Shape := ⟨2, ![2048, 9760]⟩
abbrev S4096 : Shape := ⟨1, ![4096]⟩
abbrev S2048x1024 : Shape := ⟨2, ![2048, 1024]⟩
abbrev S2048x256 : Shape := ⟨2, ![2048, 256]⟩
abbrev S2048x24 : Shape := ⟨2, ![2048, 24]⟩
abbrev S2048x8 : Shape := ⟨2, ![2048, 8]⟩
abbrev S2048x2048 : Shape := ⟨2, ![2048, 2048]⟩
abbrev S2048x4096 : Shape := ⟨2, ![2048, 4096]⟩
abbrev S16384x2048 : Shape := ⟨2, ![16384, 2048]⟩
abbrev S1x4096 : Shape := ⟨2, ![1, 4096]⟩
abbrev S16384x4096 : Shape := ⟨2, ![16384, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 23
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S4096, .f32⟩
  | .hbm, ⟨3, _⟩ => ⟨S2048x1024, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x24, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x8, .f32⟩
  | .hbm, ⟨15, _⟩ => ⟨S2048x2048, .f32⟩
  | .hbm, ⟨16, _⟩ => ⟨S2048x2048, .f32⟩
  | .hbm, ⟨17, _⟩ => ⟨S2048x4096, .f32⟩
  | .hbm, ⟨18, _⟩ => ⟨S2048x4096, .bf16⟩
  | .hbm, ⟨19, _⟩ => ⟨S16384x2048, .f32⟩
  | .hbm, ⟨20, _⟩ => ⟨S16384x2048, .bf16⟩
  | .hbm, ⟨21, _⟩ => ⟨S1x4096, .f32⟩
  | .hbm, ⟨22, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateIdeal.lean ====
abbrev S8x2048x2048 : Shape := ⟨3, ![8, 2048, 2048]⟩
abbrev S2048x9760 : Shape := ⟨2, ![2048, 9760]⟩
abbrev S4096 : Shape := ⟨1, ![4096]⟩
abbrev S8x2048x9760 : Shape := ⟨3, ![8, 2048, 9760]⟩
abbrev S8x2048x1024 : Shape := ⟨3, ![8, 2048, 1024]⟩
abbrev S8x2048x256 : Shape := ⟨3, ![8, 2048, 256]⟩
abbrev S8x2048x24 : Shape := ⟨3, ![8, 2048, 24]⟩
abbrev S8x2048x8 : Shape := ⟨3, ![8, 2048, 8]⟩
abbrev S2048 : Shape := ⟨1, ![2048]⟩
abbrev S1x1x2048 : Shape := ⟨3, ![1, 1, 2048]⟩
abbrev S_ : Shape := ⟨0, ![]⟩
abbrev S8x2048x4096 : Shape := ⟨3, ![8, 2048, 4096]⟩
abbrev S16384x4096 : Shape := ⟨2, ![16384, 4096]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S4096, .f32⟩
  | .hbm, ⟨3, _⟩ => ⟨S8x2048x9760, .f32⟩
  | .hbm, ⟨4, _⟩ => ⟨S8x2048x1024, .f32⟩
  | .hbm, ⟨5, _⟩ => ⟨S8x2048x256, .f32⟩
  | .hbm, ⟨6, _⟩ => ⟨S8x2048x256, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S8x2048x256, .f32⟩
  | .hbm, ⟨11, _⟩ => ⟨S8x2048x24, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x8, .f32⟩
  | .hbm, ⟨16, _⟩ => ⟨S8x2048x2048, .f32⟩
  | .hbm, ⟨17, _⟩ => ⟨S8x2048x2048, .f32⟩
  | .hbm, ⟨18, _⟩ => ⟨S2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048x2048, .f32⟩
  | .hbm, ⟨41, _⟩ => ⟨S8x2048x2048, .f32⟩
  | .hbm, ⟨42, _⟩ => ⟨S8x2048x4096, .f32⟩
  | .hbm, ⟨43, _⟩ => ⟨S16384x4096, .f32⟩
  | .hbm, ⟨44, _⟩ => ⟨S16384x4096, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== KernelRope.lean ====
abbrev S8x2048x2048 : Shape := ⟨3, ![8, 2048, 2048]⟩
abbrev S2048x9760 : Shape := ⟨2, ![2048, 9760]⟩
abbrev S2048x1024 : Shape := ⟨2, ![2048, 1024]⟩
abbrev S2048x256 : Shape := ⟨2, ![2048, 256]⟩
abbrev S2048x24 : Shape := ⟨2, ![2048, 24]⟩
abbrev S2048x8 : Shape := ⟨2, ![2048, 8]⟩
abbrev S2048x2048 : Shape := ⟨2, ![2048, 2048]⟩
abbrev S2048x1536 : Shape := ⟨2, ![2048, 1536]⟩
abbrev S16384x2048 : Shape := ⟨2, ![16384, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x1536 : Shape := ⟨2, ![16384, 1536]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩

abbrev nBuf : Space → Nat
  | .hbm => 47
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x8, .f32⟩
  | .hbm, ⟨14, _⟩ => ⟨S2048x2048, .f32⟩
  | .hbm, ⟨15, _⟩ => ⟨S2048x2048, .f32⟩
  | .hbm, ⟨16, _⟩ => ⟨S2048x1536, .f32⟩
  | .hbm, ⟨17, _⟩ => ⟨S2048x1536, .bf16⟩
  | .hbm, ⟨18, _⟩ => ⟨S16384x2048, .f32⟩
  | .hbm, ⟨19, _⟩ => ⟨S16384x2048, .bf16⟩
  | .hbm, ⟨20, _⟩ => ⟨S2048, .i32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S2048, .f32⟩
  | .hbm, ⟨36, _⟩ => ⟨S2048x1, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S2048x64, .f32⟩
  | .hbm, ⟨43, _⟩ => ⟨S2048x128, .f32⟩
  | .hbm, ⟨44, _⟩ => ⟨S2048x64, .f32⟩
  | .hbm, ⟨45, _⟩ => ⟨S2048x128, .f32⟩
  | .hbm, ⟨46, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x512, .bf16⟩
  | .local _ .vmem, ⟨9, _⟩ => ⟨S1024x512, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceRopeIdeal.lean ====
abbrev S8x2048x2048 : Shape := ⟨3, ![8, 2048, 2048]⟩
abbrev S2048x9760 : Shape := ⟨2, ![2048, 9760]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S8x2048x9760 : Shape := ⟨3, ![8, 2048, 9760]⟩
abbrev S8x2048x1024 : Shape := ⟨3, ![8, 2048, 1024]⟩
abbrev S8x2048x256 : Shape := ⟨3, ![8, 2048, 256]⟩
abbrev S8x2048x24 : Shape := ⟨3, ![8, 2048, 24]⟩
abbrev S8x2048x8 : Shape := ⟨3, ![8, 2048, 8]⟩
abbrev S8x2048x8x128 : Shape := ⟨4, ![8, 2048, 8, 128]⟩
abbrev S8x2048x8x64 : Shape := ⟨4, ![8, 2048, 8, 64]⟩
abbrev S1x2048x1x64 : Shape := ⟨4, ![1, 2048, 1, 64]⟩
abbrev S8x2048x2x128 : Shape := ⟨4, ![8, 2048, 2, 128]⟩
abbrev S8x2048x2x64 : Shape := ⟨4, ![8, 2048, 2, 64]⟩
abbrev S8x2048x12x128 : Shape := ⟨4, ![8, 2048, 12, 128]⟩
abbrev S16384x1536 : Shape := ⟨2, ![16384, 1536]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S2048, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S8x2048x9760, .f32⟩
  | .hbm, ⟨26, _⟩ => ⟨S8x2048x1024, .f32⟩
  | .hbm, ⟨27, _⟩ => ⟨S8x2048x256, .f32⟩
  | .hbm, ⟨28, _⟩ => ⟨S8x2048x256, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S8x2048x256, .f32⟩
  | .hbm, ⟨33, _⟩ => ⟨S8x2048x24, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x8, .f32⟩
  | .hbm, ⟨38, _⟩ => ⟨S8x2048x2048, .f32⟩
  | .hbm, ⟨39, _⟩ => ⟨S8x2048x2048, .f32⟩
  | .hbm, ⟨40, _⟩ => ⟨S8x2048x8x128, .f32⟩
  | .hbm, ⟨41, _⟩ => ⟨S8x2048x8x64, .f32⟩
  | .hbm, ⟨42, _⟩ => ⟨S8x2048x8x64, .f32⟩
  | .hbm, ⟨43, _⟩ => ⟨S1x2048x1x64, .f32⟩
  | .hbm, ⟨44, _⟩ => ⟨S1x2048x1x64, .f32⟩
  | .hbm, ⟨45, _⟩ => ⟨S8x2048x8x64, .f32⟩
  | .hbm, ⟨46, _⟩ => ⟨S8x2048x8x64, .f32⟩
  | .hbm, ⟨47, _⟩ => ⟨S8x2048x8x64, .f32⟩
  | .hbm, ⟨48, _⟩ => ⟨S8x2048x8x64, .f32⟩
  | .hbm, ⟨49, _⟩ => ⟨S8x2048x8x64, .f32⟩
  | .hbm, ⟨50, _⟩ => ⟨S8x2048x8x64, .f32⟩
  | .hbm, ⟨51, _⟩ => ⟨S8x2048x8x64, .f32⟩
  | .hbm, ⟨52, _⟩ => ⟨S8x2048x8x64, .f32⟩
  | .hbm, ⟨53, _⟩ => ⟨S8x2048x8x64, .f32⟩
  | .hbm, ⟨54, _⟩ => ⟨S8x2048x8x64, .f32⟩
  | .hbm, ⟨55, _⟩ => ⟨S8x2048x8x128, .f32⟩
  | .hbm, ⟨56, _⟩ => ⟨S_, .f32⟩
  | .hbm, ⟨57, _⟩ => ⟨S8x2048x8x128, .f32⟩
  | .hbm, ⟨58, _⟩ => ⟨S8x2048x8x128, .f32⟩
  | .hbm, ⟨59, _⟩ => ⟨S8x2048x2x128, .f32⟩
  | .hbm, ⟨60, _⟩ => ⟨S8x2048x2x64, .f32⟩
  | .hbm, ⟨61, _⟩ => ⟨S8x2048x2x64, .f32⟩
  | .hbm, ⟨62, _⟩ => ⟨S1x2048x1x64, .f32⟩
  | .hbm, ⟨63, _⟩ => ⟨S1x2048x1x64, .f32⟩
  | .hbm, ⟨64, _⟩ => ⟨S8x2048x2x64, .f32⟩
  | .hbm, ⟨65, _⟩ => ⟨S8x2048x2x64, .f32⟩
  | .hbm, ⟨66, _⟩ => ⟨S8x2048x2x64, .f32⟩
  | .hbm, ⟨67, _⟩ => ⟨S8x2048x2x64, .f32⟩
  | .hbm, ⟨68, _⟩ => ⟨S8x2048x2x64, .f32⟩
  | .hbm, ⟨69, _⟩ => ⟨S8x2048x2x64, .f32⟩
  | .hbm, ⟨70, _⟩ => ⟨S8x2048x2x64, .f32⟩
  | .hbm, ⟨71, _⟩ => ⟨S8x2048x2x64, .f32⟩
  | .hbm, ⟨72, _⟩ => ⟨S8x2048x2x64, .f32⟩
  | .hbm, ⟨73, _⟩ => ⟨S8x2048x2x64, .f32⟩
  | .hbm, ⟨74, _⟩ => ⟨S8x2048x2x128, .f32⟩
  | .hbm, ⟨75, _⟩ => ⟨S8x2048x2x128, .f32⟩
  | .hbm, ⟨76, _⟩ => ⟨S8x2048x2x64, .f32⟩
  | .hbm, ⟨77, _⟩ => ⟨S8x2048x2x64, .f32⟩
  | .hbm, ⟨78, _⟩ => ⟨S1x2048x1x64, .f32⟩
  | .hbm, ⟨79, _⟩ => ⟨S1x2048x1x64, .f32⟩
  | .hbm, ⟨80, _⟩ => ⟨S8x2048x2x64, .f32⟩
  | .hbm, ⟨81, _⟩ => ⟨S8x2048x2x64, .f32⟩
  | .hbm, ⟨82, _⟩ => ⟨S8x2048x2x64, .f32⟩
  | .hbm, ⟨83, _⟩ => ⟨S8x2048x2x64, .f32⟩
  | .hbm, ⟨84, _⟩ => ⟨S8x2048x2x64, .f32⟩
  | .hbm, ⟨85, _⟩ => ⟨S8x2048x2x64, .f32⟩
  | .hbm, ⟨86, _⟩ => ⟨S8x2048x2x64, .f32⟩
  | .hbm, ⟨87, _⟩ => ⟨S8x2048x2x64, .f32⟩
  | .hbm, ⟨88, _⟩ => ⟨S8x2048x2x64, .f32⟩
  | .hbm, ⟨89, _⟩ => ⟨S8x2048x2x64, .f32⟩
  | .hbm, ⟨90, _⟩ => ⟨S8x2048x2x128, .f32⟩
  | .hbm, ⟨91, _⟩ => ⟨S8x2048x12x128, .f32⟩
  | .hbm, ⟨92, _⟩ => ⟨S16384x1536, .f32⟩
  | .hbm, ⟨93, _⟩ => ⟨S16384x1536, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩

abbrev nD : Nat := 1
abbrev τ : Topo := Topo.v7x

variable {F : FTy → Type} [FloatOps F]
-- ==== KernelSmall.lean ====
abbrev S8x2048x2048 : Shape := ⟨3, ![8, 2048, 2048]⟩
abbrev S2048x9760 : Shape := ⟨2, ![2048, 9760]⟩
abbrev S2048x1024 : Shape := ⟨2, ![2048, 1024]⟩
abbrev S2048x256 : Shape := ⟨2, ![2048, 256]⟩
abbrev S2048x24 : Shape := ⟨2, ![2048, 24]⟩
abbrev S2048x8 : Shape := ⟨2, ![2048, 8]⟩
abbrev S2048x2048 : Shape := ⟨2, ![2048, 2048]⟩
abbrev S_ : Shape := ⟨0, ![]⟩
abbrev S2048x96 : Shape := ⟨2, ![2048, 96]⟩
abbrev S2048x128 : Shape := ⟨2, ![2048, 128]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 23
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x24, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x8, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x96, .f32⟩
  | .hbm, ⟨18, _⟩ => ⟨S2048x128, .f32⟩
  | .hbm, ⟨19, _⟩ => ⟨S2048x128, .bf16⟩
  | .hbm, ⟨20, _⟩ => ⟨S16384x2048, .f32⟩
  | .hbm, ⟨21, _⟩ => ⟨S16384x2048, .bf16⟩
  | .hbm, ⟨22, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSmallIdeal.lean ====
abbrev S8x2048x2048 : Shape := ⟨3, ![8, 2048, 2048]⟩
abbrev S2048x9760 : Shape := ⟨2, ![2048, 9760]⟩
abbrev S8x2048x9760 : Shape := ⟨3, ![8, 2048, 9760]⟩
abbrev S8x2048x1024 : Shape := ⟨3, ![8, 2048, 1024]⟩
abbrev S8x2048x256 : Shape := ⟨3, ![8, 2048, 256]⟩
abbrev S8x2048x24 : Shape := ⟨3, ![8, 2048, 24]⟩
abbrev S8x2048x8 : Shape := ⟨3, ![8, 2048, 8]⟩
abbrev S_ : Shape := ⟨0, ![]⟩
abbrev S8x2048x96 : Shape := ⟨3, ![8, 2048, 96]⟩
abbrev S8x2048x128 : Shape := ⟨3, ![8, 2048, 128]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x9760, .f32⟩
  | .hbm, ⟨2, _⟩ => ⟨S8x2048x9760, .f32⟩
  | .hbm, ⟨3, _⟩ => ⟨S8x2048x1024, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x256, .f32⟩
  | .hbm, ⟨8, _⟩ => ⟨S8x2048x256, .f32⟩
  | .hbm, ⟨9, _⟩ => ⟨S8x2048x256, .f32⟩
  | .hbm, ⟨10, _⟩ => ⟨S8x2048x24, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S8x2048x8, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048x96, .f32⟩
  | .hbm, ⟨19, _⟩ => ⟨S8x2048x128, .f32⟩
  | .hbm, ⟨20, _⟩ => ⟨S16384x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== KernelMerge.lean ====
abbrev S8x2048x1024 : Shape := ⟨3, ![8, 2048, 1024]⟩
abbrev S1024x2048 : Shape := ⟨2, ![1024, 2048]⟩
abbrev S8x2048x4096 : Shape := ⟨3, ![8, 2048, 4096]⟩
abbrev S2048x2048 : Shape := ⟨2, ![2048, 2048]⟩
abbrev S8x2048x2048 : Shape := ⟨3, ![8, 2048, 2048]⟩
abbrev S16384x1024 : Shape := ⟨2, ![16384, 1024]⟩
abbrev S16384x4096 : Shape := ⟨2, ![16384, 4096]⟩
abbrev S16384x2048 : Shape := ⟨2, ![16384, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024x2048, .f32⟩
  | .hbm, ⟨4, _⟩ => ⟨S8x2048x4096, .f32⟩
  | .hbm, ⟨5, _⟩ => ⟨S2048x2048, .f32⟩
  | .hbm, ⟨6, _⟩ => ⟨S8x2048x2048, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S1024x2048, .bf16⟩
  | .hbm, ⟨12, _⟩ => ⟨S1024x2048, .bf16⟩
  | .hbm, ⟨13, _⟩ => ⟨S16384x4096, .f32⟩
  | .hbm, ⟨14, _⟩ => ⟨S16384x4096, .bf16⟩
  | .hbm, ⟨15, _⟩ => ⟨S2048x2048, .bf16⟩
  | .hbm, ⟨16, _⟩ => ⟨S16384x2048, .f32⟩
  | .hbm, ⟨17, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMergeIdeal.lean ====
abbrev S8x2048x1024 : Shape := ⟨3, ![8, 2048, 1024]⟩
abbrev S1024x2048 : Shape := ⟨2, ![1024, 2048]⟩
abbrev S8x2048x4096 : Shape := ⟨3, ![8, 2048, 4096]⟩
abbrev S2048x2048 : Shape := ⟨2, ![2048, 2048]⟩
abbrev S8x2048x2048 : Shape := ⟨3, ![8, 2048, 2048]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x2048, .f32⟩
  | .hbm, ⟨3, _⟩ => ⟨S1024x2048, .f32⟩
  | .hbm, ⟨4, _⟩ => ⟨S8x2048x4096, .f32⟩
  | .hbm, ⟨5, _⟩ => ⟨S2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== KernelCmpK.lean ====
abbrev S8x2048x256 : Shape := ⟨3, ![8, 2048, 256]⟩
abbrev S32x128 : Shape := ⟨2, ![32, 128]⟩
abbrev S4096x256 : Shape := ⟨2, ![4096, 256]⟩
abbrev S256x128 : Shape := ⟨2, ![256, 128]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S8x2048x2x128 : Shape := ⟨4, ![8, 2048, 2, 128]⟩
abbrev S8x2x2048x128 : Shape := ⟨4, ![8, 2, 2048, 128]⟩
abbrev S16x128x2048 : Shape := ⟨3, ![16, 128, 2048]⟩
abbrev S2x2048 : Shape := ⟨2, ![2, 2048]⟩
abbrev S16x128x128 : Shape := ⟨3, ![16, 128, 128]⟩
abbrev S1x128x2048 : Shape := ⟨3, ![1, 128, 2048]⟩
abbrev S2048x256 : Shape := ⟨2, ![2048, 256]⟩
abbrev S1x128x128 : Shape := ⟨3, ![1, 128, 128]⟩
abbrev S128x2048 : Shape := ⟨2, ![128, 2048]⟩
abbrev S1x2048 : Shape := ⟨2, ![1, 2048]⟩
abbrev S128x256 : Shape := ⟨2, ![128, 256]⟩

abbrev nBuf : Space → Nat
  | .hbm => 48
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S128, .f32⟩
  | .hbm, ⟨29, _⟩ => ⟨S128x1, .f32⟩
  | .hbm, ⟨30, _⟩ => ⟨S1x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x128, .f32⟩
  | .hbm, ⟨37, _⟩ => ⟨S128x64, .f32⟩
  | .hbm, ⟨38, _⟩ => ⟨S128x128, .f32⟩
  | .hbm, ⟨39, _⟩ => ⟨S8x2048x256, .bf16⟩
  | .hbm, ⟨40, _⟩ => ⟨S8x2048x2x128, .bf16⟩
  | .hbm, ⟨41, _⟩ => ⟨S8x2x2048x128, .bf16⟩
  | .hbm, ⟨42, _⟩ => ⟨S16x128x2048, .bf16⟩
  | .hbm, ⟨43, _⟩ => ⟨S2x2048, .f32⟩
  | .hbm, ⟨44, _⟩ => ⟨S4096x256, .bf16⟩
  | .hbm, ⟨45, _⟩ => ⟨S4096x256, .bf16⟩
  | .hbm, ⟨46, _⟩ => ⟨S256x128, .bf16⟩
  | .hbm, ⟨47, _⟩ => ⟨S16x128x128, .bf16⟩
  | .local _ .vmem, ⟨0, _⟩ => ⟨S1x128x2048, .bf16⟩
  | .local _ .vmem, ⟨1, _⟩ => ⟨S1x128x2048, .bf16⟩
  | .local _ .vmem, ⟨2, _⟩ => ⟨S2x2048, .f32⟩
  | .local _ .vmem, ⟨3, _⟩ => ⟨S2048x256, .bf16⟩
  | .local _ .vmem, ⟨4, _⟩ => ⟨S2048x256, .bf16⟩
  | .local _ .vmem, ⟨5, _⟩ => ⟨S256x128, .bf16⟩
  | .local _ .vmem, ⟨6, _⟩ => ⟨S128x128, .f32⟩
  | .local _ .vmem, ⟨7, _⟩ => ⟨S128x128, .f32⟩
  | .local _ .vmem, ⟨8, _⟩ => ⟨S1x128x128, .bf16⟩
  | .local _ .vmem, ⟨9, _⟩ => ⟨S1x128x128, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCmpKIdeal.lean ====
abbrev S8x2048x256 : Shape := ⟨3, ![8, 2048, 256]⟩
abbrev S32x128 : Shape := ⟨2, ![32, 128]⟩
abbrev S4096x256 : Shape := ⟨2, ![4096, 256]⟩
abbrev S256x128 : Shape := ⟨2, ![256, 128]⟩
abbrev S127 : Shape := ⟨1, ![127]⟩
abbrev S_ : Shape := ⟨0, ![]⟩
abbrev S64 : Shape := ⟨1, ![64]⟩
abbrev S127x1 : Shape := ⟨2, ![127, 1]⟩
abbrev S1x64 : Shape := ⟨2, ![1, 64]⟩
abbrev S127x64 : Shape := ⟨2, ![127, 64]⟩
abbrev S8x2048x2x128 : Shape := ⟨4, ![8, 2048, 2, 128]⟩
abbrev S8x128x16x2x128 : Shape := ⟨5, ![8, 128, 16, 2, 128]⟩
abbrev S8x127x16x2x128 : Shape := ⟨5, ![8, 127, 16, 2, 128]⟩
abbrev S8x127x32x2x128 : Shape := ⟨5, ![8, 127, 32, 2, 128]⟩
abbrev S1x1x32x1x128 : Shape := ⟨5, ![1, 1, 32, 1, 128]⟩
abbrev S8x127x2x32x128 : Shape := ⟨5, ![8, 127, 2, 32, 128]⟩
abbrev S8x127x2x4096 : Shape := ⟨4, ![8, 127, 2, 4096]⟩
abbrev S8x127x2x256 : Shape := ⟨4, ![8, 127, 2, 256]⟩
abbrev S8x127x2x128 : Shape := ⟨4, ![8, 127, 2, 128]⟩
abbrev S8x127x2x64 : Shape := ⟨4, ![8, 127, 2, 64]⟩
abbrev S1x127x1x64 : Shape := ⟨4, ![1, 127, 1, 64]⟩
abbrev S8x2x127x128 : Shape := ⟨4, ![8, 2, 127, 128]⟩
abbrev S8x2x128x128 : Shape := ⟨4, ![8, 2, 128, 128]⟩
abbrev S16x128x128 : Shape := ⟨3, ![16, 128, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S127, .i32⟩
  | .hbm, ⟨5, _⟩ => ⟨S_, .i32⟩
  | .hbm, ⟨6, _⟩ => ⟨S127, .i32⟩
  | .hbm, ⟨7, _⟩ => ⟨S127, .i32⟩
  | .hbm, ⟨8, _⟩ => ⟨S_, .i32⟩
  | .hbm, ⟨9, _⟩ => ⟨S127, .i32⟩
  | .hbm, ⟨10, _⟩ => ⟨S127, .i32⟩
  | .hbm, ⟨11, _⟩ => ⟨S_, .i32⟩
  | .hbm, ⟨12, _⟩ => ⟨S127, .i32⟩
  | .hbm, ⟨13, _⟩ => ⟨S127, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S127, .f32⟩
  | .hbm, ⟨29, _⟩ => ⟨S127x1, .f32⟩
  | .hbm, ⟨30, _⟩ => ⟨S1x64, .f32⟩
  | .hbm, ⟨31, _⟩ => ⟨S127x64, .f32⟩
  | .hbm, ⟨32, _⟩ => ⟨S127x64, .f32⟩
  | .hbm, ⟨33, _⟩ => ⟨S127x64, .f32⟩
  | .hbm, ⟨34, _⟩ => ⟨S127x64, .f32⟩
  | .hbm, ⟨35, _⟩ => ⟨S127x64, .f32⟩
  | .hbm, ⟨36, _⟩ => ⟨S8x2048x2x128, .f32⟩
  | .hbm, ⟨37, _⟩ => ⟨S8x128x16x2x128, .f32⟩
  | .hbm, ⟨38, _⟩ => ⟨S8x127x16x2x128, .f32⟩
  | .hbm, ⟨39, _⟩ => ⟨S8x127x16x2x128, .f32⟩
  | .hbm, ⟨40, _⟩ => ⟨S8x127x32x2x128, .f32⟩
  | .hbm, ⟨41, _⟩ => ⟨S1x1x32x1x128, .f32⟩
  | .hbm, ⟨42, _⟩ => ⟨S8x127x32x2x128, .f32⟩
  | .hbm, ⟨43, _⟩ => ⟨S8x127x32x2x128, .f32⟩
  | .hbm, ⟨44, _⟩ => ⟨S8x127x2x32x128, .f32⟩
  | .hbm, ⟨45, _⟩ => ⟨S8x127x2x4096, .f32⟩
  | .hbm, ⟨46, _⟩ => ⟨S8x127x2x256, .f32⟩
  | .hbm, ⟨47, _⟩ => ⟨S8x127x2x256, .f32⟩
  | .hbm, ⟨48, _⟩ => ⟨S8x127x2x256, .f32⟩
  | .hbm, ⟨49, _⟩ => ⟨S_, .f32⟩
  | .hbm, ⟨50, _⟩ => ⟨S8x127x2x256, .f32⟩
  | .hbm, ⟨51, _⟩ => ⟨S8x127x2x256, .f32⟩
  | .hbm, ⟨52, _⟩ => ⟨S8x127x2x256, .f32⟩
  | .hbm, ⟨53, _⟩ => ⟨S_, .f32⟩
  | .hbm, ⟨54, _⟩ => ⟨S8x127x2x256, .f32⟩
  | .hbm, ⟨55, _⟩ => ⟨S8x127x2x256, .f32⟩
  | .hbm, ⟨56, _⟩ => ⟨S8x127x2x256, .f32⟩
  | .hbm, ⟨57, _⟩ => ⟨S_, .f32⟩
  | .hbm, ⟨58, _⟩ => ⟨S8x127x2x256, .f32⟩
  | .hbm, ⟨59, _⟩ => ⟨S8x127x2x256, .f32⟩
  | .hbm, ⟨60, _⟩ => ⟨S_, .f32⟩
  | .hbm, ⟨61, _⟩ => ⟨S8x127x2x256, .f32⟩
  | .hbm, ⟨62, _⟩ => ⟨S8x127x2x256, .f32⟩
  | .hbm, ⟨63, _⟩ => ⟨S8x127x2x256, .f32⟩
  | .hbm, ⟨64, _⟩ => ⟨S8x127x2x128, .f32⟩
  | .hbm, ⟨65, _⟩ => ⟨S8x127x2x64, .f32⟩
  | .hbm, ⟨66, _⟩ => ⟨S8x127x2x64, .f32⟩
  | .hbm, ⟨67, _⟩ => ⟨S1x127x1x64, .f32⟩
  | .hbm, ⟨68, _⟩ => ⟨S1x127x1x64, .f32⟩
  | .hbm, ⟨69, _⟩ => ⟨S8x127x2x64, .f32⟩
  | .hbm, ⟨70, _⟩ => ⟨S8x127x2x64, .f32⟩
  | .hbm, ⟨71, _⟩ => ⟨S8x127x2x64, .f32⟩
  | .hbm, ⟨72, _⟩ => ⟨S8x127x2x64, .f32⟩
  | .hbm, ⟨73, _⟩ => ⟨S8x127x2x64, .f32⟩
  | .hbm, ⟨74, _⟩ => ⟨S8x127x2x64, .f32⟩
  | .hbm, ⟨75, _⟩ => ⟨S8x127x2x64, .f32⟩
  | .hbm, ⟨76, _⟩ => ⟨S8x127x2x64, .f32⟩
  | .hbm, ⟨77, _⟩ => ⟨S8x127x2x64, .f32⟩
  | .hbm, ⟨78, _⟩ => ⟨S8x127x2x64, .f32⟩
  | .hbm, ⟨79, _⟩ => ⟨S8x127x2x128, .f32⟩
  | .hbm, ⟨80, _⟩ => ⟨S8x2x127x128, .f32⟩
  | .hbm, ⟨81, _⟩ => ⟨S_, .i32⟩
  | .hbm, ⟨82, _⟩ => ⟨S_, .f32⟩
  | .hbm, ⟨83, _⟩ => ⟨S8x2x128x128, .f32⟩
  | .hbm, ⟨84, _⟩ => ⟨S16x128x128, .f32⟩
  | .hbm, ⟨85, _⟩ => ⟨S16x128x128, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_9 : Ref sig .tc := ⟨.hbm, 81, rfl⟩
abbrev main_call0_v0 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== KernelCmpV.lean ====
abbrev S8x2048x256 : Shape := ⟨3, ![8, 2048, 256]⟩
abbrev S32x128 : Shape := ⟨2, ![32, 128]⟩
abbrev S4096x256 : Shape := ⟨2, ![4096, 256]⟩
abbrev S256x128 : Shape := ⟨2, ![256, 128]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S8x2048x2x128 : Shape := ⟨4, ![8, 2048, 2, 128]⟩
abbrev S8x2x2048x128 : Shape := ⟨4, ![8, 2, 2048, 128]⟩
abbrev S16x128x2048 : Shape := ⟨3, ![16, 128, 2048]⟩
abbrev S2x2048 : Shape := ⟨2, ![2, 2048]⟩
abbrev S16x128x128 : Shape := ⟨3, ![16, 128, 128]⟩
abbrev S1x128x2048 : Shape := ⟨3, ![1, 128, 2048]⟩
abbrev S2048x256 : Shape := ⟨2, ![2048, 256]⟩
abbrev S1x128x128 : Shape := ⟨3, ![1, 128, 128]⟩
abbrev S128x2048 : Shape := ⟨2, ![128, 2048]⟩
abbrev S1x2048 : Shape := ⟨2, ![1, 2048]⟩
abbrev S128x256 : Shape := ⟨2, ![128, 256]⟩

abbrev nBuf : Space → Nat
  | .hbm => 48
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S128, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S128, .f32⟩
  | .hbm, ⟨29, _⟩ => ⟨S128x1, .f32⟩
  | .hbm, ⟨30, _⟩ => ⟨S1x64, .f32⟩
  | .hbm, ⟨31, _⟩ => ⟨S128x64, .f32⟩
  | .hbm, ⟨32, _⟩ => ⟨S128x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x128, .f32⟩
  | .hbm, ⟨37, _⟩ => ⟨S128x64, .f32⟩
  | .hbm, ⟨38, _⟩ => ⟨S128x128, .f32⟩
  | .hbm, ⟨39, _⟩ => ⟨S8x2048x256, .bf16⟩
  | .hbm, ⟨40, _⟩ => ⟨S8x2048x2x128, .bf16⟩
  | .hbm, ⟨41, _⟩ => ⟨S8x2x2048x128, .bf16⟩
  | .hbm, ⟨42, _⟩ => ⟨S16x128x2048, .bf16⟩
  | .hbm, ⟨43, _⟩ => ⟨S2x2048, .f32⟩
  | .hbm, ⟨44, _⟩ => ⟨S4096x256, .bf16⟩
  | .hbm, ⟨45, _⟩ => ⟨S4096x256, .bf16⟩
  | .hbm, ⟨46, _⟩ => ⟨S256x128, .bf16⟩
  | .hbm, ⟨47, _⟩ => ⟨S16x128x128, .bf16⟩
  | .local _ .vmem, ⟨0, _⟩ => ⟨S1x128x2048, .bf16⟩
  | .local _ .vmem, ⟨1, _⟩ => ⟨S1x128x2048, .bf16⟩
  | .local _ .vmem, ⟨2, _⟩ => ⟨S2x2048, .f32⟩
  | .local _ .vmem, ⟨3, _⟩ => ⟨S2048x256, .bf16⟩
  | .local _ .vmem, ⟨4, _⟩ => ⟨S2048x256, .bf16⟩
  | .local _ .vmem, ⟨5, _⟩ => ⟨S256x128, .bf16⟩
  | .local _ .vmem, ⟨6, _⟩ => ⟨S128x128, .f32⟩
  | .local _ .vmem, ⟨7, _⟩ => ⟨S128x128, .f32⟩
  | .local _ .vmem, ⟨8, _⟩ => ⟨S1x128x128, .bf16⟩
  | .local _ .vmem, ⟨9, _⟩ => ⟨S1x128x128, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceCmpVIdeal.lean ====
abbrev S8x2048x256 : Shape := ⟨3, ![8, 2048, 256]⟩
abbrev S32x128 : Shape := ⟨2, ![32, 128]⟩
abbrev S4096x256 : Shape := ⟨2, ![4096, 256]⟩
abbrev S256x128 : Shape := ⟨2, ![256, 128]⟩
abbrev S8x2048x2x128 : Shape := ⟨4, ![8, 2048, 2, 128]⟩
abbrev S8x128x16x2x128 : Shape := ⟨5, ![8, 128, 16, 2, 128]⟩
abbrev S8x127x16x2x128 : Shape := ⟨5, ![8, 127, 16, 2, 128]⟩
abbrev S8x127x32x2x128 : Shape := ⟨5, ![8, 127, 32, 2, 128]⟩
abbrev S1x1x32x1x128 : Shape := ⟨5, ![1, 1, 32, 1, 128]⟩
abbrev S8x127x2x32x128 : Shape := ⟨5, ![8, 127, 2, 32, 128]⟩
abbrev S8x127x2x4096 : Shape := ⟨4, ![8, 127, 2, 4096]⟩
abbrev S8x127x2x256 : Shape := ⟨4, ![8, 127, 2, 256]⟩
abbrev S_ : Shape := ⟨0, ![]⟩
abbrev S8x127x2x128 : Shape := ⟨4, ![8, 127, 2, 128]⟩
abbrev S8x2x127x128 : Shape := ⟨4, ![8, 2, 127, 128]⟩
abbrev S8x2x128x128 : Shape := ⟨4, ![8, 2, 128, 128]⟩
abbrev S16x128x128 : Shape := ⟨3, ![16, 128, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S8x2048x2x128, .f32⟩
  | .hbm, ⟨5, _⟩ => ⟨S8x128x16x2x128, .f32⟩
  | .hbm, ⟨6, _⟩ => ⟨S8x127x16x2x128, .f32⟩
  | .hbm, ⟨7, _⟩ => ⟨S8x127x16x2x128, .f32⟩
  | .hbm, ⟨8, _⟩ => ⟨S8x127x32x2x128, .f32⟩
  | .hbm, ⟨9, _⟩ => ⟨S1x1x32x1x128, .f32⟩
  | .hbm, ⟨10, _⟩ => ⟨S8x127x32x2x128, .f32⟩
  | .hbm, ⟨11, _⟩ => ⟨S8x127x32x2x128, .f32⟩
  | .hbm, ⟨12, _⟩ => ⟨S8x127x2x32x128, .f32⟩
  | .hbm, ⟨13, _⟩ => ⟨S8x127x2x4096, .f32⟩
  | .hbm, ⟨14, _⟩ => ⟨S8x127x2x256, .f32⟩
  | .hbm, ⟨15, _⟩ => ⟨S8x127x2x256, .f32⟩
  | .hbm, ⟨16, _⟩ => ⟨S8x127x2x256, .f32⟩
  | .hbm, ⟨17, _⟩ => ⟨S_, .f32⟩
  | .hbm, ⟨18, _⟩ => ⟨S8x127x2x256, .f32⟩
  | .hbm, ⟨19, _⟩ => ⟨S8x127x2x256, .f32⟩
  | .hbm, ⟨20, _⟩ => ⟨S8x127x2x256, .f32⟩
  | .hbm, ⟨21, _⟩ => ⟨S_, .f32⟩
  | .hbm, ⟨22, _⟩ => ⟨S8x127x2x256, .f32⟩
  | .hbm, ⟨23, _⟩ => ⟨S8x127x2x256, .f32⟩
  | .hbm, ⟨24, _⟩ => ⟨S8x127x2x256, .f32⟩
  | .hbm, ⟨25, _⟩ => ⟨S_, .f32⟩
  | .hbm, ⟨26, _⟩ => ⟨S8x127x2x256, .f32⟩
  | .hbm, ⟨27, _⟩ => ⟨S8x127x2x256, .f32⟩
  | .hbm, ⟨28, _⟩ => ⟨S_, .f32⟩
  | .hbm, ⟨29, _⟩ => ⟨S8x127x2x256, .f32⟩
  | .hbm, ⟨30, _⟩ => ⟨S8x127x2x256, .f32⟩
  | .hbm, ⟨31, _⟩ => ⟨S8x127x2x256, .f32⟩
  | .hbm, ⟨32, _⟩ => ⟨S8x127x2x128, .f32⟩
  | .hbm, ⟨33, _⟩ => ⟨S8x2x127x128, .f32⟩
  | .hbm, ⟨34, _⟩ => ⟨S_, .i32⟩
  | .hbm, ⟨35, _⟩ => ⟨S_, .f32⟩
  | .hbm, ⟨36, _⟩ => ⟨S8x2x128x128, .f32⟩
  | .hbm, ⟨37, _⟩ => ⟨S16x128x128, .f32⟩
  | .hbm, ⟨38, _⟩ => ⟨S16x128x128, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Fox.Common.lean ====
/- The forgetting attention's launch, before its body is run: where each of its four branches is taken, the staging
   buffers the body is called on, and what is to be shown of the body at one grid point. -/
module

public import proofs.«01_k».proof.Proof.Gen.KernelIdeal.Skeleton
public import proofs.«01_k».proof.Proof.Gen.KernelIdeal.Frame
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The grid point `i` takes branch `n` of the four (the query block ends in quarter `n` of the sequence), and no other. -/
def Takes (n : Fin 4) (i : grid0.Coords) : Prop :=
  (k0_cond1 i = 1#1 ↔ n = 0) ∧ (k0_cond2 i = 1#1 ↔ n = 1) ∧ (k0_cond3 i = 1#1 ↔ n = 2) ∧ (k0_cond4 i = 1#1 ↔ n = 3)

instance (n : Fin 4) (i : grid0.Coords) : Decidable (Takes n i) :=
  @instDecidableAnd _ _ inferInstance (@instDecidableAnd _ _ inferInstance (@instDecidableAnd _ _ inferInstance inferInstance))

/-- The branch a grid point takes: two query blocks to a quarter. -/
def branch (t : Fin cfg0.N) : Fin 4 := ⟨t.val % 8 / 2, by omega⟩

theorem takes : ∀ t : Fin cfg0.N, Takes (branch t) (grid0.coords t) := by decide +kernel

/-- The output window is stored into at every point. -/
theorem live_out : ∀ t : Fin cfg0.N, cfg0.idle 5 (grid0.coords t) = false := by decide +kernel

/-! ## The staging buffers at a grid point -/

abbrev mq (t : Fin cfg0.N) : Memref sig .tc .vmem S1x256x1024 .bf16 := win0_0.stage (cfg0.slots t 0)
abbrev mk (t : Fin cfg0.N) : Memref sig .tc .vmem S1x2048x1024 .bf16 := win0_1.stage (cfg0.slots t 1)
abbrev mv (t : Fin cfg0.N) : Memref sig .tc .vmem S1x2048x1024 .bf16 := win0_2.stage (cfg0.slots t 2)
abbrev mc (t : Fin cfg0.N) : Memref sig .tc .vmem S1x256x128 .f32 := win0_3.stage (cfg0.slots t 3)
abbrev mr (t : Fin cfg0.N) : Memref sig .tc .vmem S1x8x2048 .f32 := win0_4.stage (cfg0.slots t 4)
abbrev mo (t : Fin cfg0.N) : Memref sig .tc .vmem S1x256x1024 .bf16 := win0_5.stage (cfg0.slots t 5)
abbrev hq (t : Fin cfg0.N) : (mq t).IsWhole := hstage0_0 ((cfg0.slots t 0).cast nbuf0_0)
abbrev hk (t : Fin cfg0.N) : (mk t).IsWhole := hstage0_1 ((cfg0.slots t 1).cast nbuf0_1)
abbrev hv (t : Fin cfg0.N) : (mv t).IsWhole := hstage0_2 ((cfg0.slots t 2).cast nbuf0_2)
abbrev hcc (t : Fin cfg0.N) : (mc t).IsWhole := hstage0_3 ((cfg0.slots t 3).cast nbuf0_3)
abbrev hr (t : Fin cfg0.N) : (mr t).IsWhole := hstage0_4 ((cfg0.slots t 4).cast nbuf0_4)
abbrev ho (t : Fin cfg0.N) : (mo t).IsWhole := hstage0_5 ((cfg0.slots t 5).cast nbuf0_5)

/-! ## What is shown of the body -/

/-- The body, called on whole buffers holding the queries `xq`, the keys `xk`, the values `xv` and the decays `xc`
    (one per query) and `xr` (one per key), leaves those as they are and the output buffer with the pieces `L` written. -/
def Leaves (c : Dev nD) (i : grid0.Coords)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec F S1x256x1024 .bf16) (xk xv : Vec F S1x2048x1024 .bf16) (xc : Vec F S1x256x128 .f32) (xr : Vec F S1x8x2048 .f32)
    (L : List (View.Piece (Elt F) S1x256x1024 .bf16)) : Prop :=
  ∀ (E : Set ℕ) (K : PUnit → sProp 𝕄),
    iprop(owns (c : Thread nD τ) q fullShare xq ∗ owns (c : Thread nD τ) k fullShare xk ∗ owns (c : Thread nD τ) v fullShare xv
        ∗ owns (c : Thread nD τ) g fullShare xc ∗ owns (c : Thread nD τ) r fullShare xr ∗ (∃ d, owns (c : Thread nD τ) o fullShare d)
        ∗ (iprop(owns (c : Thread nD τ) q fullShare xq ∗ owns (c : Thread nD τ) k fullShare xk ∗ owns (c : Thread nD τ) v fullShare xv
            ∗ owns (c : Thread nD τ) g fullShare xc ∗ owns (c : Thread nD τ) r fullShare xr
            ∗ (∃ f, o.view.loc (c : Thread nD τ) ↦[o.view.set]{fullShare} o.view.writes (Elt F) f L)) -∗ K ⟨⟩))
      ⊢ wp frame (wpE (defs₀ (F := F)) Variants.none c none) E (cc0_fox i q wq k wk v wv g wg r wr o wo) K

end Cert.KernelIdeal.Fox

end
-- ==== Proof.Fox.Run0.lean ====
/- The body at the grid points of branch 0. -/
module

public import proofs.«01_k».proof.Proof.Fox.Common

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxHeartbeats 1000000 in
/-- The pieces the body stores at a point of branch 0, one per head, found by running it. -/
def run0 (c : Dev nD) (i : grid0.Coords) (h : Takes 0 i)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec F S1x256x1024 .bf16) (xk xv : Vec F S1x2048x1024 .bf16) (xc : Vec F S1x256x128 .f32) (xr : Vec F S1x8x2048 .f32) :
    { L : List (View.Piece (Elt F) S1x256x1024 .bf16) // Leaves c i q wq k wk v wv g wg r wr o wo xq xk xv xc xr L } := by
  have c0 : (k0_cond1 i = 1#1) := by exact h.1.2 rfl
  have c1 : ¬(k0_cond2 i = 1#1) := by exact fun e => absurd (h.2.1.1 e) (by decide)
  have c2 : ¬(k0_cond3 i = 1#1) := by exact fun e => absurd (h.2.2.1.1 e) (by decide)
  have c3 : ¬(k0_cond4 i = 1#1) := by exact fun e => absurd (h.2.2.2.1 e) (by decide)
  refine ⟨?_, fun E K => ?run⟩
  case run =>
    simp only [cc0_fox_eq_skeleton]; unfold cc0_fox_skel
    simp only [k0_part33_eq_skeleton, k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%fq, %eq, Hq⟩, ⟨%fk, %ek, Hk⟩, ⟨%fv, %ev, Hv⟩, ⟨%fg, %eg, Hg⟩, ⟨%fr, %er, Hr⟩, ⟨%d, %fo, -, Ho⟩, Hd⟩
    obtain rfl := wq.eq_unread eq; obtain rfl := wk.eq_unread ek; obtain rfl := wv.eq_unread ev
    obtain rfl := wg.eq_unread eg; obtain rfl := wr.eq_unread er
    sl_exec (disch := first | sl_exact c0 | sl_exact c1 | sl_exact c2 | sl_exact c3)
    sl_step
    iapply Hd
    isplitl [Hq]
    · iexists _; isplitr; · ipureintro; exact wq.read_unread _
      iexact Hq
    isplitl [Hk]
    · iexists _; isplitr; · ipureintro; exact wk.read_unread _
      iexact Hk
    isplitl [Hv]
    · iexists _; isplitr; · ipureintro; exact wv.read_unread _
      iexact Hv
    isplitl [Hg]
    · iexists _; isplitr; · ipureintro; exact wg.read_unread _
      iexact Hg
    isplitl [Hr]
    · iexists _; isplitr; · ipureintro; exact wr.read_unread _
      iexact Hr
    iexists _; iexact Ho

end Cert.KernelIdeal.Fox

end
-- ==== Proof.Fox.Run1.lean ====
/- The body at the grid points of branch 1. -/
module

public import proofs.«01_k».proof.Proof.Fox.Common

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxHeartbeats 1000000 in
/-- The pieces the body stores at a point of branch 1, one per head, found by running it. -/
def run1 (c : Dev nD) (i : grid0.Coords) (h : Takes 1 i)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec F S1x256x1024 .bf16) (xk xv : Vec F S1x2048x1024 .bf16) (xc : Vec F S1x256x128 .f32) (xr : Vec F S1x8x2048 .f32) :
    { L : List (View.Piece (Elt F) S1x256x1024 .bf16) // Leaves c i q wq k wk v wv g wg r wr o wo xq xk xv xc xr L } := by
  have c0 : ¬(k0_cond1 i = 1#1) := by exact fun e => absurd (h.1.1 e) (by decide)
  have c1 : (k0_cond2 i = 1#1) := by exact h.2.1.2 rfl
  have c2 : ¬(k0_cond3 i = 1#1) := by exact fun e => absurd (h.2.2.1.1 e) (by decide)
  have c3 : ¬(k0_cond4 i = 1#1) := by exact fun e => absurd (h.2.2.2.1 e) (by decide)
  refine ⟨?_, fun E K => ?run⟩
  case run =>
    simp only [cc0_fox_eq_skeleton]; unfold cc0_fox_skel
    simp only [k0_part33_eq_skeleton, k0_part16_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%fq, %eq, Hq⟩, ⟨%fk, %ek, Hk⟩, ⟨%fv, %ev, Hv⟩, ⟨%fg, %eg, Hg⟩, ⟨%fr, %er, Hr⟩, ⟨%d, %fo, -, Ho⟩, Hd⟩
    obtain rfl := wq.eq_unread eq; obtain rfl := wk.eq_unread ek; obtain rfl := wv.eq_unread ev
    obtain rfl := wg.eq_unread eg; obtain rfl := wr.eq_unread er
    sl_exec (disch := first | sl_exact c0 | sl_exact c1 | sl_exact c2 | sl_exact c3)
    sl_step
    iapply Hd
    isplitl [Hq]
    · iexists _; isplitr; · ipureintro; exact wq.read_unread _
      iexact Hq
    isplitl [Hk]
    · iexists _; isplitr; · ipureintro; exact wk.read_unread _
      iexact Hk
    isplitl [Hv]
    · iexists _; isplitr; · ipureintro; exact wv.read_unread _
      iexact Hv
    isplitl [Hg]
    · iexists _; isplitr; · ipureintro; exact wg.read_unread _
      iexact Hg
    isplitl [Hr]
    · iexists _; isplitr; · ipureintro; exact wr.read_unread _
      iexact Hr
    iexists _; iexact Ho

end Cert.KernelIdeal.Fox

end
-- ==== Proof.Fox.Run2.lean ====
/- The body at the grid points of branch 2. -/
module

public import proofs.«01_k».proof.Proof.Fox.Common

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxHeartbeats 1000000 in
/-- The pieces the body stores at a point of branch 2, one per head, found by running it. -/
def run2 (c : Dev nD) (i : grid0.Coords) (h : Takes 2 i)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec F S1x256x1024 .bf16) (xk xv : Vec F S1x2048x1024 .bf16) (xc : Vec F S1x256x128 .f32) (xr : Vec F S1x8x2048 .f32) :
    { L : List (View.Piece (Elt F) S1x256x1024 .bf16) // Leaves c i q wq k wk v wv g wg r wr o wo xq xk xv xc xr L } := by
  have c0 : ¬(k0_cond1 i = 1#1) := by exact fun e => absurd (h.1.1 e) (by decide)
  have c1 : ¬(k0_cond2 i = 1#1) := by exact fun e => absurd (h.2.1.1 e) (by decide)
  have c2 : (k0_cond3 i = 1#1) := by exact h.2.2.1.2 rfl
  have c3 : ¬(k0_cond4 i = 1#1) := by exact fun e => absurd (h.2.2.2.1 e) (by decide)
  refine ⟨?_, fun E K => ?run⟩
  case run =>
    simp only [cc0_fox_eq_skeleton]; unfold cc0_fox_skel
    simp only [k0_part33_eq_skeleton, k0_part24_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%fq, %eq, Hq⟩, ⟨%fk, %ek, Hk⟩, ⟨%fv, %ev, Hv⟩, ⟨%fg, %eg, Hg⟩, ⟨%fr, %er, Hr⟩, ⟨%d, %fo, -, Ho⟩, Hd⟩
    obtain rfl := wq.eq_unread eq; obtain rfl := wk.eq_unread ek; obtain rfl := wv.eq_unread ev
    obtain rfl := wg.eq_unread eg; obtain rfl := wr.eq_unread er
    sl_exec (disch := first | sl_exact c0 | sl_exact c1 | sl_exact c2 | sl_exact c3)
    sl_step
    iapply Hd
    isplitl [Hq]
    · iexists _; isplitr; · ipureintro; exact wq.read_unread _
      iexact Hq
    isplitl [Hk]
    · iexists _; isplitr; · ipureintro; exact wk.read_unread _
      iexact Hk
    isplitl [Hv]
    · iexists _; isplitr; · ipureintro; exact wv.read_unread _
      iexact Hv
    isplitl [Hg]
    · iexists _; isplitr; · ipureintro; exact wg.read_unread _
      iexact Hg
    isplitl [Hr]
    · iexists _; isplitr; · ipureintro; exact wr.read_unread _
      iexact Hr
    iexists _; iexact Ho

end Cert.KernelIdeal.Fox

end
-- ==== Proof.Fox.Run3.lean ====
/- The body at the grid points of branch 3. -/
module

public import proofs.«01_k».proof.Proof.Fox.Common

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option maxHeartbeats 1000000 in
/-- The pieces the body stores at a point of branch 3, one per head, found by running it. -/
def run3 (c : Dev nD) (i : grid0.Coords) (h : Takes 3 i)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec F S1x256x1024 .bf16) (xk xv : Vec F S1x2048x1024 .bf16) (xc : Vec F S1x256x128 .f32) (xr : Vec F S1x8x2048 .f32) :
    { L : List (View.Piece (Elt F) S1x256x1024 .bf16) // Leaves c i q wq k wk v wv g wg r wr o wo xq xk xv xc xr L } := by
  have c0 : ¬(k0_cond1 i = 1#1) := by exact fun e => absurd (h.1.1 e) (by decide)
  have c1 : ¬(k0_cond2 i = 1#1) := by exact fun e => absurd (h.2.1.1 e) (by decide)
  have c2 : ¬(k0_cond3 i = 1#1) := by exact fun e => absurd (h.2.2.1.1 e) (by decide)
  have c3 : (k0_cond4 i = 1#1) := by exact h.2.2.2.2 rfl
  refine ⟨?_, fun E K => ?run⟩
  case run =>
    simp only [cc0_fox_eq_skeleton]; unfold cc0_fox_skel
    simp only [k0_part33_eq_skeleton, k0_part32_eq_skeleton, k0_part25_eq_skeleton, k0_part26_eq_skeleton, k0_part27_eq_skeleton, k0_part28_eq_skeleton, k0_part29_eq_skeleton, k0_part30_eq_skeleton, k0_part31_eq_skeleton]
    unfold owns
    iintro ⟨⟨%fq, %eq, Hq⟩, ⟨%fk, %ek, Hk⟩, ⟨%fv, %ev, Hv⟩, ⟨%fg, %eg, Hg⟩, ⟨%fr, %er, Hr⟩, ⟨%d, %fo, -, Ho⟩, Hd⟩
    obtain rfl := wq.eq_unread eq; obtain rfl := wk.eq_unread ek; obtain rfl := wv.eq_unread ev
    obtain rfl := wg.eq_unread eg; obtain rfl := wr.eq_unread er
    sl_exec (disch := first | sl_exact c0 | sl_exact c1 | sl_exact c2 | sl_exact c3)
    sl_step
    iapply Hd
    isplitl [Hq]
    · iexists _; isplitr; · ipureintro; exact wq.read_unread _
      iexact Hq
    isplitl [Hk]
    · iexists _; isplitr; · ipureintro; exact wk.read_unread _
      iexact Hk
    isplitl [Hv]
    · iexists _; isplitr; · ipureintro; exact wv.read_unread _
      iexact Hv
    isplitl [Hg]
    · iexists _; isplitr; · ipureintro; exact wg.read_unread _
      iexact Hg
    isplitl [Hr]
    · iexists _; isplitr; · ipureintro; exact wr.read_unread _
      iexact Hr
    iexists _; iexact Ho

end Cert.KernelIdeal.Fox

end
-- ==== Proof.Fox.Frame.lean ====
/- The forgetting attention's launch: what the body leaves at each grid point, and from that the run of the whole
   program — it terminates, its arguments end unchanged, every counter ends at zero. -/
module

public import proofs.«01_k».proof.Proof.Fox.Run0
public import proofs.«01_k».proof.Proof.Fox.Run1
public import proofs.«01_k».proof.Proof.Fox.Run2
public import proofs.«01_k».proof.Proof.Fox.Run3

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces of each branch cover the output block: one column strip of 128 per head. -/
theorem cover0 (c : Dev nD) (i : grid0.Coords) (h : Takes 0 i) (q wq k wk v wv g wg r wr o wo)
    (xq : Vec F S1x256x1024 .bf16) (xk xv xc xr) (y : S1x256x1024.Idx) :
    ∃ pc ∈ (run0 c i h q wq k wk v wv g wg r wr o wo xq xk xv xc xr).1, y ∈ pc.1.set :=
  View.cover_of_tiledL (run0 c i h q wq k wk v wv g wg r wr o wo xq xk xv xc xr).1 S1x256x128.size (by sl_kernel_rfl) y

theorem cover1 (c : Dev nD) (i : grid0.Coords) (h : Takes 1 i) (q wq k wk v wv g wg r wr o wo)
    (xq : Vec F S1x256x1024 .bf16) (xk xv xc xr) (y : S1x256x1024.Idx) :
    ∃ pc ∈ (run1 c i h q wq k wk v wv g wg r wr o wo xq xk xv xc xr).1, y ∈ pc.1.set :=
  View.cover_of_tiledL (run1 c i h q wq k wk v wv g wg r wr o wo xq xk xv xc xr).1 S1x256x128.size (by sl_kernel_rfl) y

theorem cover2 (c : Dev nD) (i : grid0.Coords) (h : Takes 2 i) (q wq k wk v wv g wg r wr o wo)
    (xq : Vec F S1x256x1024 .bf16) (xk xv xc xr) (y : S1x256x1024.Idx) :
    ∃ pc ∈ (run2 c i h q wq k wk v wv g wg r wr o wo xq xk xv xc xr).1, y ∈ pc.1.set :=
  View.cover_of_tiledL (run2 c i h q wq k wk v wv g wg r wr o wo xq xk xv xc xr).1 S1x256x128.size (by sl_kernel_rfl) y

theorem cover3 (c : Dev nD) (i : grid0.Coords) (h : Takes 3 i) (q wq k wk v wv g wg r wr o wo)
    (xq : Vec F S1x256x1024 .bf16) (xk xv xc xr) (y : S1x256x1024.Idx) :
    ∃ pc ∈ (run3 c i h q wq k wk v wv g wg r wr o wo xq xk xv xc xr).1, y ∈ pc.1.set :=
  View.cover_of_tiledL (run3 c i h q wq k wk v wv g wg r wr o wo xq xk xv xc xr).1 S1x256x128.size (by sl_kernel_rfl) y

/-- What the body stores at grid point `t`, with its triple and its covering of the block. -/
def runAt (c : Dev nD) (t : Fin cfg0.N) (n : Fin 4) (h : Takes n (grid0.coords t))
    (xq : Vec F S1x256x1024 .bf16) (xk xv : Vec F S1x2048x1024 .bf16) (xc : Vec F S1x256x128 .f32) (xr : Vec F S1x8x2048 .f32) :
    { L : List (View.Piece (Elt F) S1x256x1024 .bf16) //
      Leaves c (grid0.coords t) (mq t) (hq t) (mk t) (hk t) (mv t) (hv t) (mc t) (hcc t) (mr t) (hr t) (mo t) (ho t) xq xk xv xc xr L
        ∧ ∀ y, ∃ pc ∈ L, y ∈ pc.1.set } :=
  match n, h with
  | 0, h => ⟨_, (run0 c (grid0.coords t) h (mq t) (hq t) (mk t) (hk t) (mv t) (hv t) (mc t) (hcc t) (mr t) (hr t) (mo t) (ho t)
      xq xk xv xc xr).2, cover0 c _ h _ _ _ _ _ _ _ _ _ _ _ _ _ _ _ _ _⟩
  | 1, h => ⟨_, (run1 c (grid0.coords t) h (mq t) (hq t) (mk t) (hk t) (mv t) (hv t) (mc t) (hcc t) (mr t) (hr t) (mo t) (ho t)
      xq xk xv xc xr).2, cover1 c _ h _ _ _ _ _ _ _ _ _ _ _ _ _ _ _ _ _⟩
  | 2, h => ⟨_, (run2 c (grid0.coords t) h (mq t) (hq t) (mk t) (hk t) (mv t) (hv t) (mc t) (hcc t) (mr t) (hr t) (mo t) (ho t)
      xq xk xv xc xr).2, cover2 c _ h _ _ _ _ _ _ _ _ _ _ _ _ _ _ _ _ _⟩
  | 3, h => ⟨_, (run3 c (grid0.coords t) h (mq t) (hq t) (mk t) (hk t) (mv t) (hv t) (mc t) (hcc t) (mr t) (hr t) (mo t) (ho t)
      xq xk xv xc xr).2, cover3 c _ h _ _ _ _ _ _ _ _ _ _ _ _ _ _ _ _ _⟩

/-- A buffer of the output block's shape, through which its contents are read off the pieces. -/
abbrev vo : View sig .tc .vmem S1x256x1024 .bf16 := (Memref.whole cc0_stg5_0 : Memref sig .tc .vmem S1x256x1024 .bf16).view

/-- The run at grid point `t`, on the blocks of the memory the program starts from. -/
def pointRun (c : Dev nD) (t : Fin cfg0.N) :=
  runAt c t (branch t) (takes t) (iblk m c 0 t) (iblk m c 1 t) (iblk m c 2 t) (iblk m c 3 t) (iblk m c 4 t)

/-- The output block grid point `t` leaves. -/
def outBlk (c : Dev nD) (t : Fin cfg0.N) : Vec F S1x256x1024 .bf16 :=
  vo.read (Elt F) (vo.writes (Elt F) vo.junk (pointRun m c t).1)

/-! ## The pipeline's data -/

/-- Each array as the region finds it, each input buffer at its block, the output buffer at `outBlk`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := Pipeline.ΦA spec0 c
  q w := Pipeline.shareOf spec0 w
  owed _ := 0

theorem arr_eq (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_c (c : Dev nD) (t : Fin cfg0.N) : (dats m 0 c).after 3 t = iblk m c 3 t := by dsimp only [dats]
theorem after_r (c : Dev nD) (t : Fin cfg0.N) : (dats m 0 c).after 4 t = iblk m c 4 t := by dsimp only [dats]
theorem after_o (c : Dev nD) (t : Fin cfg0.N) : (dats m 0 c).after 5 t = outBlk m c t := by dsimp only [dats]

theorem before_q (c : Dev nD) (t : Fin cfg0.N) (d) : (dats m 0 c).before 0 t d = iblk m c 0 t :=
  before0_0_of m (dats m 0 c) (arr_eq m c 0) (after_q m c) t d
theorem before_k (c : Dev nD) (t : Fin cfg0.N) (d) : (dats m 0 c).before 1 t d = iblk m c 1 t :=
  before0_1_of m (dats m 0 c) (arr_eq m c 1) (after_k m c) t d
theorem before_v (c : Dev nD) (t : Fin cfg0.N) (d) : (dats m 0 c).before 2 t d = iblk m c 2 t :=
  before0_2_of m (dats m 0 c) (arr_eq m c 2) (after_v m c) t d
theorem before_c (c : Dev nD) (t : Fin cfg0.N) (d) : (dats m 0 c).before 3 t d = iblk m c 3 t :=
  before0_3_of m (dats m 0 c) (arr_eq m c 3) (after_c m c) t d
theorem before_r (c : Dev nD) (t : Fin cfg0.N) (d) : (dats m 0 c).before 4 t d = iblk m c 4 t :=
  before0_4_of m (dats m 0 c) (arr_eq m c 4) (after_r m c) t d

theorem leaves_q (c : Dev nD) (t : Fin cfg0.N) :
    (dats m 0 c).leavesExact 0 t = owns (c : Thread nD τ) (mq t) fullShare (iblk m c 0 t) := by
  unfold Dat.leavesExact; rw [show cfg0.idle 0 (grid0.coords t) = false from rfl, after_q]
theorem leaves_k (c : Dev nD) (t : Fin cfg0.N) :
    (dats m 0 c).leavesExact 1 t = owns (c : Thread nD τ) (mk t) fullShare (iblk m c 1 t) := by
  unfold Dat.leavesExact; rw [show cfg0.idle 1 (grid0.coords t) = false from rfl, after_k]
theorem leaves_v (c : Dev nD) (t : Fin cfg0.N) :
    (dats m 0 c).leavesExact 2 t = owns (c : Thread nD τ) (mv t) fullShare (iblk m c 2 t) := by
  unfold Dat.leavesExact; rw [show cfg0.idle 2 (grid0.coords t) = false from rfl, after_v]
theorem leaves_c (c : Dev nD) (t : Fin cfg0.N) :
    (dats m 0 c).leavesExact 3 t = owns (c : Thread nD τ) (mc t) fullShare (iblk m c 3 t) := by
  unfold Dat.leavesExact; rw [show cfg0.idle 3 (grid0.coords t) = false from rfl, after_c]
theorem leaves_r (c : Dev nD) (t : Fin cfg0.N) :
    (dats m 0 c).leavesExact 4 t = owns (c : Thread nD τ) (mr t) fullShare (iblk m c 4 t) := by
  unfold Dat.leavesExact; rw [show cfg0.idle 4 (grid0.coords t) = false from rfl, after_r]
theorem leaves_o (c : Dev nD) (t : Fin cfg0.N) :
    (dats m 0 c).leavesExact 5 t = owns (c : Thread nD τ) (mo t) fullShare (outBlk m c t) := by
  unfold Dat.leavesExact; rw [live_out t, after_o]

/-! ## The body at a grid point -/

/-- What the body starts from at point `t`. -/
def start (c : Dev nD) (t : Fin cfg0.N) : sProp 𝕄 :=
  iprop((dats m 0 c).Φ t.castSucc ∗ (dats m 0 c).owesAt () t.castSucc
    ∗ (∃ d, owns (c : Thread nD τ) (mq t) fullShare ((dats m 0 c).before 0 t d))
    ∗ (∃ d, owns (c : Thread nD τ) (mk t) fullShare ((dats m 0 c).before 1 t d))
    ∗ (∃ d, owns (c : Thread nD τ) (mv t) fullShare ((dats m 0 c).before 2 t d))
    ∗ (∃ d, owns (c : Thread nD τ) (mc t) fullShare ((dats m 0 c).before 3 t d))
    ∗ (∃ d, owns (c : Thread nD τ) (mr t) fullShare ((dats m 0 c).before 4 t d))
    ∗ (∃ d, owns (c : Thread nD τ) (mo t) fullShare ((dats m 0 c).before 5 t d)))

/-- What it ends in. -/
def finish (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem body_at (c : Dev nD) (t : Fin cfg0.N) :
    start m c t ⊢ wp frame (wpE (defs₀ (F := F)) Variants.none c none) Set.univ (bodyAt0 t) (fun _ => finish m c t) := by
  unfold start finish bodyAt0
  simp only [before_q, before_k, before_v, before_c, before_r]
  rw [show (dats m 0 c).Φ t.succ = (dats m 0 c).Φ t.castSucc from rfl,
    show (dats m 0 c).owesAt () t.succ = (dats m 0 c).owesAt () t.castSucc from rfl,
    leaves_q, leaves_k, leaves_v, leaves_c, leaves_r, leaves_o]
  iintro ⟨HΦ, Hw, ⟨%_, Hq⟩, ⟨%_, Hk⟩, ⟨%_, Hv⟩, ⟨%_, Hg⟩, ⟨%_, Hr⟩, ⟨%_, Ho⟩⟩
  iapply ((pointRun m c t).2.1 Set.univ _)
  isplitl [Hq]; · iexact Hq
  isplitl [Hk]; · iexact Hk
  isplitl [Hv]; · iexact Hv
  isplitl [Hg]; · iexact Hg
  isplitl [Hr]; · iexact Hr
  isplitl [Ho]; · iexists _; iexact Ho
  iintro ⟨Hq, Hk, Hv, Hg, Hr, ⟨%_, Ho⟩⟩
  isplitl [HΦ]; · iexact HΦ
  isplitl [Hw]; · iexact Hw
  isplitl [Hq]; · iexact Hq
  isplitl [Hk]; · iexact Hk
  isplitl [Hv]; · iexact Hv
  isplitl [Hg]; · iexact Hg
  isplitl [Hr]; · iexact Hr
  unfold owns outBlk; iexists _; isplitr
  swap; · iexact Ho
  ipureintro; exact View.read_writes_of_cover _ _ _ _ _ (pointRun m c t).2.2

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- The program terminates with every array of the launch as the data say and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := arr_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The program's frame: it terminates, its arguments end unchanged, every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (arr_eq m) (run_main m ρ)) ((θ_run defs _ _).mono (fun _ h => h.2) (run_all m ρ))

end Cert.KernelIdeal.Fox

end
-- ==== Proof.Fox.Math.lean ====
/- The mathematics of the forgetting attention on the extended reals: one query row's softmax over the keys up to its own
   position, with the weights normalised after the sum over the values (the kernel) and before it (the reference). -/
module

public import Idealize.ShloMosaic.PureOps.Ideal

@[expose] public section

noncomputable section

namespace Cert.FoxMath

open Idealize.ShloMosaic Finset

/-! ## Constants -/

theorem scale_eq : Ideal.ofBits .f32 0x3DB504F3#32 = ((11863283 / 2 ^ 27 : ℝ) : EReal) := by
  simp [Ideal.ofBits, Ideal.ieee, -EReal.coe_mul]; norm_num

theorem scale_nonneg : 0 ≤ Ideal.ofBits .f32 0x3DB504F3#32 := by
  rw [scale_eq]; exact_mod_cast (by norm_num : (0 : ℝ) ≤ 11863283 / 2 ^ 27)

theorem scale_ne_top : Ideal.ofBits .f32 0x3DB504F3#32 ≠ ⊤ := by
  rw [scale_eq]; exact EReal.coe_ne_top _

/-- The reference's floor of the sum of the weights. -/
def tiny : ℝ := 10633824 / 2 ^ 123

theorem tiny_eq : Ideal.ofBits .f32 0x0DA24260#32 = (tiny : EReal) := by
  unfold tiny; simp [Ideal.ofBits, Ideal.ieee, -EReal.coe_mul]; norm_num

theorem tiny_pos : 0 < tiny := by unfold tiny; norm_num
theorem tiny_le_one : tiny ≤ 1 := by unfold tiny; norm_num

/-! ## A finite nonnegative factor and a sum -/

theorem sum_mul_of_nonneg {ι : Type*} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih =>
    rw [sum_insert ha, sum_insert ha, EReal.right_distrib_of_nonneg_of_ne_top h0 ht, ih]

/-- Scaling the queries scales their product with a key. -/
theorem sum_scaled {ι : Type*} (s : Finset ι) (q k : ι → EReal) {r : EReal} (h0 : 0 ≤ r) (ht : r ≠ ⊤) :
    ∑ i ∈ s, q i * r * k i = (∑ i ∈ s, q i * k i) * r := by
  rw [sum_mul_of_nonneg s _ h0 ht]
  exact sum_congr rfl fun i _ => mul_right_comm _ _ _

/-! ## One row -/

/-- The scores of a row: those of the keys up to position `t`, and `⊥` from there on. -/
def masked (t : ℕ) (x : ℕ → EReal) (s : ℕ) : EReal := if s ≤ t then x s else ⊥

/-- The largest score among the first `n` keys. -/
def top (n t : ℕ) (x : ℕ → EReal) : EReal := (univ : Finset (Fin n)).fold max ⊥ fun s => masked t x s.val

/-- What the kernel leaves at a row and a column, from the first `n` keys. -/
def kernelRow (n t : ℕ) (x v : ℕ → EReal) : EReal :=
  (∑ s : Fin n, Ideal.exp (masked t x s - top n t x) * v s) * Ideal.div 1 (∑ s : Fin n, Ideal.exp (masked t x s - top n t x))

/-- A weight of the reference before it is normalised. -/
def weight (n t : ℕ) (x : ℕ → EReal) (s : ℕ) : EReal := if s ≤ t then Ideal.exp (masked t x s - top n t x) else 0

/-- What the reference leaves at a row and a column, from the first `n` keys. -/
def refRow (n t : ℕ) (x v : ℕ → EReal) : EReal :=
  ∑ s : Fin n, v s * Ideal.div (weight n t x s) (max (∑ s : Fin n, weight n t x s) (tiny : EReal))

/-- The largest score over the keys that count. -/
def peak (t : ℕ) (x : ℕ → EReal) : EReal := (range (t + 1)).sup x

theorem top_eq {n t : ℕ} (h : t < n) (x : ℕ → EReal) : top n t x = peak t x := by
  show (univ : Finset (Fin n)).sup (fun s => masked t x s.val) = (range (t + 1)).sup x
  apply le_antisymm
  · refine Finset.sup_le fun s _ => ?_
    unfold masked
    split
    · exact Finset.le_sup (f := x) (mem_range.2 (by omega))
    · exact bot_le
  · refine Finset.sup_le fun s hs => ?_
    have hs := mem_range.1 hs
    have := Finset.le_sup (f := fun s : Fin n => masked t x s.val) (mem_univ (⟨s, by omega⟩ : Fin n))
    simpa [masked, show s ≤ t by omega] using this

theorem exp_bot_sub (a : EReal) : Ideal.exp (⊥ - a) = 0 := by
  rw [sub_eq_add_neg, EReal.bot_add]; rfl

/-- A sum over the first `n` keys of terms that vanish past position `t`. -/
theorem sum_cut {n t : ℕ} (h : t < n) (f : ℕ → EReal) (hf : ∀ s, t < s → f s = 0) :
    ∑ s : Fin n, f s = ∑ s ∈ range (t + 1), f s := by
  rw [Fin.sum_univ_eq_sum_range]
  refine (sum_subset (range_subset_range.2 (by omega)) fun s _ hs => hf s ?_).symm
  have := mem_range.not.1 hs; omega

/-- The exponential of a score below the largest. -/
def rel (t : ℕ) (x : ℕ → EReal) (s : ℕ) : EReal := Ideal.exp (x s - peak t x)

theorem kernelRow_eq {n t : ℕ} (h : t < n) (x v : ℕ → EReal) :
    kernelRow n t x v = (∑ s ∈ range (t + 1), rel t x s * v s) * Ideal.div 1 (∑ s ∈ range (t + 1), rel t x s) := by
  have e0 : ∀ s, t < s → Ideal.exp (masked t x s - top n t x) = 0 := fun s hs => by
    rw [masked, if_neg (by omega), exp_bot_sub]
  have e1 : ∀ s ∈ range (t + 1), Ideal.exp (masked t x s - top n t x) = rel t x s := fun s hs => by
    have := mem_range.1 hs
    rw [masked, if_pos (by omega), top_eq h, rel]
  unfold kernelRow
  rw [sum_cut h (fun s => Ideal.exp (masked t x s - top n t x) * v s) (fun s hs => by simp only [e0 s hs, zero_mul]),
    sum_cut h (fun s => Ideal.exp (masked t x s - top n t x)) e0, sum_congr rfl e1,
    sum_congr rfl (fun s hs => by rw [e1 s hs])]

theorem refRow_eq {n t : ℕ} (h : t < n) (x v : ℕ → EReal) :
    refRow n t x v = ∑ s ∈ range (t + 1), v s * Ideal.div (rel t x s) (max (∑ s ∈ range (t + 1), rel t x s) (tiny : EReal)) := by
  have e0 : ∀ s, t < s → weight n t x s = 0 := fun s hs => by rw [weight, if_neg (by omega)]
  have e1 : ∀ s ∈ range (t + 1), weight n t x s = rel t x s := fun s hs => by
    have := mem_range.1 hs
    rw [weight, if_pos (by omega), masked, if_pos (by omega), top_eq h, rel]
  have hp : max (∑ s : Fin n, weight n t x s) (tiny : EReal) ≠ 0 :=
    (lt_max_of_lt_right (EReal.coe_pos.2 tiny_pos)).ne'
  have ez : ∀ s, t < s → v s * Ideal.div (weight n t x s) (max (∑ s : Fin n, weight n t x s) (tiny : EReal)) = 0 := fun s hs => by
    rw [e0 s hs, Ideal.div, if_neg hp, zero_mul, mul_zero]
  unfold refRow
  rw [sum_cut h _ ez, sum_cut h (weight n t x) e0, sum_congr rfl e1]
  exact sum_congr rfl fun s hs => by rw [e1 s hs]

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- Every weight vanishes where the largest score is not finite. -/
theorem rel_infinite {t : ℕ} {x : ℕ → EReal} (hp : peak t x = ⊤ ∨ peak t x = ⊥) {s : ℕ} (hs : s ∈ range (t + 1)) : rel t x s = 0 := by
  unfold rel
  rcases hp with hp | hp
  · rw [hp, sub_eq_add_neg, EReal.neg_top, EReal.add_bot]; rfl
  · have : x s = ⊥ := le_bot_iff.1 (hp ▸ Finset.le_sup (f := x) hs)
    rw [this, exp_bot_sub]

/-- Where the largest score is finite every weight is a real between zero and one, and one of them is one. -/
theorem rel_finite {t : ℕ} {x : ℕ → EReal} {p : ℝ} (hp : peak t x = p) :
    ∃ e : ℕ → ℝ, (∀ s ∈ range (t + 1), rel t x s = (e s : EReal) ∧ 0 ≤ e s) ∧ ∃ s ∈ range (t + 1), e s = 1 := by
  refine ⟨fun s => (rel t x s).toReal, fun s hs => ?_, ?_⟩
  · have hle : x s ≤ (p : EReal) := hp ▸ Finset.le_sup (f := x) hs
    have : ∃ r : ℝ, rel t x s = (r : EReal) ∧ 0 ≤ r := by
      unfold rel; rw [hp]
      induction hx : x s using EReal.rec with
      | bot => exact ⟨0, exp_bot_sub _, le_rfl⟩
      | coe a => exact ⟨Real.exp (a - p), by rw [← EReal.coe_sub]; rfl, (Real.exp_pos _).le⟩
      | top => rw [hx] at hle; exact absurd (top_le_iff.1 hle) (EReal.coe_ne_top p)
    obtain ⟨r, hr, h0⟩ := this
    simp only [hr, EReal.toReal_coe, true_and, h0]
  · obtain ⟨s, hs, he⟩ := Finset.exists_mem_eq_sup (range (t + 1)) ⟨0, by simp⟩ x
    refine ⟨s, hs, ?_⟩
    have : rel t x s = ((Real.exp (p - p) : ℝ) : EReal) := by
      unfold rel
      rw [← he, show (range (t + 1)).sup x = (p : EReal) from hp, hp, ← EReal.coe_sub]; rfl
    show (rel t x s).toReal = 1
    rw [this]; simp

/-- The two forms of a row are one: normalising after the sum over the values, or before it. -/
theorem row_eq {n n' t : ℕ} (h : t < n) (h' : t < n') (x v : ℕ → EReal) : kernelRow n t x v = refRow n' t x v := by
  rw [kernelRow_eq h, refRow_eq h']
  by_cases hp : peak t x = ⊤ ∨ peak t x = ⊥
  · have ht : max (0 : EReal) (tiny : EReal) ≠ 0 := (lt_max_of_lt_right (EReal.coe_pos.2 tiny_pos)).ne'
    rw [sum_congr rfl (fun s hs => rel_infinite hp hs), sum_const_zero,
      sum_congr rfl (g := fun _ => (0 : EReal)) (fun s hs => by rw [rel_infinite hp hs, zero_mul]), sum_const_zero, zero_mul]
    refine (sum_eq_zero fun s hs => ?_).symm
    rw [rel_infinite hp hs, Ideal.div, if_neg ht, zero_mul, mul_zero]
  · push Not at hp
    obtain ⟨p, hp⟩ : ∃ p : ℝ, peak t x = p := ⟨_, (EReal.coe_toReal hp.1 hp.2).symm⟩
    obtain ⟨e, he, s1, hs1, h1⟩ := rel_finite hp
    have hS : ∑ s ∈ range (t + 1), rel t x s = ((∑ s ∈ range (t + 1), e s : ℝ) : EReal) := by
      rw [← sum_coe]; exact sum_congr rfl fun s hs => (he s hs).1
    have hge : 1 ≤ ∑ s ∈ range (t + 1), e s := h1 ▸ single_le_sum (f := e) (fun s hs => (he s hs).2) hs1
    have hne : (∑ s ∈ range (t + 1), e s) ≠ 0 := by linarith
    have hmax : max ((∑ s ∈ range (t + 1), e s : ℝ) : EReal) (tiny : EReal) = ((∑ s ∈ range (t + 1), e s : ℝ) : EReal) :=
      max_eq_left (EReal.coe_le_coe_iff.2 (tiny_le_one.trans hge))
    rw [hS, hmax, Ideal.div_coe hne, one_mul,
      sum_mul_of_nonneg _ _ (EReal.coe_nonneg.2 (by positivity)) (EReal.coe_ne_top _)]
    refine sum_congr rfl fun s hs => ?_
    rw [Ideal.div_coe hne, ← mul_assoc, mul_comm (v s)]

/-! ## A batch element's attention -/

/-- Column `d` of head `h`. -/
def col (h : Fin 8) (d : Fin 128) : Fin 1024 := ⟨128 * h.val + d.val, by omega⟩

/-- The key at position `s`. -/
def key (s : ℕ) : Fin 2048 := ⟨s % 2048, Nat.mod_lt _ (by decide)⟩

theorem key_of {s : ℕ} (h : s < 2048) : key s = ⟨s, h⟩ := Fin.ext (Nat.mod_eq_of_lt h)

/-- The attention of one batch element at position `t`, head `h` and column `l` of the head. -/
def attend (q k v : Fin 2048 → Fin 1024 → EReal) (g : Fin 2048 → Fin 8 → EReal) (t : Fin 2048) (h : Fin 8) (l : Fin 128) : EReal :=
  refRow 2048 t.val
    (fun s => (∑ d : Fin 128, q t (col h d) * k (key s) (col h d)) * Ideal.ofBits .f32 0x3DB504F3#32 + g t h - g (key s) h)
    (fun s => v (key s) (col h l))

/-- The head of a column, and the column's place in it. -/
def headOf (e : Fin 1024) : Fin 8 := ⟨e.val / 128, by omega⟩
def placeOf (e : Fin 1024) : Fin 128 := ⟨e.val % 128, Nat.mod_lt _ (by decide)⟩

theorem col_headOf (e : Fin 1024) : col (headOf e) (placeOf e) = e :=
  Fin.ext (show 128 * (e.val / 128) + e.val % 128 = e.val by omega)

end Cert.FoxMath

end
-- ==== Proof.Fox.Strip.lean ====
/- The kernel's arithmetic at one head of one query block: each of the four spans' payloads, read at an index, is the
   row's softmax over the span's keys. -/
module

public import proofs.«01_k».proof.Proof.Gen.KernelIdeal.Skeleton
public import proofs.«01_k».proof.Proof.Fox.Math
public import Idealize.ShloMosaic.Lib.Pointwise
public import Idealize.ShloMosaic.Lib.WordCmp

@[expose] public section

set_option maxRecDepth 16384

noncomputable section

namespace Cert.KernelIdeal.Fox

open Cert.KernelIdeal.Gen Cert.FoxMath
open Idealize.ShloMosaic Idealize.ShloMosaic.TcCoe

theorem mask_bot : Named.named (F := Ideal) κ "mask" (φ := .f32) 0xF149F2CA#32 = (⊥ : EReal) :=
  IdealRules.named_const.ideal_named_scalar _ _ _ _ rfl

theorem neg_inf : Ideal.ofBits .f32 0xFF800000#32 = (⊥ : EReal) := by simp [Ideal.ofBits, Ideal.ieee]

/-- The masked score, as the kernel spells it. -/
theorem select_eq {p s : ℕ} (hp : p < 2048) (hs : s < 2048) {w : BitVec 32} (hw : w = BitVec.ofNat 32 p) (y : EReal) :
    Scalar.select (IntOp.cmpi CmpIPredicate.sle (BitVec.ofNat 32 s) w) y (Named.named (F := Ideal) κ "mask" (φ := .f32) 0xF149F2CA#32 : EReal)
      = if s ≤ p then y else ⊥ := by
  rw [hw, WordCmp.cmpi_sle_ofNat (by omega) (by omega), mask_bot]
  by_cases h : s ≤ p <;> simp [Scalar.select, h]

/-- The kernel's row, its scores and values given by functions of the key's position. -/
theorem row_of {n p : ℕ} (hp : p < 2048) (hn : n ≤ 2048) {w : BitVec 32} (hw : w = BitVec.ofNat 32 p) (x v : ℕ → EReal)
    (y u : Fin n → EReal) (hy : ∀ s, y s = x s.val) (hu : ∀ s, u s = v s.val) :
    (∑ s, Ideal.exp (Scalar.select (IntOp.cmpi CmpIPredicate.sle (BitVec.ofNat 32 s.val) w) (y s)
            (Named.named (F := Ideal) κ "mask" (φ := .f32) 0xF149F2CA#32 : EReal)
          - Finset.fold max (Ideal.ofBits FTy.f32 0xFF800000#32) (fun s => Scalar.select (IntOp.cmpi CmpIPredicate.sle (BitVec.ofNat 32 s.val) w)
              (y s) (Named.named (F := Ideal) κ "mask" (φ := .f32) 0xF149F2CA#32 : EReal)) Finset.univ) * u s)
      * Ideal.div 1 (∑ s, Ideal.exp (Scalar.select (IntOp.cmpi CmpIPredicate.sle (BitVec.ofNat 32 s.val) w) (y s)
            (Named.named (F := Ideal) κ "mask" (φ := .f32) 0xF149F2CA#32 : EReal)
          - Finset.fold max (Ideal.ofBits FTy.f32 0xFF800000#32) (fun s => Scalar.select (IntOp.cmpi CmpIPredicate.sle (BitVec.ofNat 32 s.val) w)
              (y s) (Named.named (F := Ideal) κ "mask" (φ := .f32) 0xF149F2CA#32 : EReal)) Finset.univ))
      = kernelRow n p x v := by
  have e : ∀ s : Fin n, Scalar.select (IntOp.cmpi CmpIPredicate.sle (BitVec.ofNat 32 s.val) w) (y s)
      (Named.named (F := Ideal) κ "mask" (φ := .f32) 0xF149F2CA#32 : EReal) = masked p x s.val := fun s => by
    rw [select_eq hp (by omega) hw, hy, masked]
  simp only [e, hu, neg_inf, kernelRow, top]

/-- The row's position in the sequence, as the kernel computes it. -/
theorem position (i : grid0.Coords) (r : Fin 256) : k0_pay42 i (ix2 r 0) = BitVec.ofNat 32 (256 * (i 1).val + r.val) := by
  pointwise [k0_pay42]
  apply BitVec.eq_of_toNat_eq
  have : (i 1).val < 8 := (i 1).isLt
  simp [Scalar.muli, Scalar.addi, IntOp.muli, IntOp.addi]
  omega

/-! ## A strip of the output block -/

/-- The scores of query row `r` of the block, at head `h`. -/
def score (xq : Vec Ideal S1x256x1024 .bf16) (xk : Vec Ideal S1x2048x1024 .bf16) (xc : Vec Ideal S1x256x128 .f32) (xr : Vec Ideal S1x8x2048 .f32)
    (h : Fin 8) (r : Fin 256) (s : ℕ) : EReal :=
  (∑ d : Fin 128, xq (ix3 0 r (col h d)) * xk (ix3 0 (key s) (col h d))) + xc (ix3 0 r ⟨24 + h.val, by omega⟩) - xr (ix3 0 h (key s))

/-- What the body leaves at row `r` and column `l` of head `h`, the block's first query at position `256 * j`, from the first `n` keys. -/
def strip (n j : ℕ) (xq : Vec Ideal S1x256x1024 .bf16) (xk xv : Vec Ideal S1x2048x1024 .bf16) (xc : Vec Ideal S1x256x128 .f32)
    (xr : Vec Ideal S1x8x2048 .f32) (h : Fin 8) (r : Fin 256) (l : Fin 128) : EReal :=
  kernelRow n (256 * j + r.val) (score xq xk xc xr h r) fun s => xv (ix3 0 (key s) (col h l))

set_option maxHeartbeats 1000000 in
/-- A head of the span of 512 keys. -/
theorem head0 (i : grid0.Coords) (xq : Vec Ideal S1x256x1024 .bf16) (xk xv : Vec Ideal S1x2048x1024 .bf16) (xc : Vec Ideal S1x256x128 .f32)
    (xr : Vec Ideal S1x8x2048 .f32) (h : Fin 8) (iq ik ic ir) (r : Fin 256) (l : Fin 128) :
    k0_pay4 (F := Ideal) (k0_pay3 (k0_pay42 i) (View.ld xq (Rect.unit ![0, 0, 128 * h.val] ![1, 256, 128] iq))
        (View.ld xk (Rect.unit ![0, 0, 128 * h.val] ![1, 512, 128] ik)) (View.ld xc (Rect.unit ![0, 0, 24 + h.val] ![1, 256, 1] ic))
        (View.ld xr (Rect.unit ![0, h.val, 0] ![1, 1, 512] ir)) (View.ld xv (Rect.unit ![0, 0, 128 * h.val] ![1, 512, 128] ik)))
      (ix3 0 r l) = strip 512 (i 1).val xq xk xv xc xr h r l := by
  have hi : (i 1).val < 8 := (i 1).isLt
  pointwise [k0_pay4, k0_pay3, k0_pay2]
  exact row_of (by omega) (by omega) (position i r) _ _ _ _
    (fun s => by simp only [score, col, key_of (show s.val < 2048 by omega)]) (fun s => by simp only [col, key_of (show s.val < 2048 by omega)])

set_option maxHeartbeats 1000000 in
/-- A head of the span of 1024 keys. -/
theorem head1 (i : grid0.Coords) (xq : Vec Ideal S1x256x1024 .bf16) (xk xv : Vec Ideal S1x2048x1024 .bf16) (xc : Vec Ideal S1x256x128 .f32)
    (xr : Vec Ideal S1x8x2048 .f32) (h : Fin 8) (iq ik ic ir) (r : Fin 256) (l : Fin 128) :
    k0_pay14 (F := Ideal) (k0_pay13 (k0_pay42 i) (View.ld xq (Rect.unit ![0, 0, 128 * h.val] ![1, 256, 128] iq))
        (View.ld xk (Rect.unit ![0, 0, 128 * h.val] ![1, 1024, 128] ik)) (View.ld xc (Rect.unit ![0, 0, 24 + h.val] ![1, 256, 1] ic))
        (View.ld xr (Rect.unit ![0, h.val, 0] ![1, 1, 1024] ir)) (View.ld xv (Rect.unit ![0, 0, 128 * h.val] ![1, 1024, 128] ik)))
      (ix3 0 r l) = strip 1024 (i 1).val xq xk xv xc xr h r l := by
  have hi : (i 1).val < 8 := (i 1).isLt
  pointwise [k0_pay14, k0_pay13, k0_pay12]
  exact row_of (by omega) (by omega) (position i r) _ _ _ _
    (fun s => by simp only [score, col, key_of (show s.val < 2048 by omega)]) (fun s => by simp only [col, key_of (show s.val < 2048 by omega)])

set_option maxHeartbeats 1000000 in
/-- A head of the span of 1536 keys. -/
theorem head2 (i : grid0.Coords) (xq : Vec Ideal S1x256x1024 .bf16) (xk xv : Vec Ideal S1x2048x1024 .bf16) (xc : Vec Ideal S1x256x128 .f32)
    (xr : Vec Ideal S1x8x2048 .f32) (h : Fin 8) (iq ik ic ir) (r : Fin 256) (l : Fin 128) :
    k0_pay24 (F := Ideal) (k0_pay23 (k0_pay42 i) (View.ld xq (Rect.unit ![0, 0, 128 * h.val] ![1, 256, 128] iq))
        (View.ld xk (Rect.unit ![0, 0, 128 * h.val] ![1, 1536, 128] ik)) (View.ld xc (Rect.unit ![0, 0, 24 + h.val] ![1, 256, 1] ic))
        (View.ld xr (Rect.unit ![0, h.val, 0] ![1, 1, 1536] ir)) (View.ld xv (Rect.unit ![0, 0, 128 * h.val] ![1, 1536, 128] ik)))
      (ix3 0 r l) = strip 1536 (i 1).val xq xk xv xc xr h r l := by
  have hi : (i 1).val < 8 := (i 1).isLt
  pointwise [k0_pay24, k0_pay23, k0_pay22]
  exact row_of (by omega) (by omega) (position i r) _ _ _ _
    (fun s => by simp only [score, col, key_of (show s.val < 2048 by omega)]) (fun s => by simp only [col, key_of (show s.val < 2048 by omega)])

set_option maxHeartbeats 1000000 in
/-- A head of the span of 2048 keys. -/
theorem head3 (i : grid0.Coords) (xq : Vec Ideal S1x256x1024 .bf16) (xk xv : Vec Ideal S1x2048x1024 .bf16) (xc : Vec Ideal S1x256x128 .f32)
    (xr : Vec Ideal S1x8x2048 .f32) (h : Fin 8) (iq ik ic ir) (r : Fin 256) (l : Fin 128) :
    k0_pay34 (F := Ideal) (k0_pay33 (k0_pay42 i) (View.ld xq (Rect.unit ![0, 0, 128 * h.val] ![1, 256, 128] iq))
        (View.ld xk (Rect.unit ![0, 0, 128 * h.val] ![1, 2048, 128] ik)) (View.ld xc (Rect.unit ![0, 0, 24 + h.val] ![1, 256, 1] ic))
        (View.ld xr (Rect.unit ![0, h.val, 0] ![1, 1, 2048] ir)) (View.ld xv (Rect.unit ![0, 0, 128 * h.val] ![1, 2048, 128] ik)))
      (ix3 0 r l) = strip 2048 (i 1).val xq xk xv xc xr h r l := by
  have hi : (i 1).val < 8 := (i 1).isLt
  pointwise [k0_pay34, k0_pay33, k0_pay32]
  exact row_of (by omega) (by omega) (position i r) _ _ _ _
    (fun s => by simp only [score, col, key_of (show s.val < 2048 by omega)]) (fun s => by simp only [col, key_of (show s.val < 2048 by omega)])

end Cert.KernelIdeal.Fox

end
-- ==== Proof.Fox.Pieces.lean ====
/- The pieces each branch of the body stores are the strips of the output block, head by head. -/
module

public import proofs.«01_k».proof.Proof.Fox.Frame
public import proofs.«01_k».proof.Proof.Fox.Strip
public import Idealize.ShloMosaic.Lib.Pipeline.Value

@[expose] public section

set_option maxRecDepth 16384

noncomputable section

namespace Cert.KernelIdeal.Fox

open Cert.KernelIdeal.Gen Cert.FoxMath
open Idealize.ShloMosaic Idealize.ShloMosaic.TcCoe Idealize.ShloMosaic.Tactic

/-- The output block as one function of its index: the strip of the index's head. -/
def strips (n j : ℕ) (xq : Vec Ideal S1x256x1024 .bf16) (xk xv : Vec Ideal S1x2048x1024 .bf16) (xc : Vec Ideal S1x256x128 .f32)
    (xr : Vec Ideal S1x8x2048 .f32) (y : S1x256x1024.Idx) : EReal :=
  strip n j xq xk xv xc xr ⟨(y 2).val / 128, by have : (y 2).val < 1024 := (y 2).isLt; omega⟩ (y 1) ⟨(y 2).val % 128, Nat.mod_lt _ (by decide)⟩

/-- A head's strip in the block. -/
theorem strips_emb (n j : ℕ) (xq : Vec Ideal S1x256x1024 .bf16) (xk xv : Vec Ideal S1x2048x1024 .bf16) (xc : Vec Ideal S1x256x128 .f32)
    (xr : Vec Ideal S1x8x2048 .f32) (h : Fin 8) (iq) (r : Fin 256) (l : Fin 128) :
    strips n j xq xk xv xc xr ((Rect.unit (s := S1x256x1024) ![0, 0, 128 * h.val] ![1, 256, 128] iq).emb (ix3 0 r l)) = strip n j xq xk xv xc xr h r l := by
  unfold strips
  congr 1
  · apply Fin.ext; show (128 * h.val + 1 * l.val) / 128 = h.val; omega
  · apply Fin.ext; show 0 + 1 * r.val = r.val; omega
  · apply Fin.ext; show (128 * h.val + 1 * l.val) % 128 = l.val; omega

/-- An index of a strip. -/
theorem strip_idx (x : S1x256x128.Idx) : ∃ (r : Fin 256) (l : Fin 128), x = ix3 0 r l := by
  refine ⟨x 1, x 2, ?_⟩
  funext a
  match a with
  | 0 => exact Subsingleton.elim (α := Fin 1) _ _
  | 1 => rfl
  | 2 => rfl

variable (c : Dev nD) (i : grid0.Coords)
    (q : Memref sig .tc .vmem S1x256x1024 .bf16) (wq : q.IsWhole) (k : Memref sig .tc .vmem S1x2048x1024 .bf16) (wk : k.IsWhole)
    (v : Memref sig .tc .vmem S1x2048x1024 .bf16) (wv : v.IsWhole) (g : Memref sig .tc .vmem S1x256x128 .f32) (wg : g.IsWhole)
    (r : Memref sig .tc .vmem S1x8x2048 .f32) (wr : r.IsWhole) (o : Memref sig .tc .vmem S1x256x1024 .bf16) (wo : o.IsWhole)
    (xq : Vec Ideal S1x256x1024 .bf16) (xk xv : Vec Ideal S1x2048x1024 .bf16) (xc : Vec Ideal S1x256x128 .f32) (xr : Vec Ideal S1x8x2048 .f32)

theorem pieces0 (h : Takes 0 i) : ∀ p ∈ (run0 c i h q wq k wk v wv g wg r wr o wo xq xk xv xc xr).1,
    ∀ x : p.1.shape.Idx, p.2 x = strips 512 (i 1).val xq xk xv xc xr (p.1.emb x) := by
  unfold run0; dsimp only
  sl_unfold_words
  simp only [View.readAt_eq_ld, Memref.IsWhole.read_unread]
  refine List.forall_mem_cons.2 ⟨?_, ?_⟩
  · intro x
    obtain ⟨a, l, rfl⟩ := strip_idx x
    exact (head0 i xq xk xv xc xr 7 _ _ _ _ a l).trans (strips_emb _ _ xq xk xv xc xr 7 (by decide) a l).symm
  refine List.forall_mem_cons.2 ⟨?_, ?_⟩
  · intro x
    obtain ⟨a, l, rfl⟩ := strip_idx x
    exact (head0 i xq xk xv xc xr 6 _ _ _ _ a l).trans (strips_emb _ _ xq xk xv xc xr 6 (by decide) a l).symm
  refine List.forall_mem_cons.2 ⟨?_, ?_⟩
  · intro x
    obtain ⟨a, l, rfl⟩ := strip_idx x
    exact (head0 i xq xk xv xc xr 5 _ _ _ _ a l).trans (strips_emb _ _ xq xk xv xc xr 5 (by decide) a l).symm
  refine List.forall_mem_cons.2 ⟨?_, ?_⟩
  · intro x
    obtain ⟨a, l, rfl⟩ := strip_idx x
    exact (head0 i xq xk xv xc xr 4 _ _ _ _ a l).trans (strips_emb _ _ xq xk xv xc xr 4 (by decide) a l).symm
  refine List.forall_mem_cons.2 ⟨?_, ?_⟩
  · intro x
    obtain ⟨a, l, rfl⟩ := strip_idx x
    exact (head0 i xq xk xv xc xr 3 _ _ _ _ a l).trans (strips_emb _ _ xq xk xv xc xr 3 (by decide) a l).symm
  refine List.forall_mem_cons.2 ⟨?_, ?_⟩
  · intro x
    obtain ⟨a, l, rfl⟩ := strip_idx x
    exact (head0 i xq xk xv xc xr 2 _ _ _ _ a l).trans (strips_emb _ _ xq xk xv xc xr 2 (by decide) a l).symm
  refine List.forall_mem_cons.2 ⟨?_, ?_⟩
  · intro x
    obtain ⟨a, l, rfl⟩ := strip_idx x
    exact (head0 i xq xk xv xc xr 1 _ _ _ _ a l).trans (strips_emb _ _ xq xk xv xc xr 1 (by decide) a l).symm
  refine List.forall_mem_cons.2 ⟨?_, ?_⟩
  · intro x
    obtain ⟨a, l, rfl⟩ := strip_idx x
    exact (head0 i xq xk xv xc xr 0 _ _ _ _ a l).trans (strips_emb _ _ xq xk xv xc xr 0 (by decide) a l).symm
  intro p hp; exact absurd hp (by simp)

theorem pieces1 (h : Takes 1 i) : ∀ p ∈ (run1 c i h q wq k wk v wv g wg r wr o wo xq xk xv xc xr).1,
    ∀ x : p.1.shape.Idx, p.2 x = strips 1024 (i 1).val xq xk xv xc xr (p.1.emb x) := by
  unfold run1; dsimp only
  sl_unfold_words
  simp only [View.readAt_eq_ld, Memref.IsWhole.read_unread]
  refine List.forall_mem_cons.2 ⟨?_, ?_⟩
  · intro x
    obtain ⟨a, l, rfl⟩ := strip_idx x
    exact (head1 i xq xk xv xc xr 7 _ _ _ _ a l).trans (strips_emb _ _ xq xk xv xc xr 7 (by decide) a l).symm
  refine List.forall_mem_cons.2 ⟨?_, ?_⟩
  · intro x
    obtain ⟨a, l, rfl⟩ := strip_idx x
    exact (head1 i xq xk xv xc xr 6 _ _ _ _ a l).trans (strips_emb _ _ xq xk xv xc xr 6 (by decide) a l).symm
  refine List.forall_mem_cons.2 ⟨?_, ?_⟩
  · intro x
    obtain ⟨a, l, rfl⟩ := strip_idx x
    exact (head1 i xq xk xv xc xr 5 _ _ _ _ a l).trans (strips_emb _ _ xq xk xv xc xr 5 (by decide) a l).symm
  refine List.forall_mem_cons.2 ⟨?_, ?_⟩
  · intro x
    obtain ⟨a, l, rfl⟩ := strip_idx x
    exact (head1 i xq xk xv xc xr 4 _ _ _ _ a l).trans (strips_emb _ _ xq xk xv xc xr 4 (by decide) a l).symm
  refine List.forall_mem_cons.2 ⟨?_, ?_⟩
  · intro x
    obtain ⟨a, l, rfl⟩ := strip_idx x
    exact (head1 i xq xk xv xc xr 3 _ _ _ _ a l).trans (strips_emb _ _ xq xk xv xc xr 3 (by decide) a l).symm
  refine List.forall_mem_cons.2 ⟨?_, ?_⟩
  · intro x
    obtain ⟨a, l, rfl⟩ := strip_idx x
    exact (head1 i xq xk xv xc xr 2 _ _ _ _ a l).trans (strips_emb _ _ xq xk xv xc xr 2 (by decide) a l).symm
  refine List.forall_mem_cons.2 ⟨?_, ?_⟩
  · intro x
    obtain ⟨a, l, rfl⟩ := strip_idx x
    exact (head1 i xq xk xv xc xr 1 _ _ _ _ a l).trans (strips_emb _ _ xq xk xv xc xr 1 (by decide) a l).symm
  refine List.forall_mem_cons.2 ⟨?_, ?_⟩
  · intro x
    obtain ⟨a, l, rfl⟩ := strip_idx x
    exact (head1 i xq xk xv xc xr 0 _ _ _ _ a l).trans (strips_emb _ _ xq xk xv xc xr 0 (by decide) a l).symm
  intro p hp; exact absurd hp (by simp)

theorem pieces2 (h : Takes 2 i) : ∀ p ∈ (run2 c i h q wq k wk v wv g wg r wr o wo xq xk xv xc xr).1,
    ∀ x : p.1.shape.Idx, p.2 x = strips 1536 (i 1).val xq xk xv xc xr (p.1.emb x) := by
  unfold run2; dsimp only
  sl_unfold_words
  simp only [View.readAt_eq_ld, Memref.IsWhole.read_unread]
  refine List.forall_mem_cons.2 ⟨?_, ?_⟩
  · intro x
    obtain ⟨a, l, rfl⟩ := strip_idx x
    exact (head2 i xq xk xv xc xr 7 _ _ _ _ a l).trans (strips_emb _ _ xq xk xv xc xr 7 (by decide) a l).symm
  refine List.forall_mem_cons.2 ⟨?_, ?_⟩
  · intro x
    obtain ⟨a, l, rfl⟩ := strip_idx x
    exact (head2 i xq xk xv xc xr 6 _ _ _ _ a l).trans (strips_emb _ _ xq xk xv xc xr 6 (by decide) a l).symm
  refine List.forall_mem_cons.2 ⟨?_, ?_⟩
  · intro x
    obtain ⟨a, l, rfl⟩ := strip_idx x
    exact (head2 i xq xk xv xc xr 5 _ _ _ _ a l).trans (strips_emb _ _ xq xk xv xc xr 5 (by decide) a l).symm
  refine List.forall_mem_cons.2 ⟨?_, ?_⟩
  · intro x
    obtain ⟨a, l, rfl⟩ := strip_idx x
    exact (head2 i xq xk xv xc xr 4 _ _ _ _ a l).trans (strips_emb _ _ xq xk xv xc xr 4 (by decide) a l).symm
  refine List.forall_mem_cons.2 ⟨?_, ?_⟩
  · intro x
    obtain ⟨a, l, rfl⟩ := strip_idx x
    exact (head2 i xq xk xv xc xr 3 _ _ _ _ a l).trans (strips_emb _ _ xq xk xv xc xr 3 (by decide) a l).symm
  refine List.forall_mem_cons.2 ⟨?_, ?_⟩
  · intro x
    obtain ⟨a, l, rfl⟩ := strip_idx x
    exact (head2 i xq xk xv xc xr 2 _ _ _ _ a l).trans (strips_emb _ _ xq xk xv xc xr 2 (by decide) a l).symm
  refine List.forall_mem_cons.2 ⟨?_, ?_⟩
  · intro x
    obtain ⟨a, l, rfl⟩ := strip_idx x
    exact (head2 i xq xk xv xc xr 1 _ _ _ _ a l).trans (strips_emb _ _ xq xk xv xc xr 1 (by decide) a l).symm
  refine List.forall_mem_cons.2 ⟨?_, ?_⟩
  · intro x
    obtain ⟨a, l, rfl⟩ := strip_idx x
    exact (head2 i xq xk xv xc xr 0 _ _ _ _ a l).trans (strips_emb _ _ xq xk xv xc xr 0 (by decide) a l).symm
  intro p hp; exact absurd hp (by simp)

theorem pieces3 (h : Takes 3 i) : ∀ p ∈ (run3 c i h q wq k wk v wv g wg r wr o wo xq xk xv xc xr).1,
    ∀ x : p.1.shape.Idx, p.2 x = strips 2048 (i 1).val xq xk xv xc xr (p.1.emb x) := by
  unfold run3; dsimp only
  sl_unfold_words
  simp only [View.readAt_eq_ld, Memref.IsWhole.read_unread]
  refine List.forall_mem_cons.2 ⟨?_, ?_⟩
  · intro x
    obtain ⟨a, l, rfl⟩ := strip_idx x
    exact (head3 i xq xk xv xc xr 7 _ _ _ _ a l).trans (strips_emb _ _ xq xk xv xc xr 7 (by decide) a l).symm
  refine List.forall_mem_cons.2 ⟨?_, ?_⟩
  · intro x
    obtain ⟨a, l, rfl⟩ := strip_idx x
    exact (head3 i xq xk xv xc xr 6 _ _ _ _ a l).trans (strips_emb _ _ xq xk xv xc xr 6 (by decide) a l).symm
  refine List.forall_mem_cons.2 ⟨?_, ?_⟩
  · intro x
    obtain ⟨a, l, rfl⟩ := strip_idx x
    exact (head3 i xq xk xv xc xr 5 _ _ _ _ a l).trans (strips_emb _ _ xq xk xv xc xr 5 (by decide) a l).symm
  refine List.forall_mem_cons.2 ⟨?_, ?_⟩
  · intro x
    obtain ⟨a, l, rfl⟩ := strip_idx x
    exact (head3 i xq xk xv xc xr 4 _ _ _ _ a l).trans (strips_emb _ _ xq xk xv xc xr 4 (by decide) a l).symm
  refine List.forall_mem_cons.2 ⟨?_, ?_⟩
  · intro x
    obtain ⟨a, l, rfl⟩ := strip_idx x
    exact (head3 i xq xk xv xc xr 3 _ _ _ _ a l).trans (strips_emb _ _ xq xk xv xc xr 3 (by decide) a l).symm
  refine List.forall_mem_cons.2 ⟨?_, ?_⟩
  · intro x
    obtain ⟨a, l, rfl⟩ := strip_idx x
    exact (head3 i xq xk xv xc xr 2 _ _ _ _ a l).trans (strips_emb _ _ xq xk xv xc xr 2 (by decide) a l).symm
  refine List.forall_mem_cons.2 ⟨?_, ?_⟩
  · intro x
    obtain ⟨a, l, rfl⟩ := strip_idx x
    exact (head3 i xq xk xv xc xr 1 _ _ _ _ a l).trans (strips_emb _ _ xq xk xv xc xr 1 (by decide) a l).symm
  refine List.forall_mem_cons.2 ⟨?_, ?_⟩
  · intro x
    obtain ⟨a, l, rfl⟩ := strip_idx x
    exact (head3 i xq xk xv xc xr 0 _ _ _ _ a l).trans (strips_emb _ _ xq xk xv xc xr 0 (by decide) a l).symm
  intro p hp; exact absurd hp (by simp)

/-- What the body leaves of the output block at a grid point. -/
theorem outBlk_eq (m : (ℓ : Loc nD τ sig) → Buf (Elt Ideal) ℓ) (t : Fin cfg0.N) (y : S1x256x1024.Idx) :
    outBlk m c t y = strips (512 * ((branch t).val + 1)) (grid0.coords t 1).val (iblk m c 0 t) (iblk m c 1 t) (iblk m c 2 t) (iblk m c 3 t)
      (iblk m c 4 t) y := by
  unfold outBlk
  rw [View.read_writes_junk_apply_eq_canon]
  unfold pointRun
  generalize branch t = n, takes t = h
  refine View.canon_apply_of_pieces _ _ ?_ y ((runAt c t n h _ _ _ _ _).2.2 y)
  match n, h with
  | 0, h => exact pieces0 c (grid0.coords t) _ _ _ _ _ _ _ _ _ _ (mo t) (ho t) _ _ _ _ _ h
  | 1, h => exact pieces1 c (grid0.coords t) _ _ _ _ _ _ _ _ _ _ (mo t) (ho t) _ _ _ _ _ h
  | 2, h => exact pieces2 c (grid0.coords t) _ _ _ _ _ _ _ _ _ _ (mo t) (ho t) _ _ _ _ _ h
  | 3, h => exact pieces3 c (grid0.coords t) _ _ _ _ _ _ _ _ _ _ (mo t) (ho t) _ _ _ _ _ h

end Cert.KernelIdeal.Fox

end
-- ==== Proof.Fox.Value.lean ====
/- What the kernel leaves in its result, index by index, as a function of its arguments. -/
module

public import proofs.«01_k».proof.Proof.Fox.Pieces
public import Idealize.ShloMosaic.Lib.Pipeline.ValueKit

@[expose] public section

set_option maxRecDepth 16384

noncomputable section

namespace Cert.KernelIdeal.Fox

open Cert.KernelIdeal.Gen Cert.FoxMath
open Idealize.ShloMosaic Idealize.ShloMosaic.TcCoe Idealize.ShloMosaic.Tactic
open Idealize.ShloMosaic.Pipeline (Dat)

variable (m : (ℓ : Loc nD τ sig) → Buf (Elt Ideal) ℓ) (c : Dev nD)

/-! ## The blocks of the arrays -/

theorem idx0 : ∀ t : Fin cfg0.N, win0_0.index t = ![t.val / 8, t.val % 8, 1] := by decide +kernel
theorem idx1 : ∀ t : Fin cfg0.N, win0_1.index t = ![t.val / 8, 0, 2] := by decide +kernel
theorem idx2 : ∀ t : Fin cfg0.N, win0_2.index t = ![t.val / 8, 0, 3] := by decide +kernel
theorem idx3 : ∀ t : Fin cfg0.N, win0_3.index t = ![t.val / 8, t.val % 8, 0] := by decide +kernel
theorem idx4 : ∀ t : Fin cfg0.N, win0_4.index t = ![t.val / 8, 0, 0] := by decide +kernel
theorem idx5 : ∀ t : Fin cfg0.N, win0_5.index t = ![t.val / 8, t.val % 8, 0] := by decide +kernel
theorem coord1 : ∀ t : Fin cfg0.N, (grid0.coords t 1).val = t.val % 8 := by decide +kernel

theorem lt64 (t : Fin cfg0.N) : t.val < 64 := Nat.lt_of_lt_of_eq t.isLt (by decide)

/-- The batch element of a grid point, and the position of row `r` of its query block. -/
def bat (t : Fin cfg0.N) : Fin 8 := ⟨t.val / 8, by have := lt64 t; omega⟩
def pos (t : Fin cfg0.N) (r : Fin 256) : Fin 2048 := ⟨256 * (t.val % 8) + r.val, by omega⟩

/-- The arguments: queries, keys, values and running log gates. -/
abbrev argQ : S8x2048x1024.Idx → EReal := m ((c.tc : Thread nD τ).loc main_arg1)
abbrev argK : S8x2048x1024.Idx → EReal := m ((c.tc : Thread nD τ).loc main_arg2)
abbrev argV : S8x2048x1024.Idx → EReal := m ((c.tc : Thread nD τ).loc main_arg3)
abbrev argC : S8x2048x8.Idx → EReal := m ((c.tc : Thread nD τ).loc main_arg4)

/-- The projections side by side, the queries scaled, as the host packs them. -/
def packed (a q k v : FVec Ideal S8x2048x1024 .f32) : FVec Ideal S8x2048x4096 .bf16 :=
  truncf .bf16 (concatenate S8x2048x4096 2 [⟨S8x2048x1024, a⟩,
    ⟨S8x2048x1024, mulf q (broadcastInDim S8x2048x1024 ![] bcast_S_S8x2048x1024 (constant S_ .f32 0x3DB504F3#32))⟩,
    ⟨S8x2048x1024, k⟩, ⟨S8x2048x1024, v⟩]
    concatenates_S8x2048x1024_S8x2048x1024_S8x2048x1024_S8x2048x1024_S8x2048x4096_d2) bitsLt_bf16_f32

/-- The gates in their lanes. -/
def lanes (g : FVec Ideal S8x2048x8 .f32) : FVec Ideal S8x2048x128 .f32 :=
  concatenate S8x2048x128 2 [⟨S8x2048x24, broadcastInDim S8x2048x24 ![] bcast_S_S8x2048x24 (constant S_ .f32 0x00000000#32)⟩,
    ⟨S8x2048x8, g⟩, ⟨S8x2048x96, broadcastInDim S8x2048x96 ![] bcast_S_S8x2048x96 (constant S_ .f32 0x00000000#32)⟩]
    concatenates_S8x2048x24_S8x2048x8_S8x2048x96_S8x2048x128_d2

theorem V_v3 : V m c main_v3 = packed (m ((c.tc : Thread nD τ).loc main_arg0)) (argQ m c) (argK m c) (argV m c) := by
  simp only [V, hostOps0]
  after_results_simp <;> rfl

theorem V_v6 : V m c main_v6 = lanes (argC m c) := by
  simp only [V, hostOps0]
  after_results_simp <;> rfl

theorem V_v7 : V m c main_v7 = transpose S8x8x2048 [0, 2, 1] (argC m c) transposes_S8x2048x8_S8x8x2048_0_2_1 := by
  simp only [V, hostOps0]
  after_results_simp <;> rfl

theorem packed_q (a q k v : FVec Ideal S8x2048x1024 .f32) (b : Fin 8) (t : Fin 2048) (e : Fin 1024) :
    packed a q k v (ix3 b t ⟨1024 + e.val, by omega⟩) = (q (ix3 b t e) : EReal) * Ideal.ofBits .f32 0x3DB504F3#32 := by
  pointwise [packed]

theorem packed_k (a q k v : FVec Ideal S8x2048x1024 .f32) (b : Fin 8) (t : Fin 2048) (e : Fin 1024) :
    packed a q k v (ix3 b t ⟨2048 + e.val, by omega⟩) = (k (ix3 b t e) : EReal) := by
  pointwise [packed]
  rw [dif_neg (by omega), dif_neg (by omega), dif_pos (by omega)]
  exact congrArg (fun x => k (ix3 b t x)) (Fin.ext (show 2048 + e.val - 1024 - 1024 = e.val by omega))

theorem packed_v (a q k v : FVec Ideal S8x2048x1024 .f32) (b : Fin 8) (t : Fin 2048) (e : Fin 1024) :
    packed a q k v (ix3 b t ⟨3072 + e.val, by omega⟩) = (v (ix3 b t e) : EReal) := by
  pointwise [packed]
  rw [dif_neg (by omega), dif_neg (by omega), dif_neg (by omega)]
  exact congrArg (fun x => v (ix3 b t x)) (Fin.ext (show 3072 + e.val - 1024 - 1024 - 1024 = e.val by omega))

theorem lanes_apply (g : FVec Ideal S8x2048x8 .f32) (b : Fin 8) (t : Fin 2048) (h : Fin 8) :
    lanes g (ix3 b t ⟨24 + h.val, by omega⟩) = (g (ix3 b t h) : EReal) := by
  pointwise [lanes]

theorem read_q (t : Fin cfg0.N) (r : Fin 256) (e : Fin 1024) :
    (iblk m c 0 t (ix3 0 r e) : EReal) = argQ m c (ix3 (bat t) (pos t r) e) * Ideal.ofBits .f32 0x3DB504F3#32 := by
  have : iblk m c 0 t (ix3 0 r e) = V m c main_v3 (ix3 (bat t) (pos t r) ⟨1024 + e.val, by omega⟩) := by blk_ext [iblk, V, idx0 t, bat, pos]
  rw [this, V_v3]
  exact packed_q _ _ _ _ _ _ _

theorem read_k (t : Fin cfg0.N) (s : Fin 2048) (e : Fin 1024) :
    (iblk m c 1 t (ix3 0 s e) : EReal) = argK m c (ix3 (bat t) s e) := by
  have : iblk m c 1 t (ix3 0 s e) = V m c main_v3 (ix3 (bat t) s ⟨2048 + e.val, by omega⟩) := by blk_ext [iblk, V, idx1 t, bat]
  rw [this, V_v3]
  exact packed_k _ _ _ _ _ _ _

theorem read_v (t : Fin cfg0.N) (s : Fin 2048) (e : Fin 1024) :
    (iblk m c 2 t (ix3 0 s e) : EReal) = argV m c (ix3 (bat t) s e) := by
  have : iblk m c 2 t (ix3 0 s e) = V m c main_v3 (ix3 (bat t) s ⟨3072 + e.val, by omega⟩) := by blk_ext [iblk, V, idx2 t, bat]
  rw [this, V_v3]
  exact packed_v _ _ _ _ _ _ _

theorem read_c (t : Fin cfg0.N) (r : Fin 256) (h : Fin 8) :
    (iblk m c 3 t (ix3 0 r ⟨24 + h.val, by omega⟩) : EReal) = argC m c (ix3 (bat t) (pos t r) h) := by
  have : iblk m c 3 t (ix3 0 r ⟨24 + h.val, by omega⟩) = V m c main_v6 (ix3 (bat t) (pos t r) ⟨24 + h.val, by omega⟩) := by blk_ext [iblk, V, idx3 t, bat, pos]
  rw [this, V_v6]
  exact lanes_apply _ _ _ _

theorem read_r (t : Fin cfg0.N) (h : Fin 8) (s : Fin 2048) :
    (iblk m c 4 t (ix3 0 h s) : EReal) = argC m c (ix3 (bat t) s h) := by
  have : iblk m c 4 t (ix3 0 h s) = V m c main_v7 (ix3 (bat t) h s) := by blk_ext [iblk, V, idx4 t, bat]
  rw [this, V_v7]
  pointwise

/-! ## The result -/

/-- The attention at an index of the result. -/
def fox (q k v : S8x2048x1024.Idx → EReal) (g : S8x2048x8.Idx → EReal) (y : S8x2048x1024.Idx) : EReal :=
  attend (fun s e => q (ix3 (y 0) s e)) (fun s e => k (ix3 (y 0) s e)) (fun s e => v (ix3 (y 0) s e)) (fun s h => g (ix3 (y 0) s h))
    (y 1) (headOf (y 2)) (placeOf (y 2))

/-- A point's block is the attention at the block's rows. -/
theorem strip_eq (t : Fin cfg0.N) (h : Fin 8) (r : Fin 256) (l : Fin 128) :
    strip (512 * ((branch t).val + 1)) (grid0.coords t 1).val (iblk m c 0 t) (iblk m c 1 t) (iblk m c 2 t) (iblk m c 3 t) (iblk m c 4 t) h r l
      = attend (fun s e => argQ m c (ix3 (bat t) s e)) (fun s e => argK m c (ix3 (bat t) s e)) (fun s e => argV m c (ix3 (bat t) s e))
          (fun s h => argC m c (ix3 (bat t) s h)) (pos t r) h l := by
  unfold strip attend
  have hx : score (iblk m c 0 t) (iblk m c 1 t) (iblk m c 3 t) (iblk m c 4 t) h r = fun s =>
      (∑ d : Fin 128, argQ m c (ix3 (bat t) (pos t r) (col h d)) * argK m c (ix3 (bat t) (key s) (col h d))) * Ideal.ofBits .f32 0x3DB504F3#32
        + argC m c (ix3 (bat t) (pos t r) h) - argC m c (ix3 (bat t) (key s) h) := by
    funext s
    unfold score
    rw [read_c, read_r, ← sum_scaled _ _ _ scale_nonneg scale_ne_top]
    congr 2
    exact Finset.sum_congr rfl fun d _ => by rw [read_q, read_k]
  have hv : (fun s => iblk m c 2 t (ix3 0 (key s) (col h l)) : ℕ → EReal) = fun s => argV m c (ix3 (bat t) (key s) (col h l)) :=
    funext fun s => read_v m c t _ _
  rw [hx, hv, coord1]
  have ht := lt64 t
  have hb : (branch t).val = t.val % 8 / 2 := rfl
  exact row_eq (show 256 * (t.val % 8) + r.val < _ by omega) (pos t r).isLt _ _

/-- The result array after the run. -/
theorem result_eq : (dats m 0 c).arrAt 5 cfg0.N = fox (argQ m c) (argK m c) (argV m c) (argC m c) := by
  refine (dats m 0 c).arrAt_eq_of_covers 5 _ (by decide +kernel) fun t hf y => ?_
  rw [after_o]
  refine (outBlk_eq c m t y).trans ((strip_eq m c t _ _ _).trans ?_)
  have e : ((cfg0.win 5).blk t).view.emb y = (ix3 (bat t) (pos t (y 1)) (y 2) : S8x2048x1024.Idx) := by
    blk_ext [idx5 t, bat, pos]
  rw [e]
  rfl

/-- The kernel's run, with its result named. -/
theorem run (ρ : Dev nD → PrngReg) :
    θ_run defs (onTc main) ⟨m, fun _ => 0, ρ⟩ (fun r => ∀ c : Dev nD,
      r.2.mem ((c.tc : Thread nD τ).loc main_v8) = fox (argQ m c) (argK m c) (argV m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨((h c).1 5).trans (result_eq m c), ?_⟩) (run_main m ρ)
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.KernelIdeal.Fox

end
-- ==== Proof.Fox.Reference.lean ====
/- What the reference computes, index by index. -/
module

public import proofs.«01_k».proof.Proof.Gen.ReferenceIdeal.Run
public import proofs.«01_k».proof.Proof.Fox.Math
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Fox

open Cert.ReferenceIdeal Cert.ReferenceIdeal.Gen Cert.FoxMath
open Idealize.ShloMosaic Idealize.ShloMosaic.TcCoe Idealize.ShloMosaic.Tactic

/-- The position mask. -/
def seen : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- The scores with the decay added. -/
def decayed (q k : FVec Ideal S8x2048x1024 .f32) (g : FVec Ideal S8x2048x8 .f32) : FVec Ideal S8x8x2048x2048 .f32 :=
  subf (addf (mulf (Host.dotGeneral dot_S8x2048x8x128_S8x2048x8x128_S8x8x2048x2048_3_3_1_1_02_02 none
        (shapeCast S8x2048x8x128 q shapeCasts_S8x2048x1024_S8x2048x8x128) (shapeCast S8x2048x8x128 k shapeCasts_S8x2048x1024_S8x2048x8x128))
      (broadcastInDim S8x8x2048x2048 ![] bcast_S_S8x8x2048x2048 (constant S_ .f32 0x3DB504F3#32)))
    (broadcastInDim S8x8x2048x2048 ![0, 1, 2, 3] bcast_S8x8x2048x1_S8x8x2048x2048_0_1_2_3 (broadcastInDim S8x8x2048x1 ![0, 1, 2] bcast_S8x8x2048_S8x8x2048x1_0_1_2
      (transpose S8x8x2048 [0, 2, 1] g transposes_S8x2048x8_S8x8x2048_0_2_1))))
    (broadcastInDim S8x8x2048x2048 ![0, 1, 2, 3] bcast_S8x8x1x2048_S8x8x2048x2048_0_1_2_3 (broadcastInDim S8x8x1x2048 ![0, 1, 3] bcast_S8x8x2048_S8x8x1x2048_0_1_3
      (transpose S8x8x2048 [0, 2, 1] g transposes_S8x2048x8_S8x8x2048_0_2_1)))

theorem decayed_apply (q k : FVec Ideal S8x2048x1024 .f32) (g : FVec Ideal S8x2048x8 .f32) (b h : Fin 8) (t s : Fin 2048) :
    (decayed q k g (ix4 b h t s) : EReal) = (∑ d : Fin 128, (q (ix3 b t (col h d)) : EReal) * k (ix3 b s (col h d))) * Ideal.ofBits .f32 0x3DB504F3#32
      + g (ix3 b t h) - g (ix3 b s h) := by
  pointwise [decayed, col]
  simp only [Nat.mul_comm 128]

/-- An array with its unseen places replaced. -/
def keep (x : FVec Ideal S8x8x2048x2048 .f32) (w : BitVec 32) : FVec Ideal S8x8x2048x2048 .f32 :=
  select (broadcastInDim S8x8x2048x2048 ![2, 3] bcast_S2048x2048_S8x8x2048x2048_2_3 seen) x
    (broadcastInDim S8x8x2048x2048 ![] bcast_S_S8x8x2048x2048 (id (constant S_ .f32 w)))

theorem seen_apply (t s : Fin 2048) : seen (ix2 t s) = BitVec.ofBool (decide (s.val ≤ t.val)) := by
  pointwise [seen]
  exact WordCmp.cmpi_sle_ofNat (by omega) (by omega)

theorem keep_apply (x : FVec Ideal S8x8x2048x2048 .f32) (w : BitVec 32) (b h : Fin 8) (t s : Fin 2048) :
    (keep x w (ix4 b h t s) : EReal) = if s.val ≤ t.val then (x (ix4 b h t s) : EReal) else Ideal.ofBits .f32 w := by
  pointwise [keep]
  rw [seen_apply]
  by_cases h : s.val ≤ t.val
  · simp [Scalar.select, h]
  · simp [Scalar.select, h]; rfl

/-- A per-query array spread over the keys. -/
def spread (x : FVec Ideal S8x8x2048 .f32) : FVec Ideal S8x8x2048x2048 .f32 :=
  broadcastInDim S8x8x2048x2048 ![0, 1, 2, 3] bcast_S8x8x2048x1_S8x8x2048x2048_0_1_2_3 (broadcastInDim S8x8x2048x1 ![0, 1, 2] bcast_S8x8x2048_S8x8x2048x1_0_1_2 x)

theorem spread_apply (x : FVec Ideal S8x8x2048 .f32) (b h : Fin 8) (t s : Fin 2048) : spread x (ix4 b h t s) = x (ix3 b h t) := by
  pointwise [spread]

/-- The largest score of each query. -/
def largest (x : FVec Ideal S8x8x2048x2048 .f32) : FVec Ideal S8x8x2048 .f32 :=
  Host.reduce FloatOps.maximumf x (constant S_ .f32 0xFF800000#32) reducesTo_S8x8x2048x2048_S8x8x2048_d3 h_S_

theorem neg_inf : Ideal.ofBits .f32 0xFF800000#32 = (⊥ : EReal) := by simp [Ideal.ofBits, Ideal.ieee]

theorem largest_apply (x : FVec Ideal S8x8x2048x2048 .f32) (b h : Fin 8) (t : Fin 2048) :
    (largest x (ix3 b h t) : EReal) = (Finset.univ : Finset (Fin 2048)).fold max ⊥ fun s => (x (ix4 b h t s) : EReal) := by
  pointwise [largest]
  rw [neg_inf]

/-- The weights before they are normalised. -/
def weights (x : FVec Ideal S8x8x2048x2048 .f32) : FVec Ideal S8x8x2048x2048 .f32 :=
  keep (Host.exp (subf (keep x 0xFF800000#32) (spread (largest (keep x 0xFF800000#32))))) 0x00000000#32

theorem weights_apply (x : FVec Ideal S8x8x2048x2048 .f32) (b h : Fin 8) (t s : Fin 2048) (y : ℕ → EReal)
    (hy : ∀ s : Fin 2048, (x (ix4 b h t s) : EReal) = y s.val) :
    (weights x (ix4 b h t s) : EReal) = weight 2048 t.val y s.val := by
  have hk : ∀ s : Fin 2048, (keep x 0xFF800000#32 (ix4 b h t s) : EReal) = masked t.val y s.val := fun s => by
    rw [keep_apply, hy, neg_inf, masked]
  unfold weights
  rw [keep_apply, weight, Ideal.ofBits_zero_f32]
  refine if_congr Iff.rfl ?_ rfl
  pointwise
  rw [spread_apply, largest_apply, hk]
  simp only [hk]
  rfl

/-- The sum of each query's weights, kept away from zero. -/
def floored (w : FVec Ideal S8x8x2048x2048 .f32) : FVec Ideal S8x8x2048x1 .f32 :=
  maximumf (broadcastInDim S8x8x2048x1 ![0, 1, 2] bcast_S8x8x2048_S8x8x2048x1_0_1_2
      (Host.reduceAdd w (constant S_ .f32 0x00000000#32) reducesTo_S8x8x2048x2048_S8x8x2048_d3 h_S_))
    (broadcastInDim S8x8x2048x1 ![] bcast_S_S8x8x2048x1 (constant S_ .f32 0x0DA24260#32))

theorem floored_apply (w : FVec Ideal S8x8x2048x2048 .f32) (b h : Fin 8) (t : Fin 2048) :
    (floored w (ix4 b h t 0) : EReal) = max (∑ s : Fin 2048, (w (ix4 b h t s) : EReal)) (tiny : EReal) := by
  pointwise [floored]
  rw [tiny_eq]

/-- The normalised weights summed over the values. -/
def mixed (v : FVec Ideal S8x2048x1024 .f32) (w : FVec Ideal S8x8x2048x2048 .f32) : FVec Ideal S8x2048x1024 .bf16 :=
  truncf .bf16 (shapeCast S8x2048x1024 (transpose S8x2048x8x128 [0, 3, 1, 2]
    (Host.dotGeneral dot_S8x2048x8x128_S8x8x2048x2048_S8x8x128x2048_1_3_3_2_02_01 none (shapeCast S8x2048x8x128 v shapeCasts_S8x2048x1024_S8x2048x8x128)
      (Host.divf w (broadcastInDim S8x8x2048x2048 ![0, 1, 2, 3] bcast_S8x8x2048x1_S8x8x2048x2048_0_1_2_3 (floored w))))
    transposes_S8x8x128x2048_S8x2048x8x128_0_3_1_2) shapeCasts_S8x2048x8x128_S8x2048x1024) bitsLt_bf16_f32

theorem mixed_apply (v : FVec Ideal S8x2048x1024 .f32) (w : FVec Ideal S8x8x2048x2048 .f32) (b : Fin 8) (t : Fin 2048) (e : Fin 1024) :
    (mixed v w (ix3 b t e) : EReal) = ∑ s : Fin 2048, (v (ix3 b s e) : EReal)
      * Ideal.div (w (ix4 b (headOf e) t s)) (floored w (ix4 b (headOf e) t 0)) := by
  pointwise [mixed, headOf]

/-- The reference's result is its stages composed. -/
theorem res_eq (m : (ℓ : Loc nD τ sig) → Buf (Elt Ideal) ℓ) (c : Dev nD) :
    Value.res_main_v35 m c = mixed (m ((c.tc : Thread nD τ).loc main_arg3)) (weights (decayed (m ((c.tc : Thread nD τ).loc main_arg1))
      (m ((c.tc : Thread nD τ).loc main_arg2)) (m ((c.tc : Thread nD τ).loc main_arg4)))) := by
  unfold Value.res_main_v35
  rfl

/-- The reference at an index. -/
theorem reference_apply (q k v : FVec Ideal S8x2048x1024 .f32) (g : FVec Ideal S8x2048x8 .f32) (b : Fin 8) (t : Fin 2048) (e : Fin 1024) :
    (mixed v (weights (decayed q k g)) (ix3 b t e) : EReal)
      = attend (fun s e => q (ix3 b s e)) (fun s e => k (ix3 b s e)) (fun s e => v (ix3 b s e)) (fun s h => g (ix3 b s h)) t (headOf e) (placeOf e) := by
  have hw := fun s => weights_apply (decayed q k g) b (headOf e) t s
    (fun s => (∑ d : Fin 128, (q (ix3 b t (col (headOf e) d)) : EReal) * k (ix3 b (key s) (col (headOf e) d))) * Ideal.ofBits .f32 0x3DB504F3#32
      + g (ix3 b t (headOf e)) - g (ix3 b (key s) (headOf e))) (fun s => by rw [decayed_apply, key_of s.isLt])
  rw [mixed_apply, floored_apply]
  simp only [hw]
  unfold attend refRow
  refine Finset.sum_congr rfl fun s _ => ?_
  show _ = (v (ix3 b (key s.val) (col (headOf e) (placeOf e))) : EReal) * _
  rw [key_of s.isLt, col_headOf]

end Cert.ReferenceIdeal.Fox

end
-- ==== Proof.Fox.Claims.lean ====
/- The claims about the forgetting attention. -/
module

public import proofs.«01_k».proof.Defs
public import proofs.«01_k».proof.Proof.FoxBits.Frame
public import proofs.«01_k».proof.Proof.Fox.Value
public import proofs.«01_k».proof.Proof.Fox.Reference
public import Idealize.ShloMosaic.Lib.Quiescent

@[expose] public section

set_option maxRecDepth 16384

noncomputable section

namespace Cert.Proof.Fox

open Idealize.ShloMosaic Idealize.ShloMosaic.TcCoe Idealize.SL.Sem

theorem frame_p : Cert.quiescent_Kernel := fun m ρ _ => Cert.Kernel.Fox.frame_main m ρ
theorem frame_pi : Cert.quiescent_KernelIdeal := fun m ρ _ => Cert.KernelIdeal.Fox.frame_main m ρ
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 (⊥ : EReal) rfl

/-- The reference's result is the kernel's function of the same arguments. -/
theorem result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v35 m c = Cert.KernelIdeal.Fox.fox
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg2))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4)) := by
  rw [Cert.ReferenceIdeal.Fox.res_eq]
  funext y
  obtain ⟨b, t, e, rfl⟩ : ∃ (b : Fin 8) (t : Fin 2048) (e : Fin 1024), y = ix3 b t e := by
    refine ⟨y 0, y 1, y 2, funext fun a => ?_⟩
    match a with
    | 0 => rfl
    | 1 => rfl
    | 2 => rfl
  exact Cert.ReferenceIdeal.Fox.reference_apply _ _ _ _ b t e

theorem algebraic : Cert.algebraic_KernelIdeal_ReferenceIdeal := by
  intro m ρ m' ρ' _ hagree
  refine ⟨_, Cert.KernelIdeal.Fox.run m ρ, ?_⟩
  refine (θ_run Cert.ReferenceIdeal.defs _ _).mono (fun _ h c => ⟨(h c).1.trans ?_, (h c).2⟩)
    (Cert.ReferenceIdeal.Value.run (F := Ideal) m' ρ')
  rw [result_eq, (hagree c).2.1, (hagree c).2.2.1, (hagree c).2.2.2.1, (hagree c).2.2.2.2]

end Cert.Proof.Fox

end
-- ==== Proof.Norm.Math.lean ====
/- The root-mean-square norm of one row, as the three norm calls compute it. -/
module

public import Idealize.ShloMosaic.Lib.Pointwise

@[expose] public section

noncomputable section

namespace Cert.NormMath

open Idealize.ShloMosaic

/-- Entry `j` of a row divided by the root of its mean square (the small constant added under the root), times a gain. -/
def rowNorm (x : Fin 2048 → EReal) (g : EReal) (j : Fin 2048) : EReal :=
  x j * Ideal.rsqrt (Ideal.div (∑ k : Fin 2048, x k * x k) (Ideal.ofBits .f32 0x45000000#32) + Ideal.ofBits .f32 0x358637BD#32) * g

end Cert.NormMath

end
-- ==== Proof.NormMix.Value.lean ====
/- The norm before the mixers: what the kernel leaves in its result, index by index, as a function of its arguments. -/
module

public import proofs.«01_k».proof.Proof.Gen.KernelNormMixIdeal.Value
public import proofs.«01_k».proof.Proof.Norm.Math
public import Idealize.ShloMosaic.Lib.Pipeline.ValueKit
public import Idealize.ShloMosaic.Lib.Pointwise

@[expose] public section

set_option maxRecDepth 16384

noncomputable section

namespace Cert.KernelNormMixIdeal.NormMix

open Cert.KernelNormMixIdeal.Gen
open Idealize.ShloMosaic Idealize.ShloMosaic.TcCoe Idealize.ShloMosaic.Tactic
open Idealize.ShloMosaic.Pipeline (Dat)
open Cert.NormMath

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem lt32 (t : Fin cfg0.N) : t.val < 32 := Nat.lt_of_lt_of_eq t.isLt (by decide)

/-- The arguments: the residual stream and the norm's gains. -/
abbrev argX : S8x2048x2048.Idx → EReal := m ((c.tc : Thread nD τ).loc main_arg0)
abbrev argG : S2048.Idx → EReal := m ((c.tc : Thread nD τ).loc main_arg1)

/-- The residual stream, a row for each token. -/
def rows (x : FVec Ideal S8x2048x2048 .f32) : FVec Ideal S16384x2048 .f32 := shapeCast S16384x2048 x shapeCasts_S8x2048x2048_S16384x2048

/-- The gains as a row. -/
def gainRow (g : FVec Ideal S2048 .f32) : FVec Ideal S1x2048 .f32 := shapeCast S1x2048 g shapeCasts_S2048_S1x2048

theorem V_v0 : V m c main_v0 = rows (argX m c) := by
  simp only [V, hostOps0]
  after_results_simp <;> rfl

theorem V_v1 : V m c main_v1 = gainRow (argG m c) := by
  simp only [V, hostOps0]
  after_results_simp <;> rfl

theorem rows_apply (x : FVec Ideal S8x2048x2048 .f32) (r : Fin 16384) (k : Fin 2048) :
    rows x (ix2 r k) = (x (ix3 ⟨r.val / 2048, by omega⟩ ⟨r.val % 2048, by omega⟩ k) : EReal) := by
  pointwise [rows]

theorem gainRow_apply (g : FVec Ideal S2048 .f32) (k : Fin 2048) : gainRow g (ix2 0 k) = (g (ix1 k) : EReal) := by
  pointwise [gainRow]

theorem read_x (t : Fin cfg0.N) (r : Fin 512) (k : Fin 2048) :
    (iblk m c 0 t (ix2 r k) : EReal) = argX m c (ix3 ⟨(512 * t.val + r.val) / 2048, by have := lt32 t; omega⟩ ⟨(512 * t.val + r.val) % 2048, by omega⟩ k) := by
  have : iblk m c 0 t (ix2 r k) = V m c main_v0 (ix2 ⟨512 * t.val + r.val, by have := lt32 t; omega⟩ k) := by blk_ext [iblk, V, idx0 t]
  rw [this, V_v0]
  exact rows_apply _ _ _

theorem read_g (t : Fin cfg0.N) (k : Fin 2048) : (iblk m c 1 t (ix2 0 k) : EReal) = argG m c (ix1 k) := by
  have : iblk m c 1 t (ix2 0 k) = V m c main_v1 (ix2 0 k) := by blk_ext [iblk, V, idx1 t]
  rw [this, V_v1]
  exact gainRow_apply _ _

/-- The normalised row at an index of the result. -/
def normed (x : S8x2048x2048.Idx → EReal) (g : S2048.Idx → EReal) (y : S16384x2048.Idx) : EReal :=
  rowNorm (fun k => x (ix3 ⟨(y 0).val / 2048, by have := (y 0).isLt; change _ < 16384 at this; omega⟩ ⟨(y 0).val % 2048, by omega⟩ k))
    (g (ix1 (y 1))) (y 1)

/-- What a grid point's body leaves in its block. -/
theorem block2_apply (x : Vec Ideal S512x2048 .f32) (g : Vec Ideal S1x2048 .f32) (r : Fin 512) (e : Fin 2048) :
    (out0_2 x g (ix2 r e) : EReal) = rowNorm (fun k => x (ix2 r k)) (g (ix2 0 e)) e := by
  refine (congrFun (View.canon_unit_zero (by decide) _ _) _).trans ?_
  pointwise [k0_pay1]
  rfl

theorem block2_eq (t : Fin cfg0.N) (r : Fin 512) (e : Fin 2048) :
    (out0_2 (iblk m c 0 t) (iblk m c 1 t) (ix2 r e) : EReal)
      = normed (argX m c) (argG m c) (ix2 ⟨512 * t.val + r.val, by have := lt32 t; omega⟩ e) := by
  rw [block2_apply, read_g]
  exact congrArg (rowNorm · _ e) (funext fun k => read_x m c t r k)

theorem covers2 : (cfg0.win 2).Covers := by decide +kernel

theorem emb2 (t : Fin cfg0.N) (r : Fin 512) (e : Fin 2048) : ((cfg0.win 2).blk t).view.emb (ix2 r e : S512x2048.Idx)
    = (ix2 ⟨512 * t.val + r.val, by have := lt32 t; omega⟩ e : S16384x2048.Idx) := by
  blk_ext [idx2 t]

/-- The result array after the run. -/
theorem result2_eq : (dats m 0 c).arrAt 2 cfg0.N = normed (argX m c) (argG m c) := by
  refine (dats m 0 c).arrAt_eq_of_covers 2 _ covers2 fun t hf y => ?_
  obtain ⟨r, e, rfl⟩ : ∃ (r : Fin 512) (e : Fin 2048), y = (ix2 r e : S512x2048.Idx) := ⟨y 0, y 1, eq_ix2 y⟩
  blk_simp
  rw [after0_2]
  exact (block2_eq m c t r e).trans (congrArg (normed (argX m c) (argG m c)) (emb2 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v2) = normed (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result2_eq m c), (h c).2⟩) (Value.run_blocks m ρ)

end Cert.KernelNormMixIdeal.NormMix

end
-- ==== Proof.NormMix.Claims.lean ====
/- The claims about the norm before the mixers. -/
module

public import proofs.«01_k».proof.Defs
public import proofs.«01_k».proof.Proof.NormMix.Value
public import proofs.«01_k».proof.Proof.Gen.KernelNormMix.Frame
public import proofs.«01_k».proof.Proof.Gen.ReferenceNormMixIdeal.Run
public import Idealize.ShloMosaic.Lib.Quiescent

@[expose] public section

set_option maxRecDepth 16384

noncomputable section

namespace Cert.Proof.NormMix

open Idealize.ShloMosaic Idealize.ShloMosaic.TcCoe Idealize.SL.Sem

theorem frame_p : Cert.quiescent_KernelNormMix := fun m ρ _ => Cert.KernelNormMix.Gen.frame m ρ
theorem frame_pi : Cert.quiescent_KernelNormMixIdeal := fun m ρ _ => Cert.KernelNormMixIdeal.Gen.frame m ρ
theorem frame_ri : Cert.quiescent_ReferenceNormMixIdeal := fun m ρ _ =>
  (θ_run Cert.ReferenceNormMixIdeal.defs _ _).mono (fun r h => ⟨fun c => (h c).2,
      Idealize.ShloMosaic.sem_eq_zero_of_no_sems (by decide) r.2⟩)
    (Cert.ReferenceNormMixIdeal.Value.run (F := Ideal) m ρ)

open Cert.NormMath Cert.KernelNormMixIdeal.NormMix in
theorem algebraic : Cert.algebraic_KernelNormMixIdeal_ReferenceNormMixIdeal := by
  intro m ρ m' ρ' _ hagree
  refine ⟨_, run m ρ, ?_⟩
  refine (θ_run Cert.ReferenceNormMixIdeal.defs _ _).mono (fun _ h c => ⟨(h c).1.trans ?_, (h c).2⟩)
    (Cert.ReferenceNormMixIdeal.Value.run (F := Ideal) m' ρ')
  rw [(hagree c).1, (hagree c).2]
  funext y
  obtain ⟨r, e, rfl⟩ : ∃ (r : Fin 16384) (e : Fin 2048), y = ix2 r e := ⟨y 0, y 1, eq_ix2 y⟩
  refine (rows_apply _ r e).trans ?_
  show _ = rowNorm (fun k => argX m c (ix3 ⟨r.val / 2048, by omega⟩ ⟨r.val % 2048, by omega⟩ k)) (argG m c (ix1 e)) e
  generalize (⟨r.val / 2048, _⟩ : Fin 8) = b, (⟨r.val % 2048, _⟩ : Fin 2048) = s
  pointwise
  rfl

end Cert.Proof.NormMix

end
-- ==== Proof.NormFfn.Value.lean ====
/- The norm before the experts: what the kernel leaves in its result, index by index, as a function of its arguments. -/
module

public import proofs.«01_k».proof.Proof.Gen.KernelNormFfnIdeal.Value
public import proofs.«01_k».proof.Proof.Norm.Math
public import Idealize.ShloMosaic.Lib.Pipeline.ValueKit
public import Idealize.ShloMosaic.Lib.Pointwise

@[expose] public section

set_option maxRecDepth 16384

noncomputable section

namespace Cert.KernelNormFfnIdeal.NormFfn

open Cert.KernelNormFfnIdeal.Gen
open Idealize.ShloMosaic Idealize.ShloMosaic.TcCoe Idealize.ShloMosaic.Tactic
open Idealize.ShloMosaic.Pipeline (Dat)
open Cert.NormMath

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel

theorem lt32 (t : Fin cfg0.N) : t.val < 32 := Nat.lt_of_lt_of_eq t.isLt (by decide)

/-- The arguments: the residual stream and the norm's gains. -/
abbrev argX : S8x2048x2048.Idx → EReal := m ((c.tc : Thread nD τ).loc main_arg0)
abbrev argG : S2048.Idx → EReal := m ((c.tc : Thread nD τ).loc main_arg1)

/-- The residual stream, a row for each token. -/
def rows (x : FVec Ideal S8x2048x2048 .f32) : FVec Ideal S16384x2048 .f32 := shapeCast S16384x2048 x shapeCasts_S8x2048x2048_S16384x2048

/-- The gains as a row. -/
def gainRow (g : FVec Ideal S2048 .f32) : FVec Ideal S1x2048 .f32 := shapeCast S1x2048 g shapeCasts_S2048_S1x2048

theorem V_v0 : V m c main_v0 = rows (argX m c) := by
  simp only [V, hostOps0]
  after_results_simp <;> rfl

theorem V_v1 : V m c main_v1 = gainRow (argG m c) := by
  simp only [V, hostOps0]
  after_results_simp <;> rfl

theorem rows_apply (x : FVec Ideal S8x2048x2048 .f32) (r : Fin 16384) (k : Fin 2048) :
    rows x (ix2 r k) = (x (ix3 ⟨r.val / 2048, by omega⟩ ⟨r.val % 2048, by omega⟩ k) : EReal) := by
  pointwise [rows]

theorem gainRow_apply (g : FVec Ideal S2048 .f32) (k : Fin 2048) : gainRow g (ix2 0 k) = (g (ix1 k) : EReal) := by
  pointwise [gainRow]

theorem read_x (t : Fin cfg0.N) (r : Fin 512) (k : Fin 2048) :
    (iblk m c 0 t (ix2 r k) : EReal) = argX m c (ix3 ⟨(512 * t.val + r.val) / 2048, by have := lt32 t; omega⟩ ⟨(512 * t.val + r.val) % 2048, by omega⟩ k) := by
  have : iblk m c 0 t (ix2 r k) = V m c main_v0 (ix2 ⟨512 * t.val + r.val, by have := lt32 t; omega⟩ k) := by blk_ext [iblk, V, idx0 t]
  rw [this, V_v0]
  exact rows_apply _ _ _

theorem read_g (t : Fin cfg0.N) (k : Fin 2048) : (iblk m c 1 t (ix2 0 k) : EReal) = argG m c (ix1 k) := by
  have : iblk m c 1 t (ix2 0 k) = V m c main_v1 (ix2 0 k) := by blk_ext [iblk, V, idx1 t]
  rw [this, V_v1]
  exact gainRow_apply _ _

/-- The normalised row at an index of the result. -/
def normed (x : S8x2048x2048.Idx → EReal) (g : S2048.Idx → EReal) (y : S16384x2048.Idx) : EReal :=
  rowNorm (fun k => x (ix3 ⟨(y 0).val / 2048, by have := (y 0).isLt; change _ < 16384 at this; omega⟩ ⟨(y 0).val % 2048, by omega⟩ k))
    (g (ix1 (y 1))) (y 1)

/-- What a grid point's body leaves in its block. -/
theorem block2_apply (x : Vec Ideal S512x2048 .f32) (g : Vec Ideal S1x2048 .f32) (r : Fin 512) (e : Fin 2048) :
    (out0_2 x g (ix2 r e) : EReal) = rowNorm (fun k => x (ix2 r k)) (g (ix2 0 e)) e := by
  refine (congrFun (View.canon_unit_zero (by decide) _ _) _).trans ?_
  pointwise [k0_pay2, k0_pay1]
  rfl

theorem block2_eq (t : Fin cfg0.N) (r : Fin 512) (e : Fin 2048) :
    (out0_2 (iblk m c 0 t) (iblk m c 1 t) (ix2 r e) : EReal)
      = normed (argX m c) (argG m c) (ix2 ⟨512 * t.val + r.val, by have := lt32 t; omega⟩ e) := by
  rw [block2_apply, read_g]
  exact congrArg (rowNorm · _ e) (funext fun k => read_x m c t r k)

theorem covers2 : (cfg0.win 2).Covers := by decide +kernel

theorem emb2 (t : Fin cfg0.N) (r : Fin 512) (e : Fin 2048) : ((cfg0.win 2).blk t).view.emb (ix2 r e : S512x2048.Idx)
    = (ix2 ⟨512 * t.val + r.val, by have := lt32 t; omega⟩ e : S16384x2048.Idx) := by
  blk_ext [idx2 t]

/-- The result array after the run. -/
theorem result2_eq : (dats m 0 c).arrAt 2 cfg0.N = normed (argX m c) (argG m c) := by
  refine (dats m 0 c).arrAt_eq_of_covers 2 _ covers2 fun t hf y => ?_
  obtain ⟨r, e, rfl⟩ : ∃ (r : Fin 512) (e : Fin 2048), y = (ix2 r e : S512x2048.Idx) := ⟨y 0, y 1, eq_ix2 y⟩
  blk_simp
  rw [after0_2]
  exact (block2_eq m c t r e).trans (congrArg (normed (argX m c) (argG m c)) (emb2 t r e).symm)

/-- What a grid point's body leaves in its block. -/
theorem block3_apply (x : Vec Ideal S512x2048 .f32) (g : Vec Ideal S1x2048 .f32) (r : Fin 512) (e : Fin 2048) :
    (out0_3 x g (ix2 r e) : EReal) = rowNorm (fun k => x (ix2 r k)) (g (ix2 0 e)) e := by
  refine (congrFun (View.canon_unit_zero (by decide) _ _) _).trans ?_
  pointwise [k0_pay1]
  rfl

theorem block3_eq (t : Fin cfg0.N) (r : Fin 512) (e : Fin 2048) :
    (out0_3 (iblk m c 0 t) (iblk m c 1 t) (ix2 r e) : EReal)
      = normed (argX m c) (argG m c) (ix2 ⟨512 * t.val + r.val, by have := lt32 t; omega⟩ e) := by
  rw [block3_apply, read_g]
  exact congrArg (rowNorm · _ e) (funext fun k => read_x m c t r k)

theorem covers3 : (cfg0.win 3).Covers := by decide +kernel

theorem emb3 (t : Fin cfg0.N) (r : Fin 512) (e : Fin 2048) : ((cfg0.win 3).blk t).view.emb (ix2 r e : S512x2048.Idx)
    = (ix2 ⟨512 * t.val + r.val, by have := lt32 t; omega⟩ e : S16384x2048.Idx) := by
  blk_ext [idx3 t]

/-- The result array after the run. -/
theorem result3_eq : (dats m 0 c).arrAt 3 cfg0.N = normed (argX m c) (argG m c) := by
  refine (dats m 0 c).arrAt_eq_of_covers 3 _ covers3 fun t hf y => ?_
  obtain ⟨r, e, rfl⟩ : ∃ (r : Fin 512) (e : Fin 2048), y = (ix2 r e : S512x2048.Idx) := ⟨y 0, y 1, eq_ix2 y⟩
  blk_simp
  rw [after0_3]
  exact (block3_eq m c t r e).trans (congrArg (normed (argX m c) (argG m c)) (emb3 t r e).symm)

/-- The kernel's run, with its results named. -/
theorem run (ρ : Dev nD → PrngReg) :
    θ_run defs (onTc main) ⟨m, fun _ => 0, ρ⟩ (fun r => ∀ c : Dev nD,
      r.2.mem ((c.tc : Thread nD τ).loc main_v2_0) = normed (argX m c) (argG m c)
      ∧ r.2.mem ((c.tc : Thread nD τ).loc main_v2_1) = normed (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result2_eq m c), (h c).2.1.trans (result3_eq m c), (h c).2.2⟩) (Value.run_blocks m ρ)

end Cert.KernelNormFfnIdeal.NormFfn

end
-- ==== Proof.NormFfn.Claims.lean ====
/- The claims about the norm before the experts. -/
module

public import proofs.«01_k».proof.Defs
public import proofs.«01_k».proof.Proof.NormFfn.Value
public import proofs.«01_k».proof.Proof.Gen.KernelNormFfn.Frame
public import proofs.«01_k».proof.Proof.Gen.ReferenceNormFfnIdeal.Run
public import Idealize.ShloMosaic.Lib.Quiescent

@[expose] public section

set_option maxRecDepth 16384

noncomputable section

namespace Cert.Proof.NormFfn

open Idealize.ShloMosaic Idealize.ShloMosaic.TcCoe Idealize.SL.Sem

theorem frame_p : Cert.quiescent_KernelNormFfn := fun m ρ _ => Cert.KernelNormFfn.Gen.frame m ρ
theorem frame_pi : Cert.quiescent_KernelNormFfnIdeal := fun m ρ _ => Cert.KernelNormFfnIdeal.Gen.frame m ρ
theorem frame_ri : Cert.quiescent_ReferenceNormFfnIdeal := fun m ρ _ =>
  (θ_run Cert.ReferenceNormFfnIdeal.defs _ _).mono (fun r h => ⟨fun c => (h c).2.2,
      Idealize.ShloMosaic.sem_eq_zero_of_no_sems (by decide) r.2⟩)
    (Cert.ReferenceNormFfnIdeal.Value.run (F := Ideal) m ρ)

open Cert.NormMath Cert.KernelNormFfnIdeal.NormFfn in
theorem algebraic : Cert.algebraic_KernelNormFfnIdeal_ReferenceNormFfnIdeal := by
  intro m ρ m' ρ' _ hagree
  refine ⟨_, _, run m ρ, ?_⟩
  refine (θ_run Cert.ReferenceNormFfnIdeal.defs _ _).mono (fun _ h c => ⟨(h c).1.trans ?_, (h c).2.1.trans ?_, (h c).2.2⟩)
    (Cert.ReferenceNormFfnIdeal.Value.run (F := Ideal) m' ρ')
  · rw [(hagree c).1, (hagree c).2]
    funext y
    obtain ⟨r, e, rfl⟩ : ∃ (r : Fin 16384) (e : Fin 2048), y = ix2 r e := ⟨y 0, y 1, eq_ix2 y⟩
    refine (rows_apply _ r e).trans ?_
    show _ = rowNorm (fun k => argX m c (ix3 ⟨r.val / 2048, by omega⟩ ⟨r.val % 2048, by omega⟩ k)) (argG m c (ix1 e)) e
    generalize (⟨r.val / 2048, _⟩ : Fin 8) = b, (⟨r.val % 2048, _⟩ : Fin 2048) = s
    pointwise
    rfl
  · rw [(hagree c).1, (hagree c).2]
    funext y
    obtain ⟨r, e, rfl⟩ : ∃ (r : Fin 16384) (e : Fin 2048), y = ix2 r e := ⟨y 0, y 1, eq_ix2 y⟩
    refine (rows_apply _ r e).trans ?_
    show _ = rowNorm (fun k => argX m c (ix3 ⟨r.val / 2048, by omega⟩ ⟨r.val % 2048, by omega⟩ k)) (argG m c (ix1 e)) e
    generalize (⟨r.val / 2048, _⟩ : Fin 8) = b, (⟨r.val % 2048, _⟩ : Fin 2048) = s
    pointwise
    rfl

end Cert.Proof.NormFfn

end
-- ==== Proof.NormFinal.Value.lean ====
/- The layer's last norm: what the kernel leaves in its result, index by index, as a function of its arguments. -/
module

public import proofs.«01_k».proof.Proof.Gen.KernelNormFinalIdeal.Value
public import proofs.«01_k».proof.Proof.Norm.Math
public import Idealize.ShloMosaic.Lib.Pipeline.ValueKit
public import Idealize.ShloMosaic.Lib.Pointwise

@[expose] public section

set_option maxRecDepth 16384

noncomputable section

namespace Cert.KernelNormFinalIdeal.NormFinal

open Cert.KernelNormFinalIdeal.Gen
open Idealize.ShloMosaic Idealize.ShloMosaic.TcCoe Idealize.ShloMosaic.Tactic
open Idealize.ShloMosaic.Pipeline (Dat)
open Cert.NormMath

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem lt32 (t : Fin cfg0.N) : t.val < 32 := Nat.lt_of_lt_of_eq t.isLt (by decide)

/-- The arguments: the residual stream and the norm's gains. -/
abbrev argX : S8x2048x2048.Idx → EReal := m ((c.tc : Thread nD τ).loc main_arg0)
abbrev argG : S2048.Idx → EReal := m ((c.tc : Thread nD τ).loc main_arg1)

/-- The residual stream, a row for each token. -/
def rows (x : FVec Ideal S8x2048x2048 .f32) : FVec Ideal S16384x2048 .f32 := shapeCast S16384x2048 x shapeCasts_S8x2048x2048_S16384x2048

/-- The gains as a row. -/
def gainRow (g : FVec Ideal S2048 .f32) : FVec Ideal S1x2048 .f32 := shapeCast S1x2048 g shapeCasts_S2048_S1x2048

theorem V_v0 : V m c main_v0 = rows (argX m c) := by
  simp only [V, hostOps0]
  after_results_simp <;> rfl

theorem V_v1 : V m c main_v1 = gainRow (argG m c) := by
  simp only [V, hostOps0]
  after_results_simp <;> rfl

theorem rows_apply (x : FVec Ideal S8x2048x2048 .f32) (r : Fin 16384) (k : Fin 2048) :
    rows x (ix2 r k) = (x (ix3 ⟨r.val / 2048, by omega⟩ ⟨r.val % 2048, by omega⟩ k) : EReal) := by
  pointwise [rows]

theorem gainRow_apply (g : FVec Ideal S2048 .f32) (k : Fin 2048) : gainRow g (ix2 0 k) = (g (ix1 k) : EReal) := by
  pointwise [gainRow]

theorem read_x (t : Fin cfg0.N) (r : Fin 512) (k : Fin 2048) :
    (iblk m c 0 t (ix2 r k) : EReal) = argX m c (ix3 ⟨(512 * t.val + r.val) / 2048, by have := lt32 t; omega⟩ ⟨(512 * t.val + r.val) % 2048, by omega⟩ k) := by
  have : iblk m c 0 t (ix2 r k) = V m c main_v0 (ix2 ⟨512 * t.val + r.val, by have := lt32 t; omega⟩ k) := by blk_ext [iblk, V, idx0 t]
  rw [this, V_v0]
  exact rows_apply _ _ _

theorem read_g (t : Fin cfg0.N) (k : Fin 2048) : (iblk m c 1 t (ix2 0 k) : EReal) = argG m c (ix1 k) := by
  have : iblk m c 1 t (ix2 0 k) = V m c main_v1 (ix2 0 k) := by blk_ext [iblk, V, idx1 t]
  rw [this, V_v1]
  exact gainRow_apply _ _

/-- The normalised row at an index of the result. -/
def normed (x : S8x2048x2048.Idx → EReal) (g : S2048.Idx → EReal) (y : S16384x2048.Idx) : EReal :=
  rowNorm (fun k => x (ix3 ⟨(y 0).val / 2048, by have := (y 0).isLt; change _ < 16384 at this; omega⟩ ⟨(y 0).val % 2048, by omega⟩ k))
    (g (ix1 (y 1))) (y 1)

/-- What a grid point's body leaves in its block. -/
theorem block2_apply (x : Vec Ideal S512x2048 .f32) (g : Vec Ideal S1x2048 .f32) (r : Fin 512) (e : Fin 2048) :
    (out0_2 x g (ix2 r e) : EReal) = rowNorm (fun k => x (ix2 r k)) (g (ix2 0 e)) e := by
  refine (congrFun (View.canon_unit_zero (by decide) _ _) _).trans ?_
  pointwise [k0_pay1]
  rfl

theorem block2_eq (t : Fin cfg0.N) (r : Fin 512) (e : Fin 2048) :
    (out0_2 (iblk m c 0 t) (iblk m c 1 t) (ix2 r e) : EReal)
      = normed (argX m c) (argG m c) (ix2 ⟨512 * t.val + r.val, by have := lt32 t; omega⟩ e) := by
  rw [block2_apply, read_g]
  exact congrArg (rowNorm · _ e) (funext fun k => read_x m c t r k)

theorem covers2 : (cfg0.win 2).Covers := by decide +kernel

theorem emb2 (t : Fin cfg0.N) (r : Fin 512) (e : Fin 2048) : ((cfg0.win 2).blk t).view.emb (ix2 r e : S512x2048.Idx)
    = (ix2 ⟨512 * t.val + r.val, by have := lt32 t; omega⟩ e : S16384x2048.Idx) := by
  blk_ext [idx2 t]

/-- The result array after the run. -/
theorem result2_eq : (dats m 0 c).arrAt 2 cfg0.N = normed (argX m c) (argG m c) := by
  refine (dats m 0 c).arrAt_eq_of_covers 2 _ covers2 fun t hf y => ?_
  obtain ⟨r, e, rfl⟩ : ∃ (r : Fin 512) (e : Fin 2048), y = (ix2 r e : S512x2048.Idx) := ⟨y 0, y 1, eq_ix2 y⟩
  blk_simp
  rw [after0_2]
  exact (block2_eq m c t r e).trans (congrArg (normed (argX m c) (argG m c)) (emb2 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v2) = normed (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result2_eq m c), (h c).2⟩) (Value.run_blocks m ρ)

end Cert.KernelNormFinalIdeal.NormFinal

end
-- ==== Proof.NormFinal.Claims.lean ====
/- The claims about the layer's last norm. -/
module

public import proofs.«01_k».proof.Defs
public import proofs.«01_k».proof.Proof.NormFinal.Value
public import proofs.«01_k».proof.Proof.Gen.KernelNormFinal.Frame
public import proofs.«01_k».proof.Proof.Gen.ReferenceNormFinalIdeal.Run
public import Idealize.ShloMosaic.Lib.Quiescent

@[expose] public section

set_option maxRecDepth 16384

noncomputable section

namespace Cert.Proof.NormFinal

open Idealize.ShloMosaic Idealize.ShloMosaic.TcCoe Idealize.SL.Sem

theorem frame_p : Cert.quiescent_KernelNormFinal := fun m ρ _ => Cert.KernelNormFinal.Gen.frame m ρ
theorem frame_pi : Cert.quiescent_KernelNormFinalIdeal := fun m ρ _ => Cert.KernelNormFinalIdeal.Gen.frame m ρ
theorem frame_ri : Cert.quiescent_ReferenceNormFinalIdeal := fun m ρ _ =>
  (θ_run Cert.ReferenceNormFinalIdeal.defs _ _).mono (fun r h => ⟨fun c => (h c).2,
      Idealize.ShloMosaic.sem_eq_zero_of_no_sems (by decide) r.2⟩)
    (Cert.ReferenceNormFinalIdeal.Value.run (F := Ideal) m ρ)

open Cert.NormMath Cert.KernelNormFinalIdeal.NormFinal in
theorem algebraic : Cert.algebraic_KernelNormFinalIdeal_ReferenceNormFinalIdeal := by
  intro m ρ m' ρ' _ hagree
  refine ⟨_, run m ρ, ?_⟩
  refine (θ_run Cert.ReferenceNormFinalIdeal.defs _ _).mono (fun _ h c => ⟨(h c).1.trans ?_, (h c).2⟩)
    (Cert.ReferenceNormFinalIdeal.Value.run (F := Ideal) m' ρ')
  rw [(hagree c).1, (hagree c).2]
  funext y
  obtain ⟨r, e, rfl⟩ : ∃ (r : Fin 16384) (e : Fin 2048), y = ix2 r e := ⟨y 0, y 1, eq_ix2 y⟩
  refine (rows_apply _ r e).trans ?_
  show _ = rowNorm (fun k => argX m c (ix3 ⟨r.val / 2048, by omega⟩ ⟨r.val % 2048, by omega⟩ k)) (argG m c (ix1 e)) e
  generalize (⟨r.val / 2048, _⟩ : Fin 8) = b, (⟨r.val % 2048, _⟩ : Fin 2048) = s
  pointwise
  rfl

end Cert.Proof.NormFinal

end
-- ==== Proof.Plain.Value.lean ====
/- The unrotated projections: what the kernel leaves in its result, index by index, as a function of its arguments. -/
module

public import proofs.«01_k».proof.Proof.Gen.KernelPlainIdeal.Value
public import Idealize.ShloMosaic.Lib.Pipeline.ValueKit
public import Idealize.ShloMosaic.Lib.Pointwise

@[expose] public section

set_option maxRecDepth 16384

noncomputable section

namespace Cert.KernelPlainIdeal.Plain

open Cert.KernelPlainIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![t.val / 4, t.val % 4] := by decide +kernel
theorem coord1 : ∀ t : Fin cfg0.N, (grid0.coords t 1).val = t.val % 4 := by decide +kernel

theorem lt64 (t : Fin cfg0.N) : t.val < 64 := Nat.lt_of_lt_of_eq t.isLt (by decide)

/-- The arguments: the normalised activations and the input projection's weights. -/
abbrev argH : S8x2048x2048.Idx → EReal := m ((c.tc : Thread nD τ).loc main_arg0)
abbrev argW : S2048x9760.Idx → EReal := m ((c.tc : Thread nD τ).loc main_arg1)

/-- The columns of the weights that the call takes, side by side. -/
def packed (w : FVec Ideal S2048x9760 .f32) : FVec Ideal S2048x4096 .bf16 :=
  truncf .bf16 (concatenate S2048x4096 1 [⟨S2048x256, extractStridedSlice S2048x256 ![0, 1024] w slices_S2048x9760_S2048x256_0_1024⟩,
    ⟨S2048x256, extractStridedSlice S2048x256 ![0, 1280] w slices_S2048x9760_S2048x256_0_1280⟩,
    ⟨S2048x256, extractStridedSlice S2048x256 ![0, 1792] w slices_S2048x9760_S2048x256_0_1792⟩,
    ⟨S2048x256, extractStridedSlice S2048x256 ![0, 2304] w slices_S2048x9760_S2048x256_0_2304⟩,
    ⟨S2048x1024, extractStridedSlice S2048x1024 ![0, 2584] w slices_S2048x9760_S2048x1024_0_2584⟩,
    ⟨S2048x1024, extractStridedSlice S2048x1024 ![0, 3608] w slices_S2048x9760_S2048x1024_0_3608⟩,
    ⟨S2048x1024, extractStridedSlice S2048x1024 ![0, 4632] w slices_S2048x9760_S2048x1024_0_4632⟩]
    concatenates_S2048x256_S2048x256_S2048x256_S2048x256_S2048x1024_S2048x1024_S2048x1024_S2048x4096_d1) bitsLt_bf16_f32

theorem V_v15 : V m c main_v15 = packed (argW m c) := by
  simp only [V, hostOps0]
  after_results_simp <;> rfl

/-- The activations, a row for each token. -/
def rows (h : FVec Ideal S8x2048x2048 .f32) : FVec Ideal S16384x2048 .bf16 :=
  truncf .bf16 (shapeCast S16384x2048 h shapeCasts_S8x2048x2048_S16384x2048) bitsLt_bf16_f32

theorem V_v17 : V m c main_v17 = rows (argH m c) := by
  simp only [V, hostOps0]
  after_results_simp <;> rfl

theorem rows_apply (h : FVec Ideal S8x2048x2048 .f32) (r : Fin 16384) (k : Fin 2048) :
    rows h (ix2 r k) = (h (ix3 ⟨r.val / 2048, by omega⟩ ⟨r.val % 2048, by omega⟩ k) : EReal) := by
  pointwise [rows]

/-- The column of the weights that lies at column `e` of the packed ones. -/
def src (e : ℕ) : ℕ := if e < 512 then e + 1024 else if e < 768 then e + 1280 else if e < 1024 then e + 1536 else e + 1560

theorem packed_apply (w : FVec Ideal S2048x9760 .f32) (k : Fin 2048) (e : Fin 4096) :
    packed w (ix2 k e) = (w (ix2 k ⟨src e.val, by unfold src; split_ifs <;> omega⟩) : EReal) := by
  pointwise [packed]
  split_ifs <;> exact congrArg (fun x => w (ix2 k x)) (Fin.ext (by simp [src]; split_ifs <;> omega))

theorem read_h (t : Fin cfg0.N) (r : Fin 1024) (k : Fin 2048) :
    (iblk m c 0 t (ix2 r k) : EReal) = argH m c (ix3 ⟨(1024 * (t.val / 4) + r.val) / 2048, by have := lt64 t; omega⟩ ⟨(1024 * (t.val / 4) + r.val) % 2048, by omega⟩ k) := by
  have : iblk m c 0 t (ix2 r k) = V m c main_v17 (ix2 ⟨1024 * (t.val / 4) + r.val, by have := lt64 t; omega⟩ k) := by blk_ext [iblk, V, idx0 t]
  rw [this, V_v17]
  exact rows_apply _ _ _

theorem read_w (t : Fin cfg0.N) (k : Fin 2048) (e : Fin 1024) :
    (iblk m c 1 t (ix2 k e) : EReal) = argW m c (ix2 k ⟨src (1024 * (t.val % 4) + e.val), by unfold src; split_ifs <;> omega⟩) := by
  have : iblk m c 1 t (ix2 k e) = V m c main_v15 (ix2 k ⟨1024 * (t.val % 4) + e.val, by omega⟩) := by blk_ext [iblk, V, idx1 t]
  rw [this, V_v15]
  exact packed_apply _ _ _

theorem pay_apply (i : grid0.Coords) (x : Vec Ideal S1024x2048 .bf16) (w : Vec Ideal S2048x1024 .bf16) (r : Fin 1024) (e : Fin 1024) :
    (k0_pay1 i (View.ld x r0_0) (View.ld w r0_1) (ix2 r e) : EReal) = (∑ k : Fin 2048, (x (ix2 r k) : EReal) * w (ix2 k e)) *
      (if (i 1).val = 1 then Ideal.ofBits .f32 0x3DB504F3#32 else 1) := by
  pointwise [k0_pay1]
  congr 1
  have : ∀ j : Fin 4, Scalar.andi (Scalar.cmpi CmpIPredicate.sge (BitVec.ofNat 32 j.val) 1#32)
      (Scalar.cmpi CmpIPredicate.slt (BitVec.ofNat 32 j.val) 2#32) = if j.val = 1 then 1#1 else 0#1 := by decide
  rw [this (i 1)]
  split_ifs <;> rfl

/-- What a grid point's body leaves in its block. -/
theorem block_apply (i : grid0.Coords) (x : Vec Ideal S1024x2048 .bf16) (w : Vec Ideal S2048x1024 .bf16) (r : Fin 1024) (e : Fin 1024) :
    (out0_2 i x w (ix2 r e) : EReal) = (∑ k : Fin 2048, (x (ix2 r k) : EReal) * w (ix2 k e)) *
      (if (i 1).val = 1 then Ideal.ofBits .f32 0x3DB504F3#32 else 1) :=
  (congrFun (View.canon_unit_zero (by decide) _ _) _).trans (pay_apply i x w r e)

/-- The projection at an index of the result: the product of a row of the activations and a column of the weights, the
    forgetting attention's queries scaled. -/
def proj (h : S8x2048x2048.Idx → EReal) (w : S2048x9760.Idx → EReal) (y : S16384x4096.Idx) : EReal :=
  (∑ k : Fin 2048, h (ix3 ⟨(y 0).val / 2048, by have := (y 0).isLt; change _ < 16384 at this; omega⟩ ⟨(y 0).val % 2048, by omega⟩ k)
      * w (ix2 k ⟨src (y 1).val, by have := (y 1).isLt; change _ < 4096 at this; unfold src; split_ifs <;> omega⟩))
    * if 1024 ≤ (y 1).val ∧ (y 1).val < 2048 then Ideal.ofBits .f32 0x3DB504F3#32 else 1

theorem proj_unscaled (h : S8x2048x2048.Idx → EReal) (w : S2048x9760.Idx → EReal) (r : Fin 16384) (e : Fin 4096) (s : Fin 9760)
    (hs : s.val = src e.val) (hn : ¬ (1024 ≤ e.val ∧ e.val < 2048)) :
    (∑ k : Fin 2048, h (ix3 ⟨r.val / 2048, by omega⟩ ⟨r.val % 2048, by omega⟩ k) * w (ix2 k s)) = proj h w (ix2 r e) := by
  obtain ⟨s, p⟩ := s
  obtain rfl : s = src e.val := hs
  exact ((congrArg (_ * ·) (if_neg hn)).trans (mul_one _)).symm

theorem proj_scaled (h : S8x2048x2048.Idx → EReal) (w : S2048x9760.Idx → EReal) (r : Fin 16384) (e : Fin 4096) (s : Fin 9760)
    (hs : s.val = src e.val) (hn : 1024 ≤ e.val ∧ e.val < 2048) :
    (∑ k : Fin 2048, h (ix3 ⟨r.val / 2048, by omega⟩ ⟨r.val % 2048, by omega⟩ k) * w (ix2 k s)) * Ideal.ofBits .f32 0x3DB504F3#32
      = proj h w (ix2 r e) := by
  obtain ⟨s, p⟩ := s
  obtain rfl : s = src e.val := hs
  exact (congrArg (_ * ·) (if_pos hn)).symm

/-- A grid point's block is the projection at the block's place. -/
theorem block_eq (t : Fin cfg0.N) (r e : Fin 1024) :
    (out0_2 (grid0.coords t) (iblk m c 0 t) (iblk m c 1 t) (ix2 r e) : EReal)
      = proj (argH m c) (argW m c) (ix2 ⟨1024 * (t.val / 4) + r.val, by have := lt64 t; omega⟩ ⟨1024 * (t.val % 4) + e.val, by omega⟩) := by
  rw [block_apply, coord1]
  refine congrArg₂ (fun a b : EReal => a * b) (Finset.sum_congr rfl fun k _ => ?_) (if_congr ?_ rfl rfl)
  · rw [read_h, read_w]
    rfl
  · show t.val % 4 = 1 ↔ 1024 ≤ 1024 * (t.val % 4) + e.val ∧ 1024 * (t.val % 4) + e.val < 2048
    omega

theorem covers : (cfg0.win 2).Covers := by decide +kernel

theorem emb2 (t : Fin cfg0.N) (r e : Fin 1024) : ((cfg0.win 2).blk t).view.emb (ix2 r e : S1024x1024.Idx)
    = (ix2 ⟨1024 * (t.val / 4) + r.val, by have := lt64 t; omega⟩ ⟨1024 * (t.val % 4) + e.val, by omega⟩ : S16384x4096.Idx) := by
  blk_ext [idx2 t]

/-- The result array after the run. -/
theorem result_eq : (dats m 0 c).arrAt 2 cfg0.N = proj (argH m c) (argW m c) := by
  refine (dats m 0 c).arrAt_eq_of_covers 2 _ covers fun t hf y => ?_
  obtain ⟨r, e, rfl⟩ : ∃ r e : Fin 1024, y = (ix2 r e : S1024x1024.Idx) := ⟨y 0, y 1, eq_ix2 y⟩
  blk_simp
  rw [after0_2]
  exact (block_eq m c t r e).trans (congrArg (proj (argH m c) (argW m c)) (emb2 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v18) = proj (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Value.run_blocks m ρ)

end Cert.KernelPlainIdeal.Plain

end
-- ==== Proof.Plain.Claims.lean ====
/- The claims about the unrotated projections. -/
module

public import proofs.«01_k».proof.Defs
public import proofs.«01_k».proof.Proof.Plain.Value
public import proofs.«01_k».proof.Proof.Gen.KernelPlain.Frame
public import proofs.«01_k».proof.Proof.Gen.ReferencePlainIdeal.Run
public import Idealize.ShloMosaic.Lib.Quiescent

@[expose] public section

set_option maxRecDepth 16384

noncomputable section

namespace Cert.Proof.Plain

open Idealize.ShloMosaic Idealize.ShloMosaic.TcCoe Idealize.SL.Sem

theorem frame_p : Cert.quiescent_KernelPlain := fun m ρ _ => Cert.KernelPlain.Gen.frame m ρ
theorem frame_pi : Cert.quiescent_KernelPlainIdeal := fun m ρ _ => Cert.KernelPlainIdeal.Gen.frame m ρ
theorem frame_ri : Cert.quiescent_ReferencePlainIdeal := fun m ρ _ =>
  (θ_run Cert.ReferencePlainIdeal.defs _ _).mono (fun r h => ⟨fun c => (h c).2,
      Idealize.ShloMosaic.sem_eq_zero_of_no_sems (by decide) r.2⟩)
    (Cert.ReferencePlainIdeal.Value.run (F := Ideal) m ρ)

open Cert.KernelPlainIdeal.Plain in
theorem algebraic : Cert.algebraic_KernelPlainIdeal_ReferencePlainIdeal := by
  intro m ρ m' ρ' _ hagree
  refine ⟨_, run m ρ, ?_⟩
  refine (θ_run Cert.ReferencePlainIdeal.defs _ _).mono (fun _ h c => ⟨(h c).1.trans ?_, (h c).2⟩)
    (Cert.ReferencePlainIdeal.Value.run (F := Ideal) m' ρ')
  rw [(hagree c).1, (hagree c).2]
  funext y
  obtain ⟨r, e, rfl⟩ : ∃ (r : Fin 16384) (e : Fin 4096), y = ix2 r e := ⟨y 0, y 1, eq_ix2 y⟩
  pointwise
  split_ifs <;> first
    | exact proj_unscaled _ _ r e _ (by simp [src]; split_ifs <;> omega) (by omega)
    | exact proj_scaled _ _ r e _ (by simp [src]; split_ifs <;> omega) (by omega)

end Cert.Proof.Plain

end
-- ==== Proof.Gate.Value.lean ====
/- The merge gates: what the kernel leaves in its result, index by index, as a function of its arguments. -/
module

public import proofs.«01_k».proof.Proof.Gen.KernelGateIdeal.Value
public import Idealize.ShloMosaic.Lib.Pipeline.ValueKit
public import Idealize.ShloMosaic.Lib.Pointwise

@[expose] public section

set_option maxRecDepth 16384

noncomputable section

namespace Cert.KernelGateIdeal.Gate

open Cert.KernelGateIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![0, t.val % 4] := by decide +kernel
theorem idx2 : ∀ t : Fin cfg0.N, win0_2.index t = ![0, t.val % 4] := by decide +kernel
theorem idx3 : ∀ t : Fin cfg0.N, win0_3.index t = ![t.val / 4, t.val % 4] := by decide +kernel

theorem lt64 (t : Fin cfg0.N) : t.val < 64 := Nat.lt_of_lt_of_eq t.isLt (by decide)

/-- The arguments: the normalised activations, the input projection's weights and the gates' bias. -/
abbrev argH : S8x2048x2048.Idx → EReal := m ((c.tc : Thread nD τ).loc main_arg0)
abbrev argW : S2048x9760.Idx → EReal := m ((c.tc : Thread nD τ).loc main_arg1)
abbrev argB : S4096.Idx → EReal := m ((c.tc : Thread nD τ).loc main_arg2)

/-- The two gates' columns of the weights, side by side. -/
def packed (w : FVec Ideal S2048x9760 .f32) : FVec Ideal S2048x4096 .bf16 :=
  truncf .bf16 (concatenate S2048x4096 1 [⟨S2048x2048, extractStridedSlice S2048x2048 ![0, 5664] w slices_S2048x9760_S2048x2048_0_5664⟩,
    ⟨S2048x2048, extractStridedSlice S2048x2048 ![0, 7712] w slices_S2048x9760_S2048x2048_0_7712⟩]
    concatenates_S2048x2048_S2048x2048_S2048x4096_d1) bitsLt_bf16_f32

/-- The activations, a row for each token. -/
def rows (h : FVec Ideal S8x2048x2048 .f32) : FVec Ideal S16384x2048 .bf16 :=
  truncf .bf16 (shapeCast S16384x2048 h shapeCasts_S8x2048x2048_S16384x2048) bitsLt_bf16_f32

/-- The bias as a row. -/
def biasRow (b : FVec Ideal S4096 .f32) : FVec Ideal S1x4096 .f32 := shapeCast S1x4096 b shapeCasts_S4096_S1x4096

theorem V_v15 : V m c main_v15 = packed (argW m c) := by
  simp only [V, hostOps0]
  after_results_simp <;> rfl

theorem V_v17 : V m c main_v17 = rows (argH m c) := by
  simp only [V, hostOps0]
  after_results_simp <;> rfl

theorem V_v18 : V m c main_v18 = biasRow (argB m c) := by
  simp only [V, hostOps0]
  after_results_simp <;> rfl

theorem rows_apply (h : FVec Ideal S8x2048x2048 .f32) (r : Fin 16384) (k : Fin 2048) :
    rows h (ix2 r k) = (h (ix3 ⟨r.val / 2048, by omega⟩ ⟨r.val % 2048, by omega⟩ k) : EReal) := by
  pointwise [rows]

theorem packed_apply (w : FVec Ideal S2048x9760 .f32) (k : Fin 2048) (e : Fin 4096) :
    packed w (ix2 k e) = (w (ix2 k ⟨e.val + 5664, by omega⟩) : EReal) := by
  pointwise [packed]
  split_ifs <;> exact congrArg (fun x => w (ix2 k x)) (Fin.ext (by simp; try omega))

theorem biasRow_apply (b : FVec Ideal S4096 .f32) (e : Fin 4096) : biasRow b (ix2 0 e) = (b (ix1 e) : EReal) := by
  pointwise [biasRow]

theorem read_h (t : Fin cfg0.N) (r : Fin 1024) (k : Fin 2048) :
    (iblk m c 0 t (ix2 r k) : EReal) = argH m c (ix3 ⟨(1024 * (t.val / 4) + r.val) / 2048, by have := lt64 t; omega⟩ ⟨(1024 * (t.val / 4) + r.val) % 2048, by omega⟩ k) := by
  have : iblk m c 0 t (ix2 r k) = V m c main_v17 (ix2 ⟨1024 * (t.val / 4) + r.val, by have := lt64 t; omega⟩ k) := by blk_ext [iblk, V, idx0 t]
  rw [this, V_v17]
  exact rows_apply _ _ _

theorem read_w (t : Fin cfg0.N) (k : Fin 2048) (e : Fin 1024) :
    (iblk m c 1 t (ix2 k e) : EReal) = argW m c (ix2 k ⟨1024 * (t.val % 4) + e.val + 5664, by omega⟩) := by
  have : iblk m c 1 t (ix2 k e) = V m c main_v15 (ix2 k ⟨1024 * (t.val % 4) + e.val, by omega⟩) := by blk_ext [iblk, V, idx1 t]
  rw [this, V_v15]
  exact packed_apply _ _ _

theorem read_b (t : Fin cfg0.N) (e : Fin 1024) :
    (iblk m c 2 t (ix2 0 e) : EReal) = argB m c (ix1 ⟨1024 * (t.val % 4) + e.val, by omega⟩) := by
  have : iblk m c 2 t (ix2 0 e) = V m c main_v18 (ix2 0 ⟨1024 * (t.val % 4) + e.val, by omega⟩) := by blk_ext [iblk, V, idx2 t]
  rw [this, V_v18]
  exact biasRow_apply _ _

/-- What a grid point's body leaves in its block. -/
theorem block_apply (x : Vec Ideal S1024x2048 .bf16) (w : Vec Ideal S2048x1024 .bf16) (b : Vec Ideal S1x1024 .f32) (r e : Fin 1024) :
    (out0_3 x w b (ix2 r e) : EReal) = Ideal.logistic ((∑ k : Fin 2048, (x (ix2 r k) : EReal) * w (ix2 k e)) + b (ix2 0 e)) := by
  refine (congrFun (View.canon_unit_zero (by decide) _ _) _).trans ?_
  pointwise [k0_pay1]

/-- The gate at an index of the result: the sigmoid of the product of a row of the activations and a column of the weights,
    plus the bias. -/
def gate (h : S8x2048x2048.Idx → EReal) (w : S2048x9760.Idx → EReal) (b : S4096.Idx → EReal) (y : S16384x4096.Idx) : EReal :=
  Ideal.logistic ((∑ k : Fin 2048, h (ix3 ⟨(y 0).val / 2048, by have := (y 0).isLt; change _ < 16384 at this; omega⟩ ⟨(y 0).val % 2048, by omega⟩ k)
      * w (ix2 k ⟨(y 1).val + 5664, by have := (y 1).isLt; change _ < 4096 at this; omega⟩)) + b (ix1 (y 1)))

theorem gate_of (h : S8x2048x2048.Idx → EReal) (w : S2048x9760.Idx → EReal) (b : S4096.Idx → EReal) (r : Fin 16384) (e : Fin 4096)
    (s : Fin 9760) (u : Fin 4096) (hs : s.val = e.val + 5664) (hu : u = e) :
    Ideal.div 1 (1 + Ideal.exp (-((∑ k : Fin 2048, h (ix3 ⟨r.val / 2048, by omega⟩ ⟨r.val % 2048, by omega⟩ k) * w (ix2 k s)) + b (ix1 u))))
      = gate h w b (ix2 r e) := by
  obtain ⟨s, p⟩ := s
  obtain rfl : s = e.val + 5664 := hs
  rw [hu]
  rfl

/-- A grid point's block is the gate at the block's place. -/
theorem block_eq (t : Fin cfg0.N) (r e : Fin 1024) :
    (out0_3 (iblk m c 0 t) (iblk m c 1 t) (iblk m c 2 t) (ix2 r e) : EReal)
      = gate (argH m c) (argW m c) (argB m c) (ix2 ⟨1024 * (t.val / 4) + r.val, by have := lt64 t; omega⟩ ⟨1024 * (t.val % 4) + e.val, by omega⟩) := by
  rw [block_apply]
  refine congrArg Ideal.logistic (congrArg₂ (fun a b : EReal => a + b) (Finset.sum_congr rfl fun k _ => ?_) (read_b m c t e))
  rw [read_h, read_w]
  rfl

theorem covers : (cfg0.win 3).Covers := by decide +kernel

theorem emb3 (t : Fin cfg0.N) (r e : Fin 1024) : ((cfg0.win 3).blk t).view.emb (ix2 r e : S1024x1024.Idx)
    = (ix2 ⟨1024 * (t.val / 4) + r.val, by have := lt64 t; omega⟩ ⟨1024 * (t.val % 4) + e.val, by omega⟩ : S16384x4096.Idx) := by
  blk_ext [idx3 t]

/-- The result array after the run. -/
theorem result_eq : (dats m 0 c).arrAt 3 cfg0.N = gate (argH m c) (argW m c) (argB m c) := by
  refine (dats m 0 c).arrAt_eq_of_covers 3 _ covers fun t hf y => ?_
  obtain ⟨r, e, rfl⟩ : ∃ r e : Fin 1024, y = (ix2 r e : S1024x1024.Idx) := ⟨y 0, y 1, eq_ix2 y⟩
  blk_simp
  rw [after0_3]
  exact (block_eq m c t r e).trans (congrArg (gate (argH m c) (argW m c) (argB m c)) (emb3 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v19) = gate (argH m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (Value.run_blocks m ρ)

end Cert.KernelGateIdeal.Gate

end
-- ==== Proof.Gate.Claims.lean ====
/- The claims about the merge gates. -/
module

public import proofs.«01_k».proof.Defs
public import proofs.«01_k».proof.Proof.Gate.Value
public import proofs.«01_k».proof.Proof.Gen.KernelGate.Frame
public import proofs.«01_k».proof.Proof.Gen.ReferenceGateIdeal.Run
public import Idealize.ShloMosaic.Lib.Quiescent

@[expose] public section

set_option maxRecDepth 16384

noncomputable section

namespace Cert.Proof.Gate

open Idealize.ShloMosaic Idealize.ShloMosaic.TcCoe Idealize.SL.Sem

theorem frame_p : Cert.quiescent_KernelGate := fun m ρ _ => Cert.KernelGate.Gen.frame m ρ
theorem frame_pi : Cert.quiescent_KernelGateIdeal := fun m ρ _ => Cert.KernelGateIdeal.Gen.frame m ρ
theorem frame_ri : Cert.quiescent_ReferenceGateIdeal := fun m ρ _ =>
  (θ_run Cert.ReferenceGateIdeal.defs _ _).mono (fun r h => ⟨fun c => (h c).2,
      Idealize.ShloMosaic.sem_eq_zero_of_no_sems (by decide) r.2⟩)
    (Cert.ReferenceGateIdeal.Value.run (F := Ideal) m ρ)

open Cert.KernelGateIdeal.Gate in
theorem algebraic : Cert.algebraic_KernelGateIdeal_ReferenceGateIdeal := by
  intro m ρ m' ρ' _ hagree
  refine ⟨_, run m ρ, ?_⟩
  refine (θ_run Cert.ReferenceGateIdeal.defs _ _).mono (fun _ h c => ⟨(h c).1.trans ?_, (h c).2⟩)
    (Cert.ReferenceGateIdeal.Value.run (F := Ideal) m' ρ')
  rw [(hagree c).1, (hagree c).2.1, (hagree c).2.2]
  funext y
  obtain ⟨r, e, rfl⟩ : ∃ (r : Fin 16384) (e : Fin 4096), y = ix2 r e := ⟨y 0, y 1, eq_ix2 y⟩
  pointwise
  split_ifs <;> exact gate_of _ _ _ r e _ _ (by simp; try omega) (Fin.ext (by simp; try omega))

end Cert.Proof.Gate

end
-- ==== Proof.Rope.Value.lean ====
/- The rotated projections: what the kernel leaves in its result, index by index, as a function of its arguments. -/
module

public import proofs.«01_k».proof.Proof.Gen.KernelRopeIdeal.Value
public import Idealize.ShloMosaic.Lib.Pipeline.ValueKit
public import Idealize.ShloMosaic.Lib.Pointwise

@[expose] public section

set_option maxRecDepth 16384

noncomputable section

namespace Cert.KernelRopeIdeal.Rope

open Cert.KernelRopeIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val / 3, 0] := by decide +kernel
theorem idx1 : ∀ t : Fin cfg0.N, win0_1.index t = ![0, t.val % 3] := by decide +kernel
theorem idx2 : ∀ t : Fin cfg0.N, win0_2.index t = ![t.val / 3 % 2, 0] := by decide +kernel
theorem idx3 : ∀ t : Fin cfg0.N, win0_3.index t = ![t.val / 3 % 2, 0] := by decide +kernel
theorem idx4 : ∀ t : Fin cfg0.N, win0_4.index t = ![t.val / 3, t.val % 3] := by decide +kernel
theorem coord1 : ∀ t : Fin cfg0.N, (grid0.coords t 1).val = t.val % 3 := by decide +kernel

theorem lt48 (t : Fin cfg0.N) : t.val < 48 := Nat.lt_of_lt_of_eq t.isLt (by decide)

/-- The arguments: the normalised activations and the input projection's weights. -/
abbrev argH : S8x2048x2048.Idx → EReal := m ((c.tc : Thread nD τ).loc main_arg0)
abbrev argW : S2048x9760.Idx → EReal := m ((c.tc : Thread nD τ).loc main_arg1)

/-- The columns of the weights that the call takes, side by side. -/
def packed (w : FVec Ideal S2048x9760 .f32) : FVec Ideal S2048x1536 .bf16 :=
  truncf .bf16 (concatenate S2048x1536 1 [⟨S2048x1024, extractStridedSlice S2048x1024 ![0, 0] w slices_S2048x9760_S2048x1024_0_0⟩,
    ⟨S2048x256, extractStridedSlice S2048x256 ![0, 1536] w slices_S2048x9760_S2048x256_0_1536⟩,
    ⟨S2048x256, extractStridedSlice S2048x256 ![0, 2048] w slices_S2048x9760_S2048x256_0_2048⟩]
    concatenates_S2048x1024_S2048x256_S2048x256_S2048x1536_d1) bitsLt_bf16_f32

theorem V_v15 : V m c main_v15 = packed (argW m c) := by
  simp only [V, hostOps0]
  after_results_simp <;> rfl

/-- The activations, a row for each token. -/
def rows (h : FVec Ideal S8x2048x2048 .f32) : FVec Ideal S16384x2048 .bf16 :=
  truncf .bf16 (shapeCast S16384x2048 h shapeCasts_S8x2048x2048_S16384x2048) bitsLt_bf16_f32

theorem V_v17 : V m c main_v17 = rows (argH m c) := by
  simp only [V, hostOps0]
  after_results_simp <;> rfl

theorem rows_apply (h : FVec Ideal S8x2048x2048 .f32) (r : Fin 16384) (k : Fin 2048) :
    rows h (ix2 r k) = (h (ix3 ⟨r.val / 2048, by omega⟩ ⟨r.val % 2048, by omega⟩ k) : EReal) := by
  pointwise [rows]

/-- The column of the weights that lies at column `e` of the packed ones. -/
def src (e : ℕ) : ℕ := if e < 1024 then e else if e < 1280 then e + 512 else e + 768

theorem packed_apply (w : FVec Ideal S2048x9760 .f32) (k : Fin 2048) (e : Fin 1536) :
    packed w (ix2 k e) = (w (ix2 k ⟨src e.val, by unfold src; split_ifs <;> omega⟩) : EReal) := by
  pointwise [packed]
  split_ifs <;> exact congrArg (fun x => w (ix2 k x)) (Fin.ext (by simp [src]; try (split_ifs <;> omega)))

/-! The rotation's angles and the tables of their cosines and sines, each for both halves of a head. -/

def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

def cosTable : FVec Ideal S2048x128 .f32 :=
  concatenate S2048x128 1 [⟨S2048x64, Host.cos angles⟩, ⟨S2048x64, Host.cos angles⟩] concatenates_S2048x64_S2048x64_S2048x128_d1

def sinTable : FVec Ideal S2048x128 .f32 :=
  concatenate S2048x128 1 [⟨S2048x64, Host.negf (Host.sin angles)⟩, ⟨S2048x64, Host.sin angles⟩] concatenates_S2048x64_S2048x64_S2048x128_d1

theorem V_v37 : V m c main_v37 = cosTable := by
  simp only [V, hostOps0]
  after_results_simp <;> rfl

theorem V_v39 : V m c main_v39 = sinTable := by
  simp only [V, hostOps0]
  after_results_simp <;> rfl

theorem cosTable_apply (s : Fin 2048) (l : Fin 128) :
    cosTable (ix2 s l) = (Ideal.cos (angles (ix2 s ⟨l.val % 64, by omega⟩)) : EReal) := by
  pointwise [cosTable]
  split_ifs <;> exact congrArg (fun x => Ideal.cos (angles (ix2 s x))) (Fin.ext (by dsimp only; omega))

theorem sinTable_apply (s : Fin 2048) (l : Fin 128) :
    sinTable (ix2 s l) = (if l.val < 64 then - Ideal.sin (angles (ix2 s ⟨l.val % 64, by omega⟩)) else Ideal.sin (angles (ix2 s ⟨l.val % 64, by omega⟩)) : EReal) := by
  pointwise [sinTable]
  split_ifs <;> first
    | exact congrArg (fun x => - Ideal.sin (angles (ix2 s x))) (Fin.ext (by dsimp only; omega))
    | exact congrArg (fun x => Ideal.sin (angles (ix2 s x))) (Fin.ext (by dsimp only; omega))

/-- The angle of position `s` at a head's column `d`: the position over the base to the power of twice the column over the head's width. -/
def angle (s : Fin 2048) (d : Fin 64) : EReal :=
  (FloatOps.sitofp (F := Ideal) .f32 (BitVec.ofNat 32 s.val) : EReal) * Ideal.pow (Ideal.ofBits .f32 0x461C4000#32)
    (Ideal.div (-(Ideal.ofBits .f32 0x40000000#32 * (FloatOps.sitofp (F := Ideal) .f32 (BitVec.ofNat 32 d.val) : EReal))) (Ideal.ofBits .f32 0x43000000#32))

theorem angles_apply (s : Fin 2048) (d : Fin 64) : (angles (ix2 s d) : EReal) = angle s d := by
  pointwise [angles]
  rfl

theorem read_h (t : Fin cfg0.N) (r : Fin 1024) (k : Fin 2048) :
    (iblk m c 0 t (ix2 r k) : EReal) = argH m c (ix3 ⟨(1024 * (t.val / 3) + r.val) / 2048, by have := lt48 t; omega⟩ ⟨(1024 * (t.val / 3) + r.val) % 2048, by omega⟩ k) := by
  have : iblk m c 0 t (ix2 r k) = V m c main_v17 (ix2 ⟨1024 * (t.val / 3) + r.val, by have := lt48 t; omega⟩ k) := by blk_ext [iblk, V, idx0 t]
  rw [this, V_v17]
  exact rows_apply _ _ _

theorem read_w (t : Fin cfg0.N) (k : Fin 2048) (e : Fin 512) :
    (iblk m c 1 t (ix2 k e) : EReal) = argW m c (ix2 k ⟨src (512 * (t.val % 3) + e.val), by unfold src; split_ifs <;> omega⟩) := by
  have : iblk m c 1 t (ix2 k e) = V m c main_v15 (ix2 k ⟨512 * (t.val % 3) + e.val, by omega⟩) := by blk_ext [iblk, V, idx1 t]
  rw [this, V_v15]
  exact packed_apply _ _ _

theorem read_cos (t : Fin cfg0.N) (r : Fin 1024) (l : Fin 128) :
    (iblk m c 2 t (ix2 r l) : EReal) = cosTable (ix2 ⟨1024 * (t.val / 3 % 2) + r.val, by omega⟩ l) := by
  rw [← V_v37 m c]
  blk_ext [iblk, V, idx2 t]

theorem read_sin (t : Fin cfg0.N) (r : Fin 1024) (l : Fin 128) :
    (iblk m c 3 t (ix2 r l) : EReal) = sinTable (ix2 ⟨1024 * (t.val / 3 % 2) + r.val, by omega⟩ l) := by
  rw [← V_v39 m c]
  blk_ext [iblk, V, idx3 t]

section Block

variable (i : grid0.Coords) (x : Vec Ideal S1024x2048 .bf16) (w : Vec Ideal S2048x512 .bf16) (co si : Vec Ideal S1024x128 .f32)

theorem acc_apply (r : Fin 1024) (e : Fin 512) :
    (k0_pay2 i (View.ld x r0_0) (View.ld w r0_1) (ix2 r e) : EReal) = (∑ k : Fin 2048, (x (ix2 r k) : EReal) * w (ix2 k e)) *
      (if (i 1).val < 2 then Ideal.ofBits .f32 0x3DB504F3#32 else 1) := by
  pointwise [k0_pay2]
  congr 1
  have : ∀ j : Fin 3, Scalar.andi (Scalar.cmpi CmpIPredicate.sge (BitVec.ofNat 32 j.val) 0#32)
      (Scalar.cmpi CmpIPredicate.slt (BitVec.ofNat 32 j.val) 2#32) = if j.val < 2 then 1#1 else 0#1 := by decide
  rw [this (i 1)]
  split_ifs <;> rfl

/-- The rotated block: each head's column and its partner half a head away, by the cosine and the signed sine. -/
def turned (a : Vec Ideal S1024x512 .f32) (y : S1024x512.Idx) : EReal :=
  (a y : EReal) * co (ix2 (y 0) ⟨(y 1).val % 128, by omega⟩)
    + (a (ix2 (y 0) ⟨128 * ((y 1).val / 128) + ((y 1).val % 128 + 64) % 128, by have := (y 1).isLt; change _ < 512 at this; omega⟩) : EReal)
      * si (ix2 (y 0) ⟨(y 1).val % 128, by omega⟩)

theorem turned_at (a : Vec Ideal S1024x512 .f32) (r : Fin 1024) (l : Fin 128) (j : ℕ) (e e' : Fin 512) (he : e.val = 128 * j + l.val)
    (he' : e'.val = 128 * j + (l.val + 128 - 64) % 128) :
    ((a (ix2 r e) : EReal) * co (ix2 r l) + (a (ix2 r e') : EReal) * si (ix2 r l)) = turned co si a (ix2 r e) := by
  have h2 : e' = ⟨128 * (e.val / 128) + (e.val % 128 + 64) % 128, by clear he he'; omega⟩ := Fin.ext (by show e'.val = 128 * (e.val / 128) + (e.val % 128 + 64) % 128; omega)
  have hl : l = ⟨e.val % 128, by clear he he'; omega⟩ := Fin.ext (by show l.val = e.val % 128; omega)
  refine congrArg₂ (fun a b : EReal => a + b) (congrArg (fun x => (a (ix2 r e) : EReal) * co (ix2 r x)) hl) ?_
  exact congrArg₂ (fun x z => (a (ix2 r x) : EReal) * si (ix2 r z)) h2 hl

theorem strip_idx (z : S1024x128.Idx) : ∃ (r : Fin 1024) (l : Fin 128), z = ix2 r l := ⟨z 0, z 1, eq_ix2 z⟩

theorem emb_strip0 (r : Fin 1024) (l : Fin 128) :
    r0_3.emb (ix2 r l : S1024x128.Idx) = (ix2 r ⟨128 * 0 + l.val, by omega⟩ : S1024x512.Idx) := by blk_ext [r0_3]

theorem emb_strip1 (r : Fin 1024) (l : Fin 128) :
    r0_4.emb (ix2 r l : S1024x128.Idx) = (ix2 r ⟨128 * 1 + l.val, by omega⟩ : S1024x512.Idx) := by blk_ext [r0_4]

theorem emb_strip2 (r : Fin 1024) (l : Fin 128) :
    r0_5.emb (ix2 r l : S1024x128.Idx) = (ix2 r ⟨128 * 2 + l.val, by omega⟩ : S1024x512.Idx) := by blk_ext [r0_5]

theorem emb_strip3 (r : Fin 1024) (l : Fin 128) :
    r0_6.emb (ix2 r l : S1024x128.Idx) = (ix2 r ⟨128 * 3 + l.val, by omega⟩ : S1024x512.Idx) := by blk_ext [r0_6]

theorem pay_strip0 (r : Fin 1024) (l : Fin 128) :
    (k0_pay5 i (View.ld x r0_0) (View.ld w r0_1) (View.ld co r0_2) (View.ld si r0_2) (ix2 r l) : EReal)
      = turned co si (k0_pay2 i (View.ld x r0_0) (View.ld w r0_1)) (ix2 r ⟨128 * 0 + l.val, by omega⟩) := by
  unfold k0_pay5
  pointwise [k0_pay3, k0_pay4]
  exact turned_at co si _ r l 0 _ _ (by simp) (by simp)

theorem pay_strip1 (r : Fin 1024) (l : Fin 128) :
    (k0_pay6 i (View.ld x r0_0) (View.ld w r0_1) (View.ld co r0_2) (View.ld si r0_2) (ix2 r l) : EReal)
      = turned co si (k0_pay2 i (View.ld x r0_0) (View.ld w r0_1)) (ix2 r ⟨128 * 1 + l.val, by omega⟩) := by
  unfold k0_pay6
  pointwise [k0_pay3, k0_pay4]
  exact turned_at co si _ r l 1 _ _ (by simp) (by simp)

theorem pay_strip2 (r : Fin 1024) (l : Fin 128) :
    (k0_pay7 i (View.ld x r0_0) (View.ld w r0_1) (View.ld co r0_2) (View.ld si r0_2) (ix2 r l) : EReal)
      = turned co si (k0_pay2 i (View.ld x r0_0) (View.ld w r0_1)) (ix2 r ⟨128 * 2 + l.val, by omega⟩) := by
  unfold k0_pay7
  pointwise [k0_pay3, k0_pay4]
  exact turned_at co si _ r l 2 _ _ (by simp) (by simp)

theorem pay_strip3 (a : Vec Ideal S1024x512 .f32) (r : Fin 1024) (l : Fin 128) :
    (k0_pay1 a (k0_pay3 (View.ld co r0_2)) (k0_pay4 (View.ld si r0_2)) (ix2 r l) : EReal)
      = turned co si a (ix2 r ⟨128 * 3 + l.val, by omega⟩) := by
  pointwise [k0_pay1, k0_pay3, k0_pay4]
  exact turned_at co si _ r l 3 _ _ (by simp) (by simp)

/-- What a grid point's body leaves in its block. -/
theorem block_apply (y : S1024x512.Idx) : (out0_4 i x w co si y : EReal) = turned co si (k0_pay2 i (View.ld x r0_0) (View.ld w r0_1)) y := by
  refine View.canon_apply_of_pieces (Val := Elt Ideal) (e := .bf16) (turned co si (k0_pay2 i (View.ld x r0_0) (View.ld w r0_1))) _ ?_ y
    (View.cover_of_tiledL (s := S1024x512) _ S1024x128.size (by sl_kernel_rfl) y)
  refine List.forall_mem_cons.2 ⟨?_, List.forall_mem_cons.2 ⟨?_, List.forall_mem_cons.2 ⟨?_, List.forall_mem_cons.2 ⟨?_, ?_⟩⟩⟩⟩
  · intro z
    obtain ⟨r, l, rfl⟩ := strip_idx z
    exact (pay_strip3 co si _ r l).trans (congrArg (turned co si _) (emb_strip3 r l).symm)
  · intro z
    obtain ⟨r, l, rfl⟩ := strip_idx z
    exact (pay_strip2 i x w co si r l).trans (congrArg (turned co si _) (emb_strip2 r l).symm)
  · intro z
    obtain ⟨r, l, rfl⟩ := strip_idx z
    exact (pay_strip1 i x w co si r l).trans (congrArg (turned co si _) (emb_strip1 r l).symm)
  · intro z
    obtain ⟨r, l, rfl⟩ := strip_idx z
    exact (pay_strip0 i x w co si r l).trans (congrArg (turned co si _) (emb_strip0 r l).symm)
  intro p hp; exact absurd hp (by simp)

end Block

/-- The projection of token `r` on column `e` of the weights. -/
def acc (h : S8x2048x2048.Idx → EReal) (w : S2048x9760.Idx → EReal) (r : Fin 16384) (e : Fin 9760) : EReal :=
  ∑ k : Fin 2048, h (ix3 ⟨r.val / 2048, by omega⟩ ⟨r.val % 2048, by omega⟩ k) * w (ix2 k e)

/-- The queries' scale; the keys have none. -/
def scale (e : ℕ) : EReal := if e < 1024 then Ideal.ofBits .f32 0x3DB504F3#32 else 1

theorem src_lt {e : ℕ} (h : e < 1536) : src e < 9760 := by unfold src; split_ifs <;> omega

/-- The sine of a column, negative in the first half of a head. -/
def signed (s : Fin 2048) (l : Fin 128) : EReal :=
  if l.val < 64 then - Ideal.sin (angle s ⟨l.val % 64, by omega⟩) else Ideal.sin (angle s ⟨l.val % 64, by omega⟩)

/-- The rotated projection of token `r` on column `e`, whose partner half a head away is column `p`. -/
def rotated (h : S8x2048x2048.Idx → EReal) (w : S2048x9760.Idx → EReal) (r : Fin 16384) (e p : Fin 1536) : EReal :=
  acc h w r ⟨src e, src_lt e.isLt⟩ * scale e * Ideal.cos (angle ⟨r.val % 2048, by omega⟩ ⟨e.val % 128 % 64, by omega⟩)
    + acc h w r ⟨src p, src_lt p.isLt⟩ * scale e * signed ⟨r.val % 2048, by omega⟩ ⟨e.val % 128, by omega⟩

/-- The partner of a column half a head away. -/
def partner (e : Fin 1536) : Fin 1536 := ⟨128 * (e.val / 128) + (e.val % 128 + 64) % 128, by omega⟩

/-- The rotated projections at an index of the result. -/
def proj (h : S8x2048x2048.Idx → EReal) (w : S2048x9760.Idx → EReal) (y : S16384x1536.Idx) : EReal := rotated h w (y 0) (y 1) (partner (y 1))

theorem table_row (t : Fin cfg0.N) (r : Fin 1024) :
    (⟨1024 * (t.val / 3 % 2) + r.val, by omega⟩ : Fin 2048) = ⟨(1024 * (t.val / 3) + r.val) % 2048, by omega⟩ := by
  apply Fin.ext
  show 1024 * (t.val / 3 % 2) + r.val = (1024 * (t.val / 3) + r.val) % 2048
  omega

/-- A grid point's scaled projection. -/
theorem acc_eq (t : Fin cfg0.N) (r : Fin 1024) (e : Fin 512) (p : Fin 1536) (hp : p.val = 512 * (t.val % 3) + e.val) (s : Fin 1536) (hs : s.val / 512 = t.val % 3) :
    (k0_pay2 (grid0.coords t) (View.ld (iblk m c 0 t) r0_0) (View.ld (iblk m c 1 t) r0_1) (ix2 r e) : EReal)
      = acc (argH m c) (argW m c) ⟨1024 * (t.val / 3) + r.val, by have := lt48 t; omega⟩ ⟨src p, src_lt p.isLt⟩ * scale s := by
  rw [acc_apply, coord1]
  obtain ⟨p, q⟩ := p
  obtain rfl : p = 512 * (t.val % 3) + e.val := hp
  refine congrArg₂ (fun a b : EReal => a * b) (Finset.sum_congr rfl fun k _ => ?_) ?_
  · exact congrArg₂ (fun a b : EReal => a * b) (read_h m c t r k) (read_w m c t k e)
  · exact if_congr (show t.val % 3 < 2 ↔ s.val < 1024 by omega) rfl rfl

theorem cos_eq (t : Fin cfg0.N) (r : Fin 1024) (l l' : Fin 128) (hl : l'.val = l.val) (d : Fin 64) (hd : d.val = l'.val % 64) :
    (iblk m c 2 t (ix2 r l) : EReal) = Ideal.cos (angle ⟨(1024 * (t.val / 3) + r.val) % 2048, by omega⟩ d) := by
  obtain rfl : l' = l := Fin.ext hl
  rw [read_cos, cosTable_apply, angles_apply, table_row]
  exact congrArg (fun x => Ideal.cos (angle _ x)) (Fin.ext hd.symm)

theorem sin_eq (t : Fin cfg0.N) (r : Fin 1024) (l l' : Fin 128) (hl : l'.val = l.val) :
    (iblk m c 3 t (ix2 r l) : EReal) = signed ⟨(1024 * (t.val / 3) + r.val) % 2048, by omega⟩ l' := by
  obtain rfl : l' = l := Fin.ext hl
  rw [read_sin, sinTable_apply, angles_apply, table_row]
  rfl

theorem turned_ix2 (co si : Vec Ideal S1024x128 .f32) (a : Vec Ideal S1024x512 .f32) (r : Fin 1024) (e : Fin 512) :
    turned co si a (ix2 r e) = (a (ix2 r e) : EReal) * co (ix2 r ⟨e.val % 128, by omega⟩)
      + (a (ix2 r ⟨128 * (e.val / 128) + (e.val % 128 + 64) % 128, by omega⟩) : EReal) * si (ix2 r ⟨e.val % 128, by omega⟩) := rfl

/-- A grid point's block is the rotated projection at the block's place. -/
theorem block_eq (t : Fin cfg0.N) (r : Fin 1024) (e : Fin 512) :
    (out0_4 (grid0.coords t) (iblk m c 0 t) (iblk m c 1 t) (iblk m c 2 t) (iblk m c 3 t) (ix2 r e) : EReal)
      = rotated (argH m c) (argW m c) ⟨1024 * (t.val / 3) + r.val, by have := lt48 t; omega⟩ ⟨512 * (t.val % 3) + e.val, by omega⟩
          (partner ⟨512 * (t.val % 3) + e.val, by omega⟩) := by
  have hs : (512 * (t.val % 3) + e.val) / 512 = t.val % 3 := by omega
  have hl : (512 * (t.val % 3) + e.val) % 128 = e.val % 128 := by omega
  have hp : 128 * ((512 * (t.val % 3) + e.val) / 128) + ((512 * (t.val % 3) + e.val) % 128 + 64) % 128
      = 512 * (t.val % 3) + (128 * (e.val / 128) + (e.val % 128 + 64) % 128) := by omega
  rw [block_apply, turned_ix2]
  unfold rotated
  have h1 := acc_eq m c t r e ⟨512 * (t.val % 3) + e.val, by omega⟩ rfl ⟨512 * (t.val % 3) + e.val, by omega⟩ hs
  have h2 := acc_eq m c t r ⟨128 * (e.val / 128) + (e.val % 128 + 64) % 128, by omega⟩ (partner ⟨512 * (t.val % 3) + e.val, by omega⟩) hp
    ⟨512 * (t.val % 3) + e.val, by omega⟩ hs
  have h3 := cos_eq m c t r ⟨e.val % 128, by omega⟩ ⟨(512 * (t.val % 3) + e.val) % 128, by omega⟩ hl ⟨(512 * (t.val % 3) + e.val) % 128 % 64, by omega⟩ rfl
  have h4 := sin_eq m c t r ⟨e.val % 128, by omega⟩ ⟨(512 * (t.val % 3) + e.val) % 128, by omega⟩ hl
  exact congrArg₂ (fun a b : EReal => a + b) (congrArg₂ (fun a b : EReal => a * b) h1 h3) (congrArg₂ (fun a b : EReal => a * b) h2 h4)

theorem proj_ix2 (h : S8x2048x2048.Idx → EReal) (w : S2048x9760.Idx → EReal) (r : Fin 16384) (e : Fin 1536) :
    proj h w (ix2 r e) = rotated h w r e (partner e) := rfl

theorem covers : (cfg0.win 4).Covers := by decide +kernel

theorem emb4 (t : Fin cfg0.N) (r : Fin 1024) (e : Fin 512) : ((cfg0.win 4).blk t).view.emb (ix2 r e : S1024x512.Idx)
    = (ix2 ⟨1024 * (t.val / 3) + r.val, by have := lt48 t; omega⟩ ⟨512 * (t.val % 3) + e.val, by omega⟩ : S16384x1536.Idx) := by
  blk_ext [idx4 t]

/-- The result array after the run. -/
theorem result_eq : (dats m 0 c).arrAt 4 cfg0.N = proj (argH m c) (argW m c) := by
  refine (dats m 0 c).arrAt_eq_of_covers 4 _ covers fun t hf y => ?_
  obtain ⟨r, e, rfl⟩ : ∃ (r : Fin 1024) (e : Fin 512), y = (ix2 r e : S1024x512.Idx) := ⟨y 0, y 1, eq_ix2 y⟩
  blk_simp
  rw [after0_4]
  exact ((block_eq m c t r e).trans (proj_ix2 _ _ _ _).symm).trans (congrArg (proj (argH m c) (argW m c)) (emb4 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v40) = proj (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Value.run_blocks m ρ)

end Cert.KernelRopeIdeal.Rope

end
-- ==== Proof.Rope.Claims.lean ====
/- The claims about the rotated projections. -/
module

public import proofs.«01_k».proof.Defs
public import proofs.«01_k».proof.Proof.Rope.Value
public import proofs.«01_k».proof.Proof.Fox.Math
public import proofs.«01_k».proof.Proof.Gen.KernelRope.Frame
public import proofs.«01_k».proof.Proof.Gen.ReferenceRopeIdeal.Run
public import Idealize.ShloMosaic.Lib.Quiescent

@[expose] public section

set_option maxRecDepth 16384

noncomputable section

namespace Cert.Proof.Rope

open Idealize.ShloMosaic Idealize.ShloMosaic.TcCoe Idealize.SL.Sem

theorem frame_p : Cert.quiescent_KernelRope := fun m ρ _ => Cert.KernelRope.Gen.frame m ρ
theorem frame_pi : Cert.quiescent_KernelRopeIdeal := fun m ρ _ => Cert.KernelRopeIdeal.Gen.frame m ρ
theorem frame_ri : Cert.quiescent_ReferenceRopeIdeal := fun m ρ _ =>
  (θ_run Cert.ReferenceRopeIdeal.defs _ _).mono (fun r h => ⟨fun c => (h c).2,
      Idealize.ShloMosaic.sem_eq_zero_of_no_sems (by decide) r.2⟩)
    (Cert.ReferenceRopeIdeal.Value.run (F := Ideal) m ρ)

section Reference

open Cert.KernelRopeIdeal Cert.KernelRopeIdeal.Rope

variable (h : S8x2048x2048.Idx → EReal) (w : S2048x9760.Idx → EReal) (r : Fin 16384) (e : Fin 1536)

/-- The angle of token `r` at column `d` of a half head. -/
def turn (d : ℕ) : EReal :=
  (FloatOps.sitofp (F := Ideal) .f32 (BitVec.ofNat 32 (r.val % 2048)) : EReal) * Ideal.pow (Ideal.ofBits .f32 0x461C4000#32)
    (Ideal.div (-(Ideal.ofBits .f32 0x40000000#32 * (FloatOps.sitofp (F := Ideal) .f32 (BitVec.ofNat 32 d) : EReal))) (Ideal.ofBits .f32 0x43000000#32))

/-- The rotated projection before its scale. -/
def core : EReal :=
  acc h w r ⟨src e, src_lt e.isLt⟩ * Ideal.cos (turn r (e.val % 128 % 64))
    + acc h w r ⟨src (partner e), src_lt (partner e).isLt⟩ * signed ⟨r.val % 2048, by omega⟩ ⟨e.val % 128, by omega⟩

theorem core_first (n n' : Fin 9760) (d : ℕ) (hl : e.val % 128 < 64) (hd : d = e.val % 128) (hn : n.val = src e) (hn' : n'.val = src (partner e)) :
    acc h w r n * Ideal.cos (turn r d) - acc h w r n' * Ideal.sin (turn r d) = core h w r e := by
  obtain rfl : n = ⟨src e, src_lt e.isLt⟩ := Fin.ext hn
  obtain rfl : n' = ⟨src (partner e), src_lt (partner e).isLt⟩ := Fin.ext hn'
  obtain rfl : d = e.val % 128 % 64 := by omega
  unfold core signed
  rw [if_pos hl, mul_neg, sub_eq_add_neg]
  rfl

theorem core_second (n n' : Fin 9760) (d : ℕ) (hl : ¬ e.val % 128 < 64) (hd : d = e.val % 128 - 64) (hn : n.val = src e) (hn' : n'.val = src (partner e)) :
    acc h w r n * Ideal.cos (turn r d) + acc h w r n' * Ideal.sin (turn r d) = core h w r e := by
  obtain rfl : n = ⟨src e, src_lt e.isLt⟩ := Fin.ext hn
  obtain rfl : n' = ⟨src (partner e), src_lt (partner e).isLt⟩ := Fin.ext hn'
  obtain rfl : d = e.val % 128 % 64 := by omega
  unfold core signed
  rw [if_neg hl]
  rfl

theorem core_scaled (he : e.val < 1024) : core h w r e * Ideal.ofBits .f32 0x3DB504F3#32 = proj h w (ix2 r e) := by
  rw [proj_ix2]
  unfold core rotated scale
  rw [if_pos he, EReal.right_distrib_of_nonneg_of_ne_top Cert.FoxMath.scale_nonneg Cert.FoxMath.scale_ne_top]
  exact congrArg₂ (fun a b : EReal => a + b) (mul_right_comm _ _ _) (mul_right_comm _ _ _)

theorem core_plain (he : ¬ e.val < 1024) : core h w r e = proj h w (ix2 r e) := by
  rw [proj_ix2]
  unfold core rotated scale
  rw [if_neg he, mul_one, mul_one]
  rfl

end Reference

open Cert.KernelRopeIdeal.Rope in
theorem algebraic : Cert.algebraic_KernelRopeIdeal_ReferenceRopeIdeal := by
  intro m ρ m' ρ' _ hagree
  refine ⟨_, run m ρ, ?_⟩
  refine (θ_run Cert.ReferenceRopeIdeal.defs _ _).mono (fun _ h c => ⟨(h c).1.trans ?_, (h c).2⟩)
    (Cert.ReferenceRopeIdeal.Value.run (F := Ideal) m' ρ')
  unfold Cert.ReferenceRopeIdeal.Value.res_main_v86
  rw [(hagree c).1, (hagree c).2]
  funext y
  obtain ⟨r, e, rfl⟩ : ∃ (r : Fin 16384) (e : Fin 1536), y = ix2 r e := ⟨y 0, y 1, eq_ix2 y⟩
  generalize hP : Host.dotGeneral (F := Ideal) Cert.ReferenceRopeIdeal.dot_S8x2048x2048_S2048x9760_S8x2048x9760_2_0_01_1_n_n none _ _ = P
  have hA : ∀ n : Fin 9760, P (ix3 ⟨r.val / 2048, by omega⟩ ⟨r.val % 2048, by omega⟩ n) = acc (argH m c) (argW m c) r n := fun n => by
    rw [← hP]
    pointwise
    rfl
  clear hP
  pointwise
  simp only [hA]
  split_ifs <;> first
    | exact (congrArg (fun a : EReal => a * Ideal.ofBits .f32 0x3DB504F3#32) (core_first _ _ r e _ _ _ (by assumption) rfl
        (by simp [src]; split_ifs <;> omega) (by simp [partner, src]; split_ifs <;> omega))).trans (core_scaled _ _ r e (by omega))
    | exact (congrArg (fun a : EReal => a * Ideal.ofBits .f32 0x3DB504F3#32) (core_second _ _ r e _ _ _ (by assumption) rfl
        (by simp [src]; split_ifs <;> omega) (by simp [partner, src]; split_ifs <;> omega))).trans (core_scaled _ _ r e (by omega))
    | exact (core_first _ _ r e _ _ _ (by assumption) rfl
        (by simp [src]; split_ifs <;> omega) (by simp [partner, src]; split_ifs <;> omega)).trans (core_plain _ _ r e (by omega))
    | exact (core_second _ _ r e _ _ _ (by assumption) rfl
        (by simp [src]; split_ifs <;> omega) (by simp [partner, src]; split_ifs <;> omega)).trans (core_plain _ _ r e (by omega))

end Cert.Proof.Rope

end
-- ==== Proof.Small.Value.lean ====
/- The gates of the two mixers: what the kernel leaves in its result, index by index, as a function of its arguments. -/
module

public import proofs.«01_k».proof.Proof.Gen.KernelSmallIdeal.Value
public import Idealize.ShloMosaic.Lib.Pipeline.ValueKit
public import Idealize.ShloMosaic.Lib.Pointwise

@[expose] public section

set_option maxRecDepth 16384

noncomputable section

namespace Cert.KernelSmallIdeal.Small

open Cert.KernelSmallIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

theorem lt16 (t : Fin cfg0.N) : t.val < 16 := Nat.lt_of_lt_of_eq t.isLt (by decide)

/-- The arguments: the normalised activations and the input projection's weights. -/
abbrev argH : S8x2048x2048.Idx → EReal := m ((c.tc : Thread nD τ).loc main_arg0)
abbrev argW : S2048x9760.Idx → EReal := m ((c.tc : Thread nD τ).loc main_arg1)

/-- The gates' columns of the weights, side by side, and columns of zeros. -/
def packed (w : FVec Ideal S2048x9760 .f32) : FVec Ideal S2048x128 .bf16 :=
  truncf .bf16 (concatenate S2048x128 1 [⟨S2048x24, extractStridedSlice S2048x24 ![0, 2560] w slices_S2048x9760_S2048x24_0_2560⟩,
    ⟨S2048x8, extractStridedSlice S2048x8 ![0, 5656] w slices_S2048x9760_S2048x8_0_5656⟩,
    ⟨S2048x96, broadcastInDim S2048x96 ![] bcast_S_S2048x96 (constant S_ .f32 0x00000000#32)⟩]
    concatenates_S2048x24_S2048x8_S2048x96_S2048x128_d1) bitsLt_bf16_f32

theorem V_v16 : V m c main_v16 = packed (argW m c) := by
  simp only [V, hostOps0]
  after_results_simp <;> rfl

/-- The activations, a row for each token. -/
def rows (h : FVec Ideal S8x2048x2048 .f32) : FVec Ideal S16384x2048 .bf16 :=
  truncf .bf16 (shapeCast S16384x2048 h shapeCasts_S8x2048x2048_S16384x2048) bitsLt_bf16_f32

theorem V_v18 : V m c main_v18 = rows (argH m c) := by
  simp only [V, hostOps0]
  after_results_simp <;> rfl

theorem rows_apply (h : FVec Ideal S8x2048x2048 .f32) (r : Fin 16384) (k : Fin 2048) :
    rows h (ix2 r k) = (h (ix3 ⟨r.val / 2048, by omega⟩ ⟨r.val % 2048, by omega⟩ k) : EReal) := by
  pointwise [rows]

/-- Column `e` of the packed weights. -/
def col (w : S2048x9760.Idx → EReal) (e : Fin 128) (k : Fin 2048) : EReal :=
  if e.val < 24 then w (ix2 k ⟨2560 + e.val, by omega⟩) else if e.val < 32 then w (ix2 k ⟨5632 + e.val, by omega⟩) else 0

theorem packed_apply (w : FVec Ideal S2048x9760 .f32) (k : Fin 2048) (e : Fin 128) : (packed w (ix2 k e) : EReal) = col w e k := by
  pointwise [packed]
  unfold col
  by_cases h1 : e.val < 24
  · rw [dif_pos h1, if_pos h1]
  rw [dif_neg h1, if_neg h1]
  by_cases h2 : e.val < 32
  · rw [dif_pos (show e.val - 24 < 8 by omega), if_pos h2]
    exact congrArg (fun x => w (ix2 k x)) (Fin.ext (by dsimp only; omega))
  · rw [dif_neg (show ¬ e.val - 24 < 8 by omega), if_neg h2]

theorem read_h (t : Fin cfg0.N) (r : Fin 1024) (k : Fin 2048) :
    (iblk m c 0 t (ix2 r k) : EReal) = argH m c (ix3 ⟨(1024 * t.val + r.val) / 2048, by have := lt16 t; omega⟩ ⟨(1024 * t.val + r.val) % 2048, by omega⟩ k) := by
  have : iblk m c 0 t (ix2 r k) = V m c main_v18 (ix2 ⟨1024 * t.val + r.val, by have := lt16 t; omega⟩ k) := by blk_ext [iblk, V, idx0 t]
  rw [this, V_v18]
  exact rows_apply _ _ _

theorem read_w (t : Fin cfg0.N) (k : Fin 2048) (e : Fin 128) : (iblk m c 1 t (ix2 k e) : EReal) = col (argW m c) e k := by
  have : iblk m c 1 t (ix2 k e) = V m c main_v16 (ix2 k e) := by blk_ext [iblk, V, idx1 t]
  rw [this, V_v16]
  exact packed_apply _ _ _

/-- What a grid point's body leaves in its block. -/
theorem block_apply (x : Vec Ideal S1024x2048 .bf16) (w : Vec Ideal S2048x128 .bf16) (r : Fin 1024) (e : Fin 128) :
    (out0_2 x w (ix2 r e) : EReal) = ∑ k : Fin 2048, (x (ix2 r k) : EReal) * w (ix2 k e) := by
  refine (congrFun (View.canon_unit_zero (by decide) _ _) _).trans ?_
  pointwise [k0_pay1]

/-- The projection at an index of the result. -/
def proj (h : S8x2048x2048.Idx → EReal) (w : S2048x9760.Idx → EReal) (y : S16384x128.Idx) : EReal :=
  ∑ k : Fin 2048, h (ix3 ⟨(y 0).val / 2048, by have := (y 0).isLt; change _ < 16384 at this; omega⟩ ⟨(y 0).val % 2048, by omega⟩ k) * col w (y 1) k

theorem proj_nsa (h : S8x2048x2048.Idx → EReal) (w : S2048x9760.Idx → EReal) (r : Fin 16384) (e : Fin 128) (s : Fin 9760)
    (he : e.val < 24) (hs : s.val = 2560 + e.val) :
    (∑ k : Fin 2048, h (ix3 ⟨r.val / 2048, by omega⟩ ⟨r.val % 2048, by omega⟩ k) * w (ix2 k s)) = proj h w (ix2 r e) := by
  obtain ⟨s, p⟩ := s
  obtain rfl : s = 2560 + e.val := hs
  exact Finset.sum_congr rfl fun k _ => congrArg (_ * ·) (if_pos he).symm

theorem proj_fox (h : S8x2048x2048.Idx → EReal) (w : S2048x9760.Idx → EReal) (r : Fin 16384) (e : Fin 128) (s : Fin 9760)
    (hn : ¬ e.val < 24) (he : e.val < 32) (hs : s.val = 5632 + e.val) :
    (∑ k : Fin 2048, h (ix3 ⟨r.val / 2048, by omega⟩ ⟨r.val % 2048, by omega⟩ k) * w (ix2 k s)) = proj h w (ix2 r e) := by
  obtain ⟨s, p⟩ := s
  obtain rfl : s = 5632 + e.val := hs
  exact Finset.sum_congr rfl fun k _ => congrArg (_ * ·) ((if_neg hn).trans (if_pos he)).symm

theorem proj_pad (h : S8x2048x2048.Idx → EReal) (w : S2048x9760.Idx → EReal) (r : Fin 16384) (e : Fin 128) (he : ¬ e.val < 32) :
    0 = proj h w (ix2 r e) :=
  (Finset.sum_eq_zero fun k _ => (congrArg (_ * ·) ((if_neg (by show ¬ e.val < 24; omega)).trans (if_neg he))).trans (mul_zero _)).symm

/-- A grid point's block is the projection at the block's place. -/
theorem block_eq (t : Fin cfg0.N) (r : Fin 1024) (e : Fin 128) :
    (out0_2 (iblk m c 0 t) (iblk m c 1 t) (ix2 r e) : EReal)
      = proj (argH m c) (argW m c) (ix2 ⟨1024 * t.val + r.val, by have := lt16 t; omega⟩ e) := by
  rw [block_apply]
  exact Finset.sum_congr rfl fun k _ => congrArg₂ (fun a b : EReal => a * b) (read_h m c t r k) (read_w m c t k e)

theorem covers : (cfg0.win 2).Covers := by decide +kernel

theorem emb2 (t : Fin cfg0.N) (r : Fin 1024) (e : Fin 128) : ((cfg0.win 2).blk t).view.emb (ix2 r e : S1024x128.Idx)
    = (ix2 ⟨1024 * t.val + r.val, by have := lt16 t; omega⟩ e : S16384x128.Idx) := by
  blk_ext [idx2 t]

/-- The result array after the run. -/
theorem result_eq : (dats m 0 c).arrAt 2 cfg0.N = proj (argH m c) (argW m c) := by
  refine (dats m 0 c).arrAt_eq_of_covers 2 _ covers fun t hf y => ?_
  obtain ⟨r, e, rfl⟩ : ∃ (r : Fin 1024) (e : Fin 128), y = (ix2 r e : S1024x128.Idx) := ⟨y 0, y 1, eq_ix2 y⟩
  blk_simp
  rw [after0_2]
  exact (block_eq m c t r e).trans (congrArg (proj (argH m c) (argW m c)) (emb2 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v19) = proj (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Value.run_blocks m ρ)

end Cert.KernelSmallIdeal.Small

end
-- ==== Proof.Small.Claims.lean ====
/- The claims about the gates of the two mixers. -/
module

public import proofs.«01_k».proof.Defs
public import proofs.«01_k».proof.Proof.Small.Value
public import proofs.«01_k».proof.Proof.Gen.KernelSmall.Frame
public import proofs.«01_k».proof.Proof.Gen.ReferenceSmallIdeal.Run
public import Idealize.ShloMosaic.Lib.Quiescent

@[expose] public section

set_option maxRecDepth 16384

noncomputable section

namespace Cert.Proof.Small

open Idealize.ShloMosaic Idealize.ShloMosaic.TcCoe Idealize.SL.Sem

theorem frame_p : Cert.quiescent_KernelSmall := fun m ρ _ => Cert.KernelSmall.Gen.frame m ρ
theorem frame_pi : Cert.quiescent_KernelSmallIdeal := fun m ρ _ => Cert.KernelSmallIdeal.Gen.frame m ρ
theorem frame_ri : Cert.quiescent_ReferenceSmallIdeal := fun m ρ _ =>
  (θ_run Cert.ReferenceSmallIdeal.defs _ _).mono (fun r h => ⟨fun c => (h c).2,
      Idealize.ShloMosaic.sem_eq_zero_of_no_sems (by decide) r.2⟩)
    (Cert.ReferenceSmallIdeal.Value.run (F := Ideal) m ρ)

open Cert.KernelSmallIdeal.Small in
theorem algebraic : Cert.algebraic_KernelSmallIdeal_ReferenceSmallIdeal := by
  intro m ρ m' ρ' _ hagree
  refine ⟨_, run m ρ, ?_⟩
  refine (θ_run Cert.ReferenceSmallIdeal.defs _ _).mono (fun _ h c => ⟨(h c).1.trans ?_, (h c).2⟩)
    (Cert.ReferenceSmallIdeal.Value.run (F := Ideal) m' ρ')
  rw [(hagree c).1, (hagree c).2]
  funext y
  obtain ⟨r, e, rfl⟩ : ∃ (r : Fin 16384) (e : Fin 128), y = ix2 r e := ⟨y 0, y 1, eq_ix2 y⟩
  pointwise
  split_ifs <;> first
    | exact proj_nsa _ _ r e _ (by omega) (by simp)
    | exact proj_fox _ _ r e _ (by omega) (by omega) (by simp; omega)
    | exact proj_pad _ _ r e (by omega)

end Cert.Proof.Small

end
-- ==== Proof.Merge.Value.lean ====
/- The gated merge and the output projection: what the kernel leaves in its result, index by index, as a function of its arguments. -/
module

public import proofs.«01_k».proof.Proof.Gen.KernelMergeIdeal.Value
public import Idealize.ShloMosaic.Lib.Pipeline.ValueKit
public import Idealize.ShloMosaic.Lib.Pointwise

@[expose] public section

set_option maxRecDepth 16384

noncomputable section

namespace Cert.KernelMergeIdeal.Merge

open Cert.KernelMergeIdeal.Gen
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel
theorem idx5 : ∀ t : Fin cfg0.N, win0_5.index t = ![t.val, 1] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel

theorem lt32 (t : Fin cfg0.N) : t.val < 32 := Nat.lt_of_lt_of_eq t.isLt (by decide)

/-- The arguments: the two mixers' outputs, their up-projections, the gates, the output projection and the residual stream. -/
abbrev argN : S8x2048x1024.Idx → EReal := m ((c.tc : Thread nD τ).loc main_arg0)
abbrev argF : S8x2048x1024.Idx → EReal := m ((c.tc : Thread nD τ).loc main_arg1)
abbrev argUn : S1024x2048.Idx → EReal := m ((c.tc : Thread nD τ).loc main_arg2)
abbrev argUf : S1024x2048.Idx → EReal := m ((c.tc : Thread nD τ).loc main_arg3)
abbrev argG : S8x2048x4096.Idx → EReal := m ((c.tc : Thread nD τ).loc main_arg4)
abbrev argW : S2048x2048.Idx → EReal := m ((c.tc : Thread nD τ).loc main_arg5)
abbrev argX : S8x2048x2048.Idx → EReal := m ((c.tc : Thread nD τ).loc main_arg6)

/-! The arrays the call is given: a row for each token. -/

def rowsO (o : FVec Ideal S8x2048x1024 .f32) : FVec Ideal S16384x1024 .bf16 :=
  truncf .bf16 (shapeCast S16384x1024 o shapeCasts_S8x2048x1024_S16384x1024) bitsLt_bf16_f32
def rowsG (g : FVec Ideal S8x2048x4096 .f32) : FVec Ideal S16384x4096 .bf16 :=
  truncf .bf16 (shapeCast S16384x4096 g shapeCasts_S8x2048x4096_S16384x4096) bitsLt_bf16_f32
def rowsX (x : FVec Ideal S8x2048x2048 .f32) : FVec Ideal S16384x2048 .f32 := shapeCast S16384x2048 x shapeCasts_S8x2048x2048_S16384x2048
def weightsU (u : FVec Ideal S1024x2048 .f32) : FVec Ideal S1024x2048 .bf16 := truncf .bf16 u bitsLt_bf16_f32
def weightsW (w : FVec Ideal S2048x2048 .f32) : FVec Ideal S2048x2048 .bf16 := truncf .bf16 w bitsLt_bf16_f32

theorem V_v1 : V m c main_v1 = rowsO (argN m c) := by
  simp only [V, hostOps0]
  after_results_simp <;> rfl
theorem V_v3 : V m c main_v3 = rowsO (argF m c) := by
  simp only [V, hostOps0]
  after_results_simp <;> rfl
theorem V_v4 : V m c main_v4 = weightsU (argUn m c) := by
  simp only [V, hostOps0]
  after_results_simp <;> rfl
theorem V_v5 : V m c main_v5 = weightsU (argUf m c) := by
  simp only [V, hostOps0]
  after_results_simp <;> rfl
theorem V_v7 : V m c main_v7 = rowsG (argG m c) := by
  simp only [V, hostOps0]
  after_results_simp <;> rfl
theorem V_v8 : V m c main_v8 = weightsW (argW m c) := by
  simp only [V, hostOps0]
  after_results_simp <;> rfl
theorem V_v9 : V m c main_v9 = rowsX (argX m c) := by
  simp only [V, hostOps0]
  after_results_simp <;> rfl

theorem rowsO_apply (o : FVec Ideal S8x2048x1024 .f32) (r : Fin 16384) (k : Fin 1024) :
    rowsO o (ix2 r k) = (o (ix3 ⟨r.val / 2048, by omega⟩ ⟨r.val % 2048, by omega⟩ k) : EReal) := by
  pointwise [rowsO]
theorem rowsG_apply (g : FVec Ideal S8x2048x4096 .f32) (r : Fin 16384) (k : Fin 4096) :
    rowsG g (ix2 r k) = (g (ix3 ⟨r.val / 2048, by omega⟩ ⟨r.val % 2048, by omega⟩ k) : EReal) := by
  pointwise [rowsG]
theorem rowsX_apply (x : FVec Ideal S8x2048x2048 .f32) (r : Fin 16384) (k : Fin 2048) :
    rowsX x (ix2 r k) = (x (ix3 ⟨r.val / 2048, by omega⟩ ⟨r.val % 2048, by omega⟩ k) : EReal) := by
  pointwise [rowsX]

/-! The blocks a grid point reads. -/

theorem read_n (t : Fin cfg0.N) (r : Fin 512) (k : Fin 1024) :
    (iblk m c 0 t (ix2 r k) : EReal) = rowsO (argN m c) (ix2 ⟨512 * t.val + r.val, by have := lt32 t; omega⟩ k) := by
  rw [← V_v1]
  blk_ext [iblk, V, idx0 t]
theorem read_f (t : Fin cfg0.N) (r : Fin 512) (k : Fin 1024) :
    (iblk m c 1 t (ix2 r k) : EReal) = rowsO (argF m c) (ix2 ⟨512 * t.val + r.val, by have := lt32 t; omega⟩ k) := by
  rw [← V_v3]
  blk_ext [iblk, V, idx1 t]
theorem read_un (t : Fin cfg0.N) (k : Fin 1024) (e : Fin 2048) : (iblk m c 2 t (ix2 k e) : EReal) = weightsU (argUn m c) (ix2 k e) := by
  rw [← V_v4]
  blk_ext [iblk, V, idx2 t]
theorem read_uf (t : Fin cfg0.N) (k : Fin 1024) (e : Fin 2048) : (iblk m c 3 t (ix2 k e) : EReal) = weightsU (argUf m c) (ix2 k e) := by
  rw [← V_v5]
  blk_ext [iblk, V, idx3 t]
theorem read_ga (t : Fin cfg0.N) (r : Fin 512) (e : Fin 2048) :
    (iblk m c 4 t (ix2 r e) : EReal) = rowsG (argG m c) (ix2 ⟨512 * t.val + r.val, by have := lt32 t; omega⟩ ⟨e.val, by omega⟩) := by
  rw [← V_v7]
  blk_ext [iblk, V, idx4 t]
theorem read_gb (t : Fin cfg0.N) (r : Fin 512) (e : Fin 2048) :
    (iblk m c 5 t (ix2 r e) : EReal) = rowsG (argG m c) (ix2 ⟨512 * t.val + r.val, by have := lt32 t; omega⟩ ⟨2048 + e.val, by omega⟩) := by
  rw [← V_v7]
  blk_ext [iblk, V, idx5 t]
theorem read_w (t : Fin cfg0.N) (k e : Fin 2048) : (iblk m c 6 t (ix2 k e) : EReal) = weightsW (argW m c) (ix2 k e) := by
  rw [← V_v8]
  blk_ext [iblk, V, idx6 t]
theorem read_x (t : Fin cfg0.N) (r : Fin 512) (e : Fin 2048) :
    (iblk m c 7 t (ix2 r e) : EReal) = rowsX (argX m c) (ix2 ⟨512 * t.val + r.val, by have := lt32 t; omega⟩ e) := by
  rw [← V_v9]
  blk_ext [iblk, V, idx7 t]

section Block

variable (xn xf : Vec Ideal S512x1024 .bf16) (un uf : Vec Ideal S1024x2048 .bf16) (ga gb : Vec Ideal S512x2048 .bf16)
  (w : Vec Ideal S2048x2048 .bf16) (x : Vec Ideal S512x2048 .f32)

/-- The gated sum of the two mixers' up-projections, of a block of rows. -/
def mid (y : S512x2048.Idx) : EReal :=
  (ga y : EReal) * (∑ k : Fin 1024, (xn (ix2 (y 0) k) : EReal) * un (ix2 k (y 1)))
    + (gb y : EReal) * (∑ k : Fin 1024, (xf (ix2 (y 0) k) : EReal) * uf (ix2 k (y 1)))

/-- The block of the result. -/
def out (y : S512x2048.Idx) : EReal := (x y : EReal) + ∑ k : Fin 2048, mid xn xf un uf ga gb (ix2 (y 0) k) * (w (ix2 k (y 1)) : EReal)

theorem half_idx (z : S512x1024.Idx) : ∃ (r : Fin 512) (e : Fin 1024), z = ix2 r e := ⟨z 0, z 1, eq_ix2 z⟩

theorem whole_idx (z : S512x2048.Idx) : (Rect.unit (s := S512x2048) ![0, 0] ![512, 2048] inb_S512x2048_S512x2048_0_0).idx z = z :=
  funext fun a => Fin.ext (match a with
    | ⟨0, _⟩ => (by show 0 + 1 * (z 0).val = (z 0).val; omega)
    | ⟨1, _⟩ => (by show 0 + 1 * (z 1).val = (z 1).val; omega))

theorem emb_left (r : Fin 512) (e : Fin 1024) :
    (Rect.unit (s := S512x2048) ![0, 0] ![512, 1024] inb_S512x2048_S512x1024_0_0).emb (ix2 r e : S512x1024.Idx) = (ix2 r ⟨e.val, by omega⟩ : S512x2048.Idx) := by
  blk_ext []

theorem emb_right (r : Fin 512) (e : Fin 1024) :
    (Rect.unit (s := S512x2048) ![0, 1024] ![512, 1024] inb_S512x2048_S512x1024_0_1024).emb (ix2 r e : S512x1024.Idx)
      = (ix2 r ⟨1024 + e.val, by omega⟩ : S512x2048.Idx) := by
  blk_ext []

theorem pay_left (r : Fin 512) (e : Fin 1024) :
    (k0_pay4 (View.ld xn (Rect.unit ![0, 0] ![512, 1024] inb_S512x1024_S512x1024_0_0)) (View.ld un (Rect.unit ![0, 0] ![1024, 1024] inb_S1024x2048_S1024x1024_0_0))
      (View.ld xf (Rect.unit ![0, 0] ![512, 1024] inb_S512x1024_S512x1024_0_0)) (View.ld uf (Rect.unit ![0, 0] ![1024, 1024] inb_S1024x2048_S1024x1024_0_0))
      (View.ld ga (Rect.unit ![0, 0] ![512, 1024] inb_S512x2048_S512x1024_0_0)) (View.ld gb (Rect.unit ![0, 0] ![512, 1024] inb_S512x2048_S512x1024_0_0))
      (ix2 r e) : EReal) = mid xn xf un uf ga gb (ix2 r ⟨e.val, by omega⟩) := by
  pointwise [k0_pay4]
  rfl

theorem pay_right (r : Fin 512) (e : Fin 1024) :
    (k0_pay1 (k0_pay5 (View.ld xn (Rect.unit ![0, 0] ![512, 1024] inb_S512x1024_S512x1024_0_0)) (View.ld un (Rect.unit ![0, 1024] ![1024, 1024] inb_S1024x2048_S1024x1024_0_1024)))
      (k0_pay6 (View.ld xf (Rect.unit ![0, 0] ![512, 1024] inb_S512x1024_S512x1024_0_0)))
      (k0_pay7 (View.ld uf (Rect.unit ![0, 1024] ![1024, 1024] inb_S1024x2048_S1024x1024_0_1024)))
      (constant S512x1024 FTy.f32 0#32)
      (View.ld ga (Rect.unit ![0, 1024] ![512, 1024] inb_S512x2048_S512x1024_0_1024)) (View.ld gb (Rect.unit ![0, 1024] ![512, 1024] inb_S512x2048_S512x1024_0_1024))
      (ix2 r e) : EReal) = mid xn xf un uf ga gb (ix2 r ⟨1024 + e.val, by omega⟩) := by
  pointwise [k0_pay1, k0_pay5, k0_pay6, k0_pay7]
  rfl

theorem pay_out_left (q : Vec Ideal S512x2048 .bf16) (hq : ∀ y, (q y : EReal) = mid xn xf un uf ga gb y) (r : Fin 512) (e : Fin 1024) :
    (k0_pay2 (View.ld x (Rect.unit ![0, 0] ![512, 1024] inb_S512x2048_S512x1024_0_0)) q
      (View.ld w (Rect.unit ![0, 0] ![2048, 1024] inb_S2048x2048_S2048x1024_0_0)) (ix2 r e) : EReal)
      = out xn xf un uf ga gb w x (ix2 r ⟨e.val, by omega⟩) := by
  pointwise [k0_pay2]
  simp only [hq]
  rfl

theorem pay_out_right (q : Vec Ideal S512x2048 .bf16) (hq : ∀ y, (q y : EReal) = mid xn xf un uf ga gb y) (r : Fin 512) (e : Fin 1024) :
    (k0_pay3 (View.ld x (Rect.unit ![0, 1024] ![512, 1024] inb_S512x2048_S512x1024_0_1024)) q
      (View.ld w (Rect.unit ![0, 1024] ![2048, 1024] inb_S2048x2048_S2048x1024_0_1024)) (ix2 r e) : EReal)
      = out xn xf un uf ga gb w x (ix2 r ⟨1024 + e.val, by omega⟩) := by
  pointwise [k0_pay3]
  simp only [hq]
  rfl

/-- A block filled by its left and its right half, each half agreeing with one function, is that function. -/
theorem halves {e : EltTy} (f : S512x2048.Idx → Elt Ideal e) (a b : S512x1024.Idx → Elt Ideal e)
    (ha : ∀ (r : Fin 512) (k : Fin 1024), a (ix2 r k) = f (ix2 r ⟨k.val, by omega⟩))
    (hb : ∀ (r : Fin 512) (k : Fin 1024), b (ix2 r k) = f (ix2 r ⟨1024 + k.val, by omega⟩)) (y : S512x2048.Idx) :
    View.canon (Val := Elt Ideal) [⟨Rect.unit (s := S512x2048) ![0, 1024] ![512, 1024] inb_S512x2048_S512x1024_0_1024, b⟩,
      ⟨Rect.unit (s := S512x2048) ![0, 0] ![512, 1024] inb_S512x2048_S512x1024_0_0, a⟩] y = f y := by
  refine View.canon_apply_of_pieces f _ ?_ y (View.cover_of_tiledL (s := S512x2048) _ S512x1024.size (by sl_kernel_rfl) y)
  refine List.forall_mem_cons.2 ⟨?_, ?_⟩
  · intro z
    obtain ⟨r, k, rfl⟩ := half_idx z
    exact (hb r k).trans (congrArg f (emb_right r k).symm)
  refine List.forall_mem_cons.2 ⟨?_, ?_⟩
  · intro z
    obtain ⟨r, k, rfl⟩ := half_idx z
    exact (ha r k).trans (congrArg f (emb_left r k).symm)
  intro p hp; exact absurd hp (by simp)

end Block

/-- What the body leaves of the result's block at a grid point. -/
theorem outs_eq (t : Fin cfg0.N) (y : S512x2048.Idx) : (outsAt0 m c t y : EReal)
    = out (iblk m c 0 t) (iblk m c 1 t) (iblk m c 2 t) (iblk m c 3 t) (iblk m c 4 t) (iblk m c 5 t) (iblk m c 6 t) (iblk m c 7 t) y := by
  unfold outsAt0 out0_A_8
  rw [View.read_writes_junk_apply_eq_canon]
  unfold kernelRun0_A; dsimp only
  sl_unfold_words
  simp only [View.readAt_eq_ld, Memref.IsWhole.read_unread, View.readCov_eq_canon']
  refine halves _ _ _ (fun r e => pay_out_left _ _ _ _ _ _ _ _ _ (fun z => ?_) r e) (fun r e => pay_out_right _ _ _ _ _ _ _ _ _ (fun z => ?_) r e) y
  · refine (halves (mid _ _ _ _ _ _) _ _ (pay_left _ _ _ _ _ _) (pay_right _ _ _ _ _ _) _).trans (congrArg (mid _ _ _ _ _ _) (whole_idx z))
  · refine (halves (mid _ _ _ _ _ _) _ _ (pay_left _ _ _ _ _ _) (pay_right _ _ _ _ _ _) _).trans (congrArg (mid _ _ _ _ _ _) (whole_idx z))

/-- The residual stream after the mixers at an index of the result. -/
def merged (y : S16384x2048.Idx) : EReal :=
  rowsX (argX m c) y + ∑ k : Fin 2048,
    (rowsG (argG m c) (ix2 (y 0) ⟨k.val, by omega⟩) * (∑ j : Fin 1024, rowsO (argN m c) (ix2 (y 0) j) * argUn m c (ix2 j k))
      + rowsG (argG m c) (ix2 (y 0) ⟨2048 + k.val, by omega⟩) * (∑ j : Fin 1024, rowsO (argF m c) (ix2 (y 0) j) * argUf m c (ix2 j k)) : EReal)
    * argW m c (ix2 k (y 1))

theorem block_eq (t : Fin cfg0.N) (r : Fin 512) (e : Fin 2048) :
    (outsAt0 m c t (ix2 r e) : EReal) = merged m c (ix2 ⟨512 * t.val + r.val, by have := lt32 t; omega⟩ e) := by
  rw [outs_eq]
  refine congrArg₂ (fun a b : EReal => a + b) (read_x m c t r e) (Finset.sum_congr rfl fun k _ => ?_)
  refine congrArg₂ (fun a b : EReal => a * b) ?_ (read_w m c t k e)
  refine congrArg₂ (fun a b : EReal => a + b) (congrArg₂ (fun a b : EReal => a * b) (read_ga m c t r k) (Finset.sum_congr rfl fun j _ => ?_))
    (congrArg₂ (fun a b : EReal => a * b) (read_gb m c t r k) (Finset.sum_congr rfl fun j _ => ?_))
  · exact congrArg₂ (fun a b : EReal => a * b) (read_n m c t r j) (read_un m c t j k)
  · exact congrArg₂ (fun a b : EReal => a * b) (read_f m c t r j) (read_uf m c t j k)

theorem covers : (cfg0.win 8).Covers := by decide +kernel

theorem emb8 (t : Fin cfg0.N) (r : Fin 512) (e : Fin 2048) : ((cfg0.win 8).blk t).view.emb (ix2 r e : S512x2048.Idx)
    = (ix2 ⟨512 * t.val + r.val, by have := lt32 t; omega⟩ e : S16384x2048.Idx) := by
  blk_ext [idx8 t]

/-- The result array after the run. -/
theorem result_eq : (dats m 0 c).arrAt 8 cfg0.N = merged m c := by
  refine (dats m 0 c).arrAt_eq_of_covers 8 _ covers fun t hf y => ?_
  obtain ⟨r, e, rfl⟩ : ∃ (r : Fin 512) (e : Fin 2048), y = (ix2 r e : S512x2048.Idx) := ⟨y 0, y 1, eq_ix2 y⟩
  blk_simp
  rw [after0_8]
  exact (block_eq m c t r e).trans (congrArg (merged m c) (emb8 t r e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v10) = merged m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m c), (h c).2⟩) (Value.run_blocks m ρ)

end Cert.KernelMergeIdeal.Merge

end
-- ==== Proof.Merge.Claims.lean ====
/- The claims about the gated merge and the output projection. -/
module

public import proofs.«01_k».proof.Defs
public import proofs.«01_k».proof.Proof.Merge.Value
public import proofs.«01_k».proof.Proof.Gen.KernelMerge.Frame
public import proofs.«01_k».proof.Proof.Gen.ReferenceMergeIdeal.Run
public import Idealize.ShloMosaic.Lib.Quiescent

@[expose] public section

set_option maxRecDepth 16384

noncomputable section

namespace Cert.Proof.Merge

open Idealize.ShloMosaic Idealize.ShloMosaic.TcCoe Idealize.SL.Sem

theorem frame_p : Cert.quiescent_KernelMerge := fun m ρ _ => Cert.KernelMerge.Gen.frame m ρ
theorem frame_pi : Cert.quiescent_KernelMergeIdeal := fun m ρ _ => Cert.KernelMergeIdeal.Gen.frame m ρ
theorem frame_ri : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩)
    (Cert.ReferenceMergeIdeal.Value.run (F := Ideal) m ρ)

open Cert.KernelMergeIdeal.Merge in
theorem algebraic : Cert.algebraic_KernelMergeIdeal_ReferenceMergeIdeal := by
  intro m ρ m' ρ' _ hagree
  refine ⟨_, run m ρ, ?_⟩
  refine (θ_run Cert.ReferenceMergeIdeal.defs _ _).mono (fun _ h c => ⟨(h c).1.trans ?_, (h c).2⟩)
    (Cert.ReferenceMergeIdeal.Value.run (F := Ideal) m' ρ')
  obtain ⟨h0, h1, h2, h3, h4, h5, h6⟩ := hagree c
  rw [h0, h1, h2, h3, h4, h5, h6]
  funext y
  obtain ⟨r, e, rfl⟩ : ∃ (r : Fin 16384) (e : Fin 2048), y = ix2 r e := ⟨y 0, y 1, eq_ix2 y⟩
  refine (rowsX_apply _ r e).trans ?_
  refine Eq.trans ?_ (show (_ : EReal) = merged m c (ix2 r e) from congrArg₂ (fun a b : EReal => a + b) (rowsX_apply _ r e).symm
    (Finset.sum_congr rfl fun k _ => congrArg₂ (fun a b : EReal => a * b) (congrArg₂ (fun a b : EReal => a + b)
      (congrArg₂ (fun a b : EReal => a * b) (rowsG_apply _ r _).symm (Finset.sum_congr rfl fun j _ => congrArg (· * _) (rowsO_apply _ r j).symm))
      (congrArg₂ (fun a b : EReal => a * b) (rowsG_apply _ r _).symm (Finset.sum_congr rfl fun j _ => congrArg (· * _) (rowsO_apply _ r j).symm))) rfl))
  generalize (⟨r.val / 2048, _⟩ : Fin 8) = b, (⟨r.val % 2048, _⟩ : Fin 2048) = s
  pointwise

end Cert.Proof.Merge

end
-- ==== Proof.Cmp.Math.lean ====
/- The compression of the keys and values: windows of thirty-two tokens, every sixteen, through a two-layer network, as functions of
   the arguments. -/
module

public import Idealize.ShloMosaic.Lib.Pointwise

@[expose] public section

noncomputable section

namespace Cert.Compress

open Idealize.ShloMosaic

/-- The smooth gate between the two layers, in its form with the hyperbolic tangent. -/
def gelu (x : EReal) : EReal :=
  x * (Ideal.ofBits .f32 0x3F000000#32 * (1
    + Ideal.tanh (Ideal.ofBits .f32 0x3F4C422A#32 * (x + Ideal.ofBits .f32 0x3D372713#32 * (x * (x * x))))))

section

variable (tok : Fin 8 → Fin 2048 → Fin 256 → EReal) (pos : Fin 32 → Fin 128 → EReal) (w1 : Fin 4096 → Fin 256 → EReal)
  (w2 : Fin 256 → Fin 128 → EReal)

/-- What sixteen tokens bring to the first layer: those of chunk `n` as the first half of a window. -/
def early (b : Fin 8) (g : Fin 2) (n : Fin 128) (j : Fin 256) : EReal :=
  ∑ k : Fin 2048, (tok b ⟨n.val * 16 + k.val / 128, by omega⟩ ⟨g.val * 128 + k.val % 128, by omega⟩
    + pos ⟨k.val / 128, by omega⟩ ⟨k.val % 128, by omega⟩) * w1 ⟨k.val, by omega⟩ j

/-- What sixteen tokens bring to the first layer: those of chunk `n` as the second half of a window. -/
def late (b : Fin 8) (g : Fin 2) (n : Fin 128) (j : Fin 256) : EReal :=
  ∑ k : Fin 2048, (tok b ⟨n.val * 16 + k.val / 128, by omega⟩ ⟨g.val * 128 + k.val % 128, by omega⟩
    + pos ⟨16 + k.val / 128, by omega⟩ ⟨k.val % 128, by omega⟩) * w1 ⟨2048 + k.val, by omega⟩ j

/-- The first layer at window `n`: chunk `n` and the chunk after it. -/
def hidden (b : Fin 8) (g : Fin 2) (n : Fin 128) (j : Fin 256) : EReal :=
  early tok pos w1 b g n j + late tok pos w1 b g ⟨(n.val + 1) % 128, by omega⟩ j

/-- The second layer at window `n`. -/
def outer (b : Fin 8) (g : Fin 2) (n : Fin 128) (e : Fin 128) : EReal :=
  ∑ j : Fin 256, gelu (hidden tok pos w1 b g n j) * w2 j e

/-- A sum over a whole window is the sum over its first half and the sum over its second. -/
theorem sum_window (f : Fin 4096 → EReal) :
    ∑ k : Fin 4096, f k = (∑ k : Fin 2048, f ⟨k.val, by omega⟩) + ∑ k : Fin 2048, f ⟨2048 + k.val, by omega⟩ :=
  (Fin.sum_univ_add (a := 2048) (b := 2048) f).trans rfl

/-- A window's first layer, from the window's thirty-two tokens side by side. -/
theorem hidden_of_window (b : Fin 8) (g : Fin 2) (n : Fin 128) (hn : n.val < 127) (j : Fin 256) (x : Fin 4096 → EReal)
    (hx : ∀ k : Fin 4096, x k = tok b ⟨n.val * 16 + k.val / 128, by omega⟩ ⟨g.val * 128 + k.val % 128, by omega⟩
      + pos ⟨k.val / 128, by omega⟩ ⟨k.val % 128, by omega⟩) :
    ∑ k : Fin 4096, x k * w1 k j = hidden tok pos w1 b g n j := by
  rw [sum_window]
  refine congrArg₂ (fun a b : EReal => a + b) (Finset.sum_congr rfl fun k _ => ?_) (Finset.sum_congr rfl fun k _ => ?_)
  · exact congrArg (fun a : EReal => a * w1 ⟨k.val, by omega⟩ j) (hx _)
  · refine congrArg (fun a : EReal => a * w1 ⟨2048 + k.val, by omega⟩ j) ((hx _).trans ?_)
    refine congrArg₂ (fun a b : EReal => a + b) ?_ ?_
    · exact congrArg₂ (tok b) (Fin.ext (by dsimp only; omega)) (Fin.ext (by dsimp only; omega))
    · exact congrArg₂ pos (Fin.ext (by dsimp only; omega)) (Fin.ext (by dsimp only; omega))

end

end Cert.Compress

end
-- ==== Proof.CmpK.Value.lean ====
/- The compressed keys: what the kernel leaves in its result, index by index, as a function of its arguments. -/
module

public import proofs.«01_k».proof.Proof.Gen.KernelCmpKIdeal.Value
public import proofs.«01_k».proof.Proof.Cmp.Math
public import Idealize.ShloMosaic.Lib.Pipeline.ValueKit
public import Idealize.ShloMosaic.Lib.Pointwise

@[expose] public section

set_option maxRecDepth 16384

noncomputable section

namespace Cert.KernelCmpKIdeal.CmpK

open Cert.KernelCmpKIdeal.Gen
open Cert.Compress
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![1, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![t.val, 0, 0] := by decide +kernel

theorem lt16 (t : Fin cfg0.N) : t.val < 16 := Nat.lt_of_lt_of_eq t.isLt (by decide)

/-- The arguments: the keys, the tokens' places in a window, and the two layers' weights. -/
abbrev argX : S8x2048x256.Idx → EReal := m ((c.tc : Thread nD τ).loc main_arg0)
abbrev argP : S32x128.Idx → EReal := m ((c.tc : Thread nD τ).loc main_arg1)
abbrev argW : S4096x256.Idx → EReal := m ((c.tc : Thread nD τ).loc main_arg2)
abbrev argU : S256x128.Idx → EReal := m ((c.tc : Thread nD τ).loc main_arg3)

/-- The chunks of sixteen tokens, a row each, for every sequence and group. -/
def chunks (x : FVec Ideal S8x2048x256 .f32) : FVec Ideal S16x128x2048 .bf16 :=
  shapeCast S16x128x2048 (transpose S8x2x2048x128 [0, 2, 1, 3]
    (shapeCast S8x2048x2x128 (truncf .bf16 x bitsLt_bf16_f32) shapeCasts_S8x2048x256_S8x2048x2x128)
    transposes_S8x2048x2x128_S8x2x2048x128_0_2_1_3) shapeCasts_S8x2x2048x128_S16x128x2048

theorem V_v31 : V m c main_v31 = chunks (argX m c) := by
  simp only [V, hostOps0]
  after_results_simp <;> rfl

theorem chunks_apply (x : FVec Ideal S8x2048x256 .f32) (b : Fin 16) (n : Fin 128) (k : Fin 2048) :
    chunks x (ix3 b n k) = (x (ix3 ⟨b.val / 2, by omega⟩ ⟨n.val * 16 + k.val / 128, by omega⟩ ⟨b.val % 2 * 128 + k.val % 128, by omega⟩) : EReal) := by
  pointwise [chunks]

/-- The places, a row for each half of a window. -/
def places (p : FVec Ideal S32x128 .f32) : FVec Ideal S2x2048 .f32 := shapeCast S2x2048 p shapeCasts_S32x128_S2x2048

theorem V_v32 : V m c main_v32 = places (argP m c) := by
  simp only [V, hostOps0]
  after_results_simp <;> rfl

theorem places_apply (p : FVec Ideal S32x128 .f32) (a : Fin 2) (k : Fin 2048) :
    places p (ix2 a k) = (p (ix2 ⟨a.val * 16 + k.val / 128, by omega⟩ ⟨k.val % 128, by omega⟩) : EReal) := by
  pointwise [places]

theorem V_v33 : V m c main_v33 = (truncf .bf16 (argW m c : FVec Ideal S4096x256 .f32) bitsLt_bf16_f32 : FVec Ideal S4096x256 .bf16) := by
  simp only [V, hostOps0]
  after_results_simp <;> rfl

theorem V_v34 : V m c main_v34 = (truncf .bf16 (argW m c : FVec Ideal S4096x256 .f32) bitsLt_bf16_f32 : FVec Ideal S4096x256 .bf16) := by
  simp only [V, hostOps0]
  after_results_simp <;> rfl

theorem V_v35 : V m c main_v35 = (truncf .bf16 (argU m c : FVec Ideal S256x128 .f32) bitsLt_bf16_f32 : FVec Ideal S256x128 .bf16) := by
  simp only [V, hostOps0]
  after_results_simp <;> rfl

/-! The rotation's angles and the tables of their cosines and sines, each for both halves of a head. -/

def angles : FVec Ideal S128x64 .f32 :=
  mulf (broadcastInDim S128x64 ![0, 1] bcast_S128x1_S128x64_0_1 (broadcastInDim S128x1 ![0] bcast_S128_S128x1_0
      (sitofp .f32 (subi (addi (muli (iotaInDim S128 32 0) (broadcastInDim S128 ![] bcast_S_S128 (constantI S_ 32 16#32)))
        (broadcastInDim S128 ![] bcast_S_S128 (constantI S_ 32 32#32))) (broadcastInDim S128 ![] bcast_S_S128 (constantI S_ 32 1#32))))))
    (broadcastInDim S128x64 ![0, 1] bcast_S1x64_S128x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
            (mulf (broadcastInDim S64 ![] bcast_S_S64 (constant S_ .f32 0x40000000#32)) (sitofp .f32 (iotaInDim S64 32 0)))))
          (broadcastInDim S64 ![] bcast_S_S64 (constant S_ .f32 0x43000000#32))))))

def cosTable : FVec Ideal S128x128 .f32 :=
  concatenate S128x128 1 [⟨S128x64, Host.cos angles⟩, ⟨S128x64, Host.cos angles⟩] concatenates_S128x64_S128x64_S128x128_d1

def sinTable : FVec Ideal S128x128 .f32 :=
  concatenate S128x128 1 [⟨S128x64, Host.negf (Host.sin angles)⟩, ⟨S128x64, Host.sin angles⟩] concatenates_S128x64_S128x64_S128x128_d1

theorem V_v25 : V m c main_v25 = cosTable := by
  simp only [V, hostOps0]
  after_results_simp <;> rfl

theorem V_v27 : V m c main_v27 = sinTable := by
  simp only [V, hostOps0]
  after_results_simp <;> rfl

theorem cosTable_apply (n : Fin 128) (l : Fin 128) :
    cosTable (ix2 n l) = (Ideal.cos (angles (ix2 n ⟨l.val % 64, by omega⟩)) : EReal) := by
  pointwise [cosTable]
  split_ifs <;> exact congrArg (fun x => Ideal.cos (angles (ix2 n x))) (Fin.ext (by dsimp only; omega))

theorem sinTable_apply (n : Fin 128) (l : Fin 128) :
    sinTable (ix2 n l) = (if l.val < 64 then - Ideal.sin (angles (ix2 n ⟨l.val % 64, by omega⟩)) else Ideal.sin (angles (ix2 n ⟨l.val % 64, by omega⟩)) : EReal) := by
  pointwise [sinTable]
  split_ifs <;> first
    | exact congrArg (fun x => - Ideal.sin (angles (ix2 n x))) (Fin.ext (by dsimp only; omega))
    | exact congrArg (fun x => Ideal.sin (angles (ix2 n x))) (Fin.ext (by dsimp only; omega))

/-- The angle of window `n` at a head's column `d`: the window's last position over the base to the power of twice the column over the head's width. -/
def angle (n d : ℕ) : EReal :=
  (FloatOps.sitofp (F := Ideal) .f32 (IntOp.subi (IntOp.addi (IntOp.muli (BitVec.ofNat 32 n) 16#32) 32#32) 1#32) : EReal) * Ideal.pow (Ideal.ofBits .f32 0x461C4000#32)
    (Ideal.div (-(Ideal.ofBits .f32 0x40000000#32 * (FloatOps.sitofp (F := Ideal) .f32 (BitVec.ofNat 32 d) : EReal))) (Ideal.ofBits .f32 0x43000000#32))

theorem angles_apply (n : Fin 128) (d : Fin 64) : (angles (ix2 n d) : EReal) = angle n.val d.val := by
  pointwise [angles]
  rfl

/-- The sine of a column, negative in the first half of a head. -/
def signed (n l : ℕ) : EReal :=
  if l < 64 then - Ideal.sin (angle n (l % 64)) else Ideal.sin (angle n (l % 64))

theorem read_cos (t : Fin cfg0.N) (n : Fin 128) (l : Fin 128) : (iblk m c 5 t (ix2 n l) : EReal) = Ideal.cos (angle n.val (l.val % 64)) := by
  have : iblk m c 5 t (ix2 n l) = V m c main_v25 (ix2 n l) := by blk_ext [iblk, V, idx5 t]
  rw [this, V_v25, cosTable_apply, angles_apply]

theorem read_sin (t : Fin cfg0.N) (n : Fin 128) (l : Fin 128) : (iblk m c 6 t (ix2 n l) : EReal) = signed n.val l.val := by
  have : iblk m c 6 t (ix2 n l) = V m c main_v27 (ix2 n l) := by blk_ext [iblk, V, idx6 t]
  rw [this, V_v27, sinTable_apply, angles_apply]
  rfl

theorem read_x (t : Fin cfg0.N) (n : Fin 128) (k : Fin 2048) :
    (iblk m c 0 t (ix3 0 n k) : EReal) = argX m c (ix3 ⟨t.val / 2, by have := lt16 t; omega⟩ ⟨n.val * 16 + k.val / 128, by omega⟩ ⟨t.val % 2 * 128 + k.val % 128, by omega⟩) := by
  have : iblk m c 0 t (ix3 0 n k) = V m c main_v31 (ix3 ⟨t.val, lt16 t⟩ n k) := by blk_ext [iblk, V, idx0 t]
  rw [this, V_v31]
  exact chunks_apply _ _ _ _

theorem read_p (t : Fin cfg0.N) (a : Fin 2) (k : Fin 2048) :
    (iblk m c 1 t (ix2 a k) : EReal) = argP m c (ix2 ⟨a.val * 16 + k.val / 128, by omega⟩ ⟨k.val % 128, by omega⟩) := by
  have : iblk m c 1 t (ix2 a k) = V m c main_v32 (ix2 a k) := by blk_ext [iblk, V, idx1 t]
  rw [this, V_v32]
  exact places_apply _ _ _

theorem read_early (t : Fin cfg0.N) (k : Fin 2048) (j : Fin 256) :
    (iblk m c 2 t (ix2 k j) : EReal) = argW m c (ix2 ⟨k.val, by omega⟩ j) := by
  have : iblk m c 2 t (ix2 k j) = V m c main_v33 (ix2 ⟨k.val, by omega⟩ j) := by blk_ext [iblk, V, idx2 t]
  rw [this, V_v33]
  rfl

theorem read_late (t : Fin cfg0.N) (k : Fin 2048) (j : Fin 256) :
    (iblk m c 3 t (ix2 k j) : EReal) = argW m c (ix2 ⟨2048 + k.val, by omega⟩ j) := by
  have : iblk m c 3 t (ix2 k j) = V m c main_v34 (ix2 ⟨2048 + k.val, by omega⟩ j) := by blk_ext [iblk, V, idx3 t]
  rw [this, V_v34]
  rfl

theorem read_u (t : Fin cfg0.N) (j : Fin 256) (e : Fin 128) :
    (iblk m c 4 t (ix2 j e) : EReal) = argU m c (ix2 j e) := by
  have : iblk m c 4 t (ix2 j e) = V m c main_v35 (ix2 j e) := by blk_ext [iblk, V, idx4 t]
  rw [this, V_v35]
  rfl

section Block

variable (x : Vec Ideal S1x128x2048 .bf16) (p : Vec Ideal S2x2048 .f32) (wa wb : Vec Ideal S2048x256 .bf16) (u : Vec Ideal S256x128 .bf16)

/-- The first layer, of a block's chunks. -/
def inner (n : Fin 128) (j : Fin 256) : EReal :=
  (∑ k : Fin 2048, ((x (ix3 0 n k) : EReal) + p (ix2 0 k)) * wa (ix2 k j))
    + ∑ k : Fin 2048, ((x (ix3 0 ⟨(n.val + 128 - 127) % 128, by omega⟩ k) : EReal) + p (ix2 1 k)) * wb (ix2 k j)

theorem pay_apply (n : Fin 128) (e : Fin 128) :
    (k0_pay2 (View.ld x r0_0) (View.ld p r0_1) (View.ld p r0_2) (View.ld wa r0_3) (View.ld wb r0_3) (View.ld u r0_4) (ix2 n e) : EReal)
      = ∑ j : Fin 256, gelu (inner x p wa wb n j) * u (ix2 j e) := by
  pointwise [k0_pay2]
  rfl

theorem last_apply (a co si : Vec Ideal S128x128 .f32) (n : Fin 128) (e : Fin 128) :
    (k0_pay1 a (View.ld co r0_5) (View.ld si r0_5) (ix3 0 n e) : EReal)
      = if n.val < 127 then (a (ix2 n e) : EReal) * co (ix2 n e) + (a (ix2 n ⟨(e.val + 128 - 64) % 128, by omega⟩) : EReal) * si (ix2 n e) else 0 := by
  pointwise [k0_pay1]
  have : ∀ n : Fin 128, IntOp.cmpi CmpIPredicate.slt (BitVec.ofNat 32 n.val) 127#32 = if n.val < 127 then 1#1 else 0#1 := by decide
  rw [this n]
  split_ifs <;> rfl

/-- The second layer, of a block's chunks. -/
def rows (n : Fin 128) (e : Fin 128) : EReal := ∑ j : Fin 256, gelu (inner x p wa wb n j) * u (ix2 j e)

theorem block_apply (co si : Vec Ideal S128x128 .f32) (n : Fin 128) (e : Fin 128) :
    (out0_7 x p wa wb u co si (ix3 0 n e) : EReal)
      = if n.val < 127 then rows x p wa wb u n e * co (ix2 n e) + rows x p wa wb u n ⟨(e.val + 128 - 64) % 128, by omega⟩ * si (ix2 n e) else 0 := by
  refine (congrFun (View.canon_unit_zero (by decide) _ _) _).trans ?_
  rw [last_apply, pay_apply, pay_apply]
  rfl

end Block

/-- The arguments by token and column. -/
abbrev tokOf (x : S8x2048x256.Idx → EReal) (b : Fin 8) (s : Fin 2048) (d : Fin 256) : EReal := x (ix3 b s d)
abbrev posOf (p : S32x128.Idx → EReal) (a : Fin 32) (d : Fin 128) : EReal := p (ix2 a d)
abbrev firstOf (w : S4096x256.Idx → EReal) (k : Fin 4096) (j : Fin 256) : EReal := w (ix2 k j)
abbrev secondOf (u : S256x128.Idx → EReal) (j : Fin 256) (e : Fin 128) : EReal := u (ix2 j e)

/-- The compressed keys: a row for each window of each sequence and group, and a last row of zeros. -/
def compressed (x : S8x2048x256.Idx → EReal) (p : S32x128.Idx → EReal) (w : S4096x256.Idx → EReal) (u : S256x128.Idx → EReal)
    (b : Fin 16) (n : Fin 128) (e : Fin 128) : EReal :=
  if n.val < 127 then outer (tokOf x) (posOf p) (firstOf w) (secondOf u) ⟨b.val / 2, by omega⟩ ⟨b.val % 2, by omega⟩ n e * Ideal.cos (angle n.val (e.val % 64))
    + outer (tokOf x) (posOf p) (firstOf w) (secondOf u) ⟨b.val / 2, by omega⟩ ⟨b.val % 2, by omega⟩ n ⟨(e.val + 128 - 64) % 128, by omega⟩ * signed n.val e.val else 0

def compressedAt (x : S8x2048x256.Idx → EReal) (p : S32x128.Idx → EReal) (w : S4096x256.Idx → EReal) (u : S256x128.Idx → EReal)
    (y : S16x128x128.Idx) : EReal := compressed x p w u (y 0) (y 1) (y 2)

theorem inner_eq (t : Fin cfg0.N) (n : Fin 128) (j : Fin 256) :
    inner (iblk m c 0 t) (iblk m c 1 t) (iblk m c 2 t) (iblk m c 3 t) n j
      = hidden (tokOf (argX m c)) (posOf (argP m c)) (firstOf (argW m c)) ⟨t.val / 2, by have := lt16 t; omega⟩ ⟨t.val % 2, by omega⟩ n j := by
  refine congrArg₂ (fun a b : EReal => a + b) (Finset.sum_congr rfl fun k _ => ?_) (Finset.sum_congr rfl fun k _ => ?_)
  · refine congrArg₂ (fun a b : EReal => a * b) (congrArg₂ (fun a b : EReal => a + b) (read_x m c t n k) ?_) (read_early m c t k j)
    exact (read_p m c t 0 k).trans (congrArg (fun i => argP m c (ix2 i _)) (Fin.ext (by show 0 * 16 + k.val / 128 = k.val / 128; omega)))
  · refine congrArg₂ (fun a b : EReal => a * b) (congrArg₂ (fun a b : EReal => a + b) ((read_x m c t _ k).trans ?_) ?_) (read_late m c t k j)
    · exact congrArg (fun i => argX m c (ix3 _ i _))
        (Fin.ext (by show (n.val + 128 - 127) % 128 * 16 + k.val / 128 = (n.val + 1) % 128 * 16 + k.val / 128; omega))
    exact (read_p m c t 1 k).trans (congrArg (fun i => argP m c (ix2 i _)) (Fin.ext (by show 1 * 16 + k.val / 128 = 16 + k.val / 128; omega)))

theorem rows_eq (t : Fin cfg0.N) (n e : Fin 128) :
    rows (iblk m c 0 t) (iblk m c 1 t) (iblk m c 2 t) (iblk m c 3 t) (iblk m c 4 t) n e
      = outer (tokOf (argX m c)) (posOf (argP m c)) (firstOf (argW m c)) (secondOf (argU m c)) ⟨t.val / 2, by have := lt16 t; omega⟩ ⟨t.val % 2, by omega⟩ n e :=
  Finset.sum_congr rfl fun j _ => congrArg₂ (fun a b : EReal => gelu a * b) (inner_eq m c t n j) (read_u m c t j e)

/-- A grid point's block is the compressed keys of its sequence and group. -/
theorem block_eq (t : Fin cfg0.N) (n e : Fin 128) :
    (out0_7 (iblk m c 0 t) (iblk m c 1 t) (iblk m c 2 t) (iblk m c 3 t) (iblk m c 4 t) (iblk m c 5 t) (iblk m c 6 t) (ix3 0 n e) : EReal)
      = compressed (argX m c) (argP m c) (argW m c) (argU m c) ⟨t.val, lt16 t⟩ n e := by
  rw [block_apply]
  refine if_congr Iff.rfl (congrArg₂ (fun a b : EReal => a + b) ?_ ?_) rfl
  · exact congrArg₂ (fun a b : EReal => a * b) (rows_eq m c t n e) (read_cos m c t n e)
  · exact congrArg₂ (fun a b : EReal => a * b) (rows_eq m c t n _) (read_sin m c t n e)

theorem covers : (cfg0.win 7).Covers := by decide +kernel

theorem emb7 (t : Fin cfg0.N) (n e : Fin 128) : ((cfg0.win 7).blk t).view.emb (ix3 0 n e : S1x128x128.Idx)
    = (ix3 ⟨t.val, lt16 t⟩ n e : S16x128x128.Idx) := by
  blk_ext [idx7 t]

/-- The result array after the run. -/
theorem result_eq : (dats m 0 c).arrAt 7 cfg0.N = compressedAt (argX m c) (argP m c) (argW m c) (argU m c) := by
  refine (dats m 0 c).arrAt_eq_of_covers 7 _ covers fun t hf y => ?_
  obtain ⟨n, e, rfl⟩ : ∃ (n e : Fin 128), y = (ix3 0 n e : S1x128x128.Idx) := ⟨y 1, y 2, (eq_ix3 y).trans (congrArg (fun i => ix3 i _ _) (Subsingleton.elim _ _))⟩
  blk_simp
  rw [after0_7]
  exact (block_eq m c t n e).trans (congrArg (compressedAt (argX m c) (argP m c) (argW m c) (argU m c)) (emb7 t n e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v36) = compressedAt (argX m c) (argP m c) (argW m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (Value.run_blocks m ρ)

end Cert.KernelCmpKIdeal.CmpK

end
-- ==== Proof.CmpK.Claims.lean ====
/- The claims about the compressed keys. -/
module

public import proofs.«01_k».proof.Defs
public import proofs.«01_k».proof.Proof.CmpK.Value
public import proofs.«01_k».proof.Proof.Gen.KernelCmpK.Frame
public import proofs.«01_k».proof.Proof.Gen.ReferenceCmpKIdeal.Run
public import Idealize.ShloMosaic.Lib.Quiescent

@[expose] public section

set_option maxRecDepth 16384

noncomputable section

namespace Cert.Proof.CmpK

open Idealize.ShloMosaic Idealize.ShloMosaic.TcCoe Idealize.SL.Sem

theorem frame_p : Cert.quiescent_KernelCmpK := fun m ρ _ => Cert.KernelCmpK.Gen.frame m ρ
theorem frame_pi : Cert.quiescent_KernelCmpKIdeal := fun m ρ _ => Cert.KernelCmpKIdeal.Gen.frame m ρ
theorem frame_ri : Cert.quiescent_ReferenceCmpKIdeal := fun m ρ _ =>
  (θ_run Cert.ReferenceCmpKIdeal.defs _ _).mono (fun r h => ⟨fun c => (h c).2,
      Idealize.ShloMosaic.sem_eq_zero_of_no_sems (by decide) r.2⟩)
    (Cert.ReferenceCmpKIdeal.Value.run (F := Ideal) m ρ)

section Reference

open Cert.ReferenceCmpKIdeal Cert.ReferenceCmpKIdeal.Gen
open Cert.KernelCmpKIdeal.CmpK (tokOf posOf firstOf secondOf angle signed)
open Cert.Compress

variable (x : FVec Ideal S8x2048x256 .f32) (p : FVec Ideal S32x128 .f32) (w : FVec Ideal S4096x256 .f32) (u : FVec Ideal S256x128 .f32)

/-- The windows of thirty-two tokens with their places, a row each. -/
def windows : FVec Ideal S8x127x2x4096 .f32 :=
  shapeCast S8x127x2x4096 (transpose S8x127x2x32x128 [0, 1, 3, 2, 4] (addf (concatenate S8x127x32x2x128 2
      [⟨S8x127x16x2x128, (extractStridedSlice S8x127x16x2x128 ![0, 0, 0, 0, 0] (shapeCast S8x128x16x2x128 (shapeCast S8x2048x2x128 x shapeCasts_S8x2048x256_S8x2048x2x128) shapeCasts_S8x2048x2x128_S8x128x16x2x128) slices_S8x128x16x2x128_S8x127x16x2x128_0_0_0_0_0)⟩,
       ⟨S8x127x16x2x128, (extractStridedSlice S8x127x16x2x128 ![0, 1, 0, 0, 0] (shapeCast S8x128x16x2x128 (shapeCast S8x2048x2x128 x shapeCasts_S8x2048x256_S8x2048x2x128) shapeCasts_S8x2048x2x128_S8x128x16x2x128) slices_S8x128x16x2x128_S8x127x16x2x128_0_1_0_0_0)⟩]
      concatenates_S8x127x16x2x128_S8x127x16x2x128_S8x127x32x2x128_d2)
    (broadcastInDim S8x127x32x2x128 ![0, 1, 2, 3, 4] bcast_S1x1x32x1x128_S8x127x32x2x128_0_1_2_3_4 (broadcastInDim S1x1x32x1x128 ![2, 4] bcast_S32x128_S1x1x32x1x128_2_4 p)))
    transposes_S8x127x32x2x128_S8x127x2x32x128_0_1_3_2_4) shapeCasts_S8x127x2x32x128_S8x127x2x4096

theorem windows_apply (b : Fin 8) (n : Fin 127) (g : Fin 2) (k : Fin 4096) :
    (windows x p (ix4 b n g k) : EReal) = tokOf x b ⟨n.val * 16 + k.val / 128, by omega⟩ ⟨g.val * 128 + k.val % 128, by omega⟩
      + posOf p ⟨k.val / 128, by omega⟩ ⟨k.val % 128, by omega⟩ := by
  pointwise [windows]
  by_cases hk : k.val / 128 < 16
  · rw [dif_pos hk]
  · rw [dif_neg hk]
    exact congrArg (fun i => (x (ix3 b i _) : EReal) + p _) (Fin.ext (by show (1 + n.val) * 16 + (k.val / 128 - 16) = n.val * 16 + k.val / 128; omega))

def first : FVec Ideal S8x127x2x256 .f32 :=
  Host.dotGeneral dot_S8x127x2x4096_S4096x256_S8x127x2x256_3_0_012_1_n_n none (windows x p) w

theorem first_apply (b : Fin 8) (n : Fin 127) (g : Fin 2) (j : Fin 256) :
    (first x p w (ix4 b n g j) : EReal) = hidden (tokOf x) (posOf p) (firstOf w) b g ⟨n.val, by omega⟩ j := by
  have : (first x p w (ix4 b n g j) : EReal) = ∑ k : Fin 4096, (windows x p (ix4 b n g k) : EReal) * w (ix2 k j) := by
    unfold first
    generalize windows x p = q
    pointwise
  exact this.trans (hidden_of_window (tokOf x) (posOf p) (firstOf w) b g ⟨n.val, by omega⟩ n.isLt j (fun k => windows x p (ix4 b n g k))
    fun k => windows_apply x p b n g k)

theorem zero_pad : (FloatOps.sitofp (F := Ideal) .f32 (0#32 : BitVec 32) : EReal) = 0 := by simp [FloatOps.sitofp]

/-- The smooth gate with the cube's factors grouped the other way. -/
theorem gelu_cube (a : EReal) : a * (Ideal.ofBits .f32 0x3F000000#32 * (1
    + Ideal.tanh (Ideal.ofBits .f32 0x3F4C422A#32 * (a + Ideal.ofBits .f32 0x3D372713#32 * (a * a * a))))) = gelu a := by
  rw [mul_comm (a * a) a]
  rfl

/-- The second layer of every window. -/
def second : FVec Ideal S8x127x2x128 .f32 :=
  Host.dotGeneral dot_S8x127x2x256_S256x128_S8x127x2x128_3_0_012_1_n_n none (mulf (first x p w) (mulf (broadcastInDim S8x127x2x256 ![] bcast_S_S8x127x2x256 (constant S_ .f32 0x3F000000#32))
    (addf (broadcastInDim S8x127x2x256 ![] bcast_S_S8x127x2x256 (constant S_ .f32 0x3F800000#32)) (Host.tanh (mulf (broadcastInDim S8x127x2x256 ![] bcast_S_S8x127x2x256 (constant S_ .f32 0x3F4C422A#32))
      (addf (first x p w) (mulf (broadcastInDim S8x127x2x256 ![] bcast_S_S8x127x2x256 (constant S_ .f32 0x3D372713#32)) (mulf (mulf (first x p w) (first x p w)) (first x p w))))))))) u

theorem second_apply (b : Fin 8) (n : Fin 127) (g : Fin 2) (e : Fin 128) :
    (second x p w u (ix4 b n g e) : EReal) = outer (tokOf x) (posOf p) (firstOf w) (secondOf u) b g ⟨n.val, by omega⟩ e := by
  have hA := fun j => first_apply x p w b n g j
  unfold second
  generalize first x p w = q at hA
  pointwise
  refine Finset.sum_congr rfl fun j _ => congrArg (fun a : EReal => a * u (ix2 j e)) ?_
  exact (gelu_cube _).trans (congrArg gelu (hA j))

/-- The angles of the windows. -/
def turns : FVec Ideal S127x64 .f32 :=
  mulf (broadcastInDim S127x64 ![0, 1] bcast_S127x1_S127x64_0_1 (broadcastInDim S127x1 ![0] bcast_S127_S127x1_0 (sitofp .f32 (subi (addi (muli (iotaInDim S127 32 0) (broadcastInDim S127 ![] bcast_S_S127 (constantI S_ 32 16#32))) (broadcastInDim S127 ![] bcast_S_S127 (constantI S_ 32 32#32))) (broadcastInDim S127 ![] bcast_S_S127 (constantI S_ 32 1#32))))))
    (broadcastInDim S127x64 ![0, 1] bcast_S1x64_S127x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32))))))

theorem turns_apply (n : Fin 127) (d : Fin 64) : (turns (ix2 n d) : EReal) = angle n.val d.val := by
  pointwise [turns]
  rfl

/-- A table of the windows' angles, the same for every sequence and group. -/
def spread (a : FVec Ideal S127x64 .f32) : FVec Ideal S8x127x2x64 .f32 :=
  broadcastInDim S8x127x2x64 ![0, 1, 2, 3] bcast_S1x127x1x64_S8x127x2x64_0_1_2_3 (broadcastInDim S1x127x1x64 ![1, 3] bcast_S127x64_S1x127x1x64_1_3 a)

/-- The rotation of the second layer, its windows put by group, and the row of zeros after them. -/
def rest (q : FVec Ideal S8x127x2x128 .f32) : FVec Ideal S16x128x128 .bf16 :=
  truncf .bf16 (shapeCast S16x128x128 (pad S8x2x128x128 ![0, 0, 0, 0] ![0, 0, 1, 0] ![0, 0, 0, 0] (transpose S8x2x127x128 [0, 2, 1, 3] (concatenate S8x127x2x128 3
      [⟨S8x127x2x64, subf (mulf (extractStridedSlice S8x127x2x64 ![0, 0, 0, 0] q slices_S8x127x2x128_S8x127x2x64_0_0_0_0) (spread (Host.cos turns)))
        (mulf (extractStridedSlice S8x127x2x64 ![0, 0, 0, 64] q slices_S8x127x2x128_S8x127x2x64_0_0_0_64) (spread (Host.sin turns)))⟩,
       ⟨S8x127x2x64, addf (mulf (extractStridedSlice S8x127x2x64 ![0, 0, 0, 64] q slices_S8x127x2x128_S8x127x2x64_0_0_0_64) (spread (Host.cos turns)))
        (mulf (extractStridedSlice S8x127x2x64 ![0, 0, 0, 0] q slices_S8x127x2x128_S8x127x2x64_0_0_0_0) (spread (Host.sin turns)))⟩]
      concatenates_S8x127x2x64_S8x127x2x64_S8x127x2x128_d3) transposes_S8x127x2x128_S8x2x127x128_0_2_1_3) (sitofp .f32 (constantI S_ 32 0#32)) pads_S8x2x127x128_S8x2x128x128_000_000_010_000 h_S_)
    shapeCasts_S8x2x128x128_S16x128x128) bitsLt_bf16_f32

/-- The reference's result is the rotation of the second layer. -/
theorem res_eq (m : (ℓ : Loc nD τ sig) → Buf (Elt Ideal) ℓ) (c : Dev nD) :
    Value.res_main_v68 m c = rest (second (m ((c.tc : Thread nD τ).loc main_arg0)) (m ((c.tc : Thread nD τ).loc main_arg1))
      (m ((c.tc : Thread nD τ).loc main_arg2)) (m ((c.tc : Thread nD τ).loc main_arg3))) := by
  unfold Value.res_main_v68
  rfl

theorem first_partner (e : Fin 128) (he : e.val < 64) : (⟨64 + e.val, by omega⟩ : Fin 128) = ⟨(e.val + 128 - 64) % 128, by omega⟩ := by
  rw [Fin.mk.injEq]
  omega

theorem second_partner (e : Fin 128) (he : ¬ e.val < 64) : (⟨e.val - 64, by omega⟩ : Fin 128) = ⟨(e.val + 128 - 64) % 128, by omega⟩ := by
  rw [Fin.mk.injEq]
  omega

theorem second_self (e : Fin 128) (he : ¬ e.val < 64) : (⟨64 + (e.val - 64), by omega⟩ : Fin 128) = e := by
  rw [Fin.ext_iff]
  exact Nat.add_sub_cancel' (Nat.le_of_not_lt he)

theorem second_column (e : Fin 128) (he : ¬ e.val < 64) : e.val - 64 = e.val % 64 := by omega

theorem rotated_first {a a' b b' t t' : EReal} (s : EReal) (hs : s = - Ideal.sin t') (ha : a = a') (hb : b = b') (ht : t = t') :
    a * Ideal.cos t - b * Ideal.sin t = a' * Ideal.cos t' + b' * s := by
  rw [hs, ha, hb, ht, mul_neg, sub_eq_add_neg]

theorem rotated_second {a a' b b' t t' : EReal} (s : EReal) (hs : s = Ideal.sin t') (ha : a = a') (hb : b = b') (ht : t = t') :
    a * Ideal.cos t + b * Ideal.sin t = a' * Ideal.cos t' + b' * s := by
  rw [hs, ha, hb, ht]

/-- The rotated rows at an index. -/
theorem rest_apply (q : FVec Ideal S8x127x2x128 .f32) (f : Fin 128 → Fin 128 → EReal) (b : Fin 16) (n e : Fin 128)
    (hq : ∀ (n : Fin 127) (e : Fin 128), (q (ix4 ⟨b.val / 2, by omega⟩ n ⟨b.val % 2, by omega⟩ e) : EReal) = f ⟨n.val, by omega⟩ e) :
    (rest q (ix3 b n e) : EReal) = if n.val < 127 then f n e * Ideal.cos (angle n.val (e.val % 64))
      + f n ⟨(e.val + 128 - 64) % 128, by omega⟩ * signed n.val e.val else 0 := by
  pointwise [rest, spread]
  by_cases hn : n.val < 127
  · rw [dif_pos ⟨by omega, by omega, hn⟩]
    refine Eq.trans ?_ (if_pos hn).symm
    by_cases he : e.val < 64
    · have h1 : (q (ix4 ⟨b.val / 2, by omega⟩ ⟨n.val, hn⟩ ⟨b.val % 2, by omega⟩ e) : EReal) = f n e := hq ⟨n.val, hn⟩ e
      have h2 : (q (ix4 ⟨b.val / 2, by omega⟩ ⟨n.val, hn⟩ ⟨b.val % 2, by omega⟩ ⟨64 + e.val, by omega⟩) : EReal) = f n ⟨(e.val + 128 - 64) % 128, by omega⟩ :=
        (hq ⟨n.val, hn⟩ ⟨64 + e.val, by omega⟩).trans (congrArg (f n) (first_partner e he))
      have h3 : (turns (ix2 ⟨n.val, hn⟩ ⟨e.val, he⟩) : EReal) = angle n.val (e.val % 64) :=
        (turns_apply ⟨n.val, hn⟩ ⟨e.val, he⟩).trans (congrArg (angle n.val) (Nat.mod_eq_of_lt he).symm)
      refine (dif_pos he).trans (rotated_first _ ?_ h1 h2 h3)
      exact if_pos he
    · have h1 : (q (ix4 ⟨b.val / 2, by omega⟩ ⟨n.val, hn⟩ ⟨b.val % 2, by omega⟩ ⟨64 + (e.val - 64), by omega⟩) : EReal) = f n e :=
        (hq ⟨n.val, hn⟩ ⟨64 + (e.val - 64), by omega⟩).trans (congrArg (f n) (second_self e he))
      have h2 : (q (ix4 ⟨b.val / 2, by omega⟩ ⟨n.val, hn⟩ ⟨b.val % 2, by omega⟩ ⟨e.val - 64, by omega⟩) : EReal) = f n ⟨(e.val + 128 - 64) % 128, by omega⟩ :=
        (hq ⟨n.val, hn⟩ ⟨e.val - 64, by omega⟩).trans (congrArg (f n) (second_partner e he))
      have h3 : (turns (ix2 ⟨n.val, hn⟩ ⟨e.val - 64, by omega⟩) : EReal) = angle n.val (e.val % 64) :=
        (turns_apply ⟨n.val, hn⟩ ⟨e.val - 64, by omega⟩).trans (congrArg (angle n.val) (second_column e he))
      refine (dif_neg he).trans (rotated_second _ ?_ h1 h2 h3)
      exact if_neg he
  · rw [dif_neg fun h => hn h.2.2]
    exact zero_pad.trans (if_neg hn).symm

end Reference

open Cert.KernelCmpKIdeal.CmpK in
theorem algebraic : Cert.algebraic_KernelCmpKIdeal_ReferenceCmpKIdeal := by
  intro m ρ m' ρ' _ hagree
  refine ⟨_, run m ρ, ?_⟩
  refine (θ_run Cert.ReferenceCmpKIdeal.defs _ _).mono (fun _ h c => ⟨(h c).1.trans ?_, (h c).2⟩)
    (Cert.ReferenceCmpKIdeal.Value.run (F := Ideal) m' ρ')
  rw [res_eq, (hagree c).1, (hagree c).2.1, (hagree c).2.2.1, (hagree c).2.2.2]
  funext y
  obtain ⟨b, n, e, rfl⟩ : ∃ (b : Fin 16) (n : Fin 128) (e : Fin 128), y = ix3 b n e := ⟨y 0, y 1, y 2, eq_ix3 y⟩
  exact rest_apply _ (fun n e => Cert.Compress.outer (tokOf (argX m c)) (posOf (argP m c)) (firstOf (argW m c)) (secondOf (argU m c)) ⟨b.val / 2, by omega⟩ ⟨b.val % 2, by omega⟩ n e) b n e
    fun n e => second_apply _ _ _ _ _ n _ e

end Cert.Proof.CmpK

end
-- ==== Proof.CmpV.Value.lean ====
/- The compressed values: what the kernel leaves in its result, index by index, as a function of its arguments. -/
module

public import proofs.«01_k».proof.Proof.Gen.KernelCmpVIdeal.Value
public import proofs.«01_k».proof.Proof.Cmp.Math
public import Idealize.ShloMosaic.Lib.Pipeline.ValueKit
public import Idealize.ShloMosaic.Lib.Pointwise

@[expose] public section

set_option maxRecDepth 16384

noncomputable section

namespace Cert.KernelCmpVIdeal.CmpV

open Cert.KernelCmpVIdeal.Gen
open Cert.Compress
open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![1, 0] := by decide +kernel
theorem idx4 : ∀ t : Fin cfg0.N, win0_4.index t = ![0, 0] := by decide +kernel
theorem idx7 : ∀ t : Fin cfg0.N, win0_7.index t = ![t.val, 0, 0] := by decide +kernel

theorem lt16 (t : Fin cfg0.N) : t.val < 16 := Nat.lt_of_lt_of_eq t.isLt (by decide)

/-- The arguments: the values, the tokens' places in a window, and the two layers' weights. -/
abbrev argX : S8x2048x256.Idx → EReal := m ((c.tc : Thread nD τ).loc main_arg0)
abbrev argP : S32x128.Idx → EReal := m ((c.tc : Thread nD τ).loc main_arg1)
abbrev argW : S4096x256.Idx → EReal := m ((c.tc : Thread nD τ).loc main_arg2)
abbrev argU : S256x128.Idx → EReal := m ((c.tc : Thread nD τ).loc main_arg3)

/-- The chunks of sixteen tokens, a row each, for every sequence and group. -/
def chunks (x : FVec Ideal S8x2048x256 .f32) : FVec Ideal S16x128x2048 .bf16 :=
  shapeCast S16x128x2048 (transpose S8x2x2048x128 [0, 2, 1, 3]
    (shapeCast S8x2048x2x128 (truncf .bf16 x bitsLt_bf16_f32) shapeCasts_S8x2048x256_S8x2048x2x128)
    transposes_S8x2048x2x128_S8x2x2048x128_0_2_1_3) shapeCasts_S8x2x2048x128_S16x128x2048

theorem V_v31 : V m c main_v31 = chunks (argX m c) := by
  simp only [V, hostOps0]
  after_results_simp <;> rfl

theorem chunks_apply (x : FVec Ideal S8x2048x256 .f32) (b : Fin 16) (n : Fin 128) (k : Fin 2048) :
    chunks x (ix3 b n k) = (x (ix3 ⟨b.val / 2, by omega⟩ ⟨n.val * 16 + k.val / 128, by omega⟩ ⟨b.val % 2 * 128 + k.val % 128, by omega⟩) : EReal) := by
  pointwise [chunks]

/-- The places, a row for each half of a window. -/
def places (p : FVec Ideal S32x128 .f32) : FVec Ideal S2x2048 .f32 := shapeCast S2x2048 p shapeCasts_S32x128_S2x2048

theorem V_v32 : V m c main_v32 = places (argP m c) := by
  simp only [V, hostOps0]
  after_results_simp <;> rfl

theorem places_apply (p : FVec Ideal S32x128 .f32) (a : Fin 2) (k : Fin 2048) :
    places p (ix2 a k) = (p (ix2 ⟨a.val * 16 + k.val / 128, by omega⟩ ⟨k.val % 128, by omega⟩) : EReal) := by
  pointwise [places]

theorem V_v33 : V m c main_v33 = (truncf .bf16 (argW m c : FVec Ideal S4096x256 .f32) bitsLt_bf16_f32 : FVec Ideal S4096x256 .bf16) := by
  simp only [V, hostOps0]
  after_results_simp <;> rfl

theorem V_v34 : V m c main_v34 = (truncf .bf16 (argW m c : FVec Ideal S4096x256 .f32) bitsLt_bf16_f32 : FVec Ideal S4096x256 .bf16) := by
  simp only [V, hostOps0]
  after_results_simp <;> rfl

theorem V_v35 : V m c main_v35 = (truncf .bf16 (argU m c : FVec Ideal S256x128 .f32) bitsLt_bf16_f32 : FVec Ideal S256x128 .bf16) := by
  simp only [V, hostOps0]
  after_results_simp <;> rfl

theorem read_x (t : Fin cfg0.N) (n : Fin 128) (k : Fin 2048) :
    (iblk m c 0 t (ix3 0 n k) : EReal) = argX m c (ix3 ⟨t.val / 2, by have := lt16 t; omega⟩ ⟨n.val * 16 + k.val / 128, by omega⟩ ⟨t.val % 2 * 128 + k.val % 128, by omega⟩) := by
  have : iblk m c 0 t (ix3 0 n k) = V m c main_v31 (ix3 ⟨t.val, lt16 t⟩ n k) := by blk_ext [iblk, V, idx0 t]
  rw [this, V_v31]
  exact chunks_apply _ _ _ _

theorem read_p (t : Fin cfg0.N) (a : Fin 2) (k : Fin 2048) :
    (iblk m c 1 t (ix2 a k) : EReal) = argP m c (ix2 ⟨a.val * 16 + k.val / 128, by omega⟩ ⟨k.val % 128, by omega⟩) := by
  have : iblk m c 1 t (ix2 a k) = V m c main_v32 (ix2 a k) := by blk_ext [iblk, V, idx1 t]
  rw [this, V_v32]
  exact places_apply _ _ _

theorem read_early (t : Fin cfg0.N) (k : Fin 2048) (j : Fin 256) :
    (iblk m c 2 t (ix2 k j) : EReal) = argW m c (ix2 ⟨k.val, by omega⟩ j) := by
  have : iblk m c 2 t (ix2 k j) = V m c main_v33 (ix2 ⟨k.val, by omega⟩ j) := by blk_ext [iblk, V, idx2 t]
  rw [this, V_v33]
  rfl

theorem read_late (t : Fin cfg0.N) (k : Fin 2048) (j : Fin 256) :
    (iblk m c 3 t (ix2 k j) : EReal) = argW m c (ix2 ⟨2048 + k.val, by omega⟩ j) := by
  have : iblk m c 3 t (ix2 k j) = V m c main_v34 (ix2 ⟨2048 + k.val, by omega⟩ j) := by blk_ext [iblk, V, idx3 t]
  rw [this, V_v34]
  rfl

theorem read_u (t : Fin cfg0.N) (j : Fin 256) (e : Fin 128) :
    (iblk m c 4 t (ix2 j e) : EReal) = argU m c (ix2 j e) := by
  have : iblk m c 4 t (ix2 j e) = V m c main_v35 (ix2 j e) := by blk_ext [iblk, V, idx4 t]
  rw [this, V_v35]
  rfl

section Block

variable (x : Vec Ideal S1x128x2048 .bf16) (p : Vec Ideal S2x2048 .f32) (wa wb : Vec Ideal S2048x256 .bf16) (u : Vec Ideal S256x128 .bf16)

/-- The first layer, of a block's chunks. -/
def inner (n : Fin 128) (j : Fin 256) : EReal :=
  (∑ k : Fin 2048, ((x (ix3 0 n k) : EReal) + p (ix2 0 k)) * wa (ix2 k j))
    + ∑ k : Fin 2048, ((x (ix3 0 ⟨(n.val + 128 - 127) % 128, by omega⟩ k) : EReal) + p (ix2 1 k)) * wb (ix2 k j)

theorem pay_apply (n : Fin 128) (e : Fin 128) :
    (k0_pay2 (View.ld x r0_0) (View.ld p r0_1) (View.ld p r0_2) (View.ld wa r0_3) (View.ld wb r0_3) (View.ld u r0_4) (ix2 n e) : EReal)
      = ∑ j : Fin 256, gelu (inner x p wa wb n j) * u (ix2 j e) := by
  pointwise [k0_pay2]
  rfl

theorem last_apply (a : FVec Ideal S128x128 .f32) (n : Fin 128) (e : Fin 128) :
    (k0_pay1 a (ix3 0 n e) : EReal) = if n.val < 127 then (a (ix2 n e) : EReal) else 0 := by
  pointwise [k0_pay1]
  have : ∀ n : Fin 128, IntOp.cmpi CmpIPredicate.slt (BitVec.ofNat 32 n.val) 127#32 = if n.val < 127 then 1#1 else 0#1 := by decide
  rw [this n]
  split_ifs <;> rfl

theorem block_apply (co si : Vec Ideal S128x128 .f32) (n : Fin 128) (e : Fin 128) :
    (out0_7 x p wa wb u co si (ix3 0 n e) : EReal)
      = if n.val < 127 then ∑ j : Fin 256, gelu (inner x p wa wb n j) * u (ix2 j e) else 0 := by
  refine (congrFun (View.canon_unit_zero (by decide) _ _) _).trans ?_
  rw [last_apply, pay_apply]

end Block

/-- The arguments by token and column. -/
abbrev tokOf (x : S8x2048x256.Idx → EReal) (b : Fin 8) (s : Fin 2048) (d : Fin 256) : EReal := x (ix3 b s d)
abbrev posOf (p : S32x128.Idx → EReal) (a : Fin 32) (d : Fin 128) : EReal := p (ix2 a d)
abbrev firstOf (w : S4096x256.Idx → EReal) (k : Fin 4096) (j : Fin 256) : EReal := w (ix2 k j)
abbrev secondOf (u : S256x128.Idx → EReal) (j : Fin 256) (e : Fin 128) : EReal := u (ix2 j e)

/-- The compressed values: a row for each window of each sequence and group, and a last row of zeros. -/
def compressed (x : S8x2048x256.Idx → EReal) (p : S32x128.Idx → EReal) (w : S4096x256.Idx → EReal) (u : S256x128.Idx → EReal)
    (b : Fin 16) (n : Fin 128) (e : Fin 128) : EReal :=
  if n.val < 127 then outer (tokOf x) (posOf p) (firstOf w) (secondOf u) ⟨b.val / 2, by omega⟩ ⟨b.val % 2, by omega⟩ n e else 0

def compressedAt (x : S8x2048x256.Idx → EReal) (p : S32x128.Idx → EReal) (w : S4096x256.Idx → EReal) (u : S256x128.Idx → EReal)
    (y : S16x128x128.Idx) : EReal := compressed x p w u (y 0) (y 1) (y 2)

theorem inner_eq (t : Fin cfg0.N) (n : Fin 128) (j : Fin 256) :
    inner (iblk m c 0 t) (iblk m c 1 t) (iblk m c 2 t) (iblk m c 3 t) n j
      = hidden (tokOf (argX m c)) (posOf (argP m c)) (firstOf (argW m c)) ⟨t.val / 2, by have := lt16 t; omega⟩ ⟨t.val % 2, by omega⟩ n j := by
  refine congrArg₂ (fun a b : EReal => a + b) (Finset.sum_congr rfl fun k _ => ?_) (Finset.sum_congr rfl fun k _ => ?_)
  · refine congrArg₂ (fun a b : EReal => a * b) (congrArg₂ (fun a b : EReal => a + b) (read_x m c t n k) ?_) (read_early m c t k j)
    exact (read_p m c t 0 k).trans (congrArg (fun i => argP m c (ix2 i _)) (Fin.ext (by show 0 * 16 + k.val / 128 = k.val / 128; omega)))
  · refine congrArg₂ (fun a b : EReal => a * b) (congrArg₂ (fun a b : EReal => a + b) ((read_x m c t _ k).trans ?_) ?_) (read_late m c t k j)
    · exact congrArg (fun i => argX m c (ix3 _ i _))
        (Fin.ext (by show (n.val + 128 - 127) % 128 * 16 + k.val / 128 = (n.val + 1) % 128 * 16 + k.val / 128; omega))
    exact (read_p m c t 1 k).trans (congrArg (fun i => argP m c (ix2 i _)) (Fin.ext (by show 1 * 16 + k.val / 128 = 16 + k.val / 128; omega)))

/-- A grid point's block is the compressed values of its sequence and group. -/
theorem block_eq (t : Fin cfg0.N) (n e : Fin 128) :
    (out0_7 (iblk m c 0 t) (iblk m c 1 t) (iblk m c 2 t) (iblk m c 3 t) (iblk m c 4 t) (iblk m c 5 t) (iblk m c 6 t) (ix3 0 n e) : EReal)
      = compressed (argX m c) (argP m c) (argW m c) (argU m c) ⟨t.val, lt16 t⟩ n e := by
  rw [block_apply]
  refine if_congr Iff.rfl (Finset.sum_congr rfl fun j _ => ?_) rfl
  exact congrArg₂ (fun a b : EReal => gelu a * b) (inner_eq m c t n j) (read_u m c t j e)

theorem covers : (cfg0.win 7).Covers := by decide +kernel

theorem emb7 (t : Fin cfg0.N) (n e : Fin 128) : ((cfg0.win 7).blk t).view.emb (ix3 0 n e : S1x128x128.Idx)
    = (ix3 ⟨t.val, lt16 t⟩ n e : S16x128x128.Idx) := by
  blk_ext [idx7 t]

/-- The result array after the run. -/
theorem result_eq : (dats m 0 c).arrAt 7 cfg0.N = compressedAt (argX m c) (argP m c) (argW m c) (argU m c) := by
  refine (dats m 0 c).arrAt_eq_of_covers 7 _ covers fun t hf y => ?_
  obtain ⟨n, e, rfl⟩ : ∃ (n e : Fin 128), y = (ix3 0 n e : S1x128x128.Idx) := ⟨y 1, y 2, (eq_ix3 y).trans (congrArg (fun i => ix3 i _ _) (Subsingleton.elim _ _))⟩
  blk_simp
  rw [after0_7]
  exact (block_eq m c t n e).trans (congrArg (compressedAt (argX m c) (argP m c) (argW m c) (argU m c)) (emb7 t n e).symm)

/-- The kernel's run, with its result named. -/
theorem run (ρ : Dev nD → PrngReg) :
    θ_run defs (onTc main) ⟨m, fun _ => 0, ρ⟩ (fun r => ∀ c : Dev nD,
      r.2.mem ((c.tc : Thread nD τ).loc main_v36) = compressedAt (argX m c) (argP m c) (argW m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (Value.run_blocks m ρ)

end Cert.KernelCmpVIdeal.CmpV

end
-- ==== Proof.CmpV.Claims.lean ====
/- The claims about the compressed values. -/
module

public import proofs.«01_k».proof.Defs
public import proofs.«01_k».proof.Proof.CmpV.Value
public import proofs.«01_k».proof.Proof.Gen.KernelCmpV.Frame
public import proofs.«01_k».proof.Proof.Gen.ReferenceCmpVIdeal.Run
public import Idealize.ShloMosaic.Lib.Quiescent

@[expose] public section

set_option maxRecDepth 16384

noncomputable section

namespace Cert.Proof.CmpV

open Idealize.ShloMosaic Idealize.ShloMosaic.TcCoe Idealize.SL.Sem

theorem frame_p : Cert.quiescent_KernelCmpV := fun m ρ _ => Cert.KernelCmpV.Gen.frame m ρ
theorem frame_pi : Cert.quiescent_KernelCmpVIdeal := fun m ρ _ => Cert.KernelCmpVIdeal.Gen.frame m ρ
theorem frame_ri : Cert.quiescent_ReferenceCmpVIdeal := fun m ρ _ =>
  (θ_run Cert.ReferenceCmpVIdeal.defs _ _).mono (fun r h => ⟨fun c => (h c).2,
      Idealize.ShloMosaic.sem_eq_zero_of_no_sems (by decide) r.2⟩)
    (Cert.ReferenceCmpVIdeal.Value.run (F := Ideal) m ρ)

section Reference

open Cert.ReferenceCmpVIdeal Cert.ReferenceCmpVIdeal.Gen
open Cert.KernelCmpVIdeal.CmpV (tokOf posOf firstOf secondOf)
open Cert.Compress

variable (x : FVec Ideal S8x2048x256 .f32) (p : FVec Ideal S32x128 .f32) (w : FVec Ideal S4096x256 .f32) (u : FVec Ideal S256x128 .f32)

/-- The windows of thirty-two tokens with their places, a row each. -/
def windows : FVec Ideal S8x127x2x4096 .f32 :=
  shapeCast S8x127x2x4096 (transpose S8x127x2x32x128 [0, 1, 3, 2, 4] (addf (concatenate S8x127x32x2x128 2
      [⟨S8x127x16x2x128, (extractStridedSlice S8x127x16x2x128 ![0, 0, 0, 0, 0] (shapeCast S8x128x16x2x128 (shapeCast S8x2048x2x128 x shapeCasts_S8x2048x256_S8x2048x2x128) shapeCasts_S8x2048x2x128_S8x128x16x2x128) slices_S8x128x16x2x128_S8x127x16x2x128_0_0_0_0_0)⟩,
       ⟨S8x127x16x2x128, (extractStridedSlice S8x127x16x2x128 ![0, 1, 0, 0, 0] (shapeCast S8x128x16x2x128 (shapeCast S8x2048x2x128 x shapeCasts_S8x2048x256_S8x2048x2x128) shapeCasts_S8x2048x2x128_S8x128x16x2x128) slices_S8x128x16x2x128_S8x127x16x2x128_0_1_0_0_0)⟩]
      concatenates_S8x127x16x2x128_S8x127x16x2x128_S8x127x32x2x128_d2)
    (broadcastInDim S8x127x32x2x128 ![0, 1, 2, 3, 4] bcast_S1x1x32x1x128_S8x127x32x2x128_0_1_2_3_4 (broadcastInDim S1x1x32x1x128 ![2, 4] bcast_S32x128_S1x1x32x1x128_2_4 p)))
    transposes_S8x127x32x2x128_S8x127x2x32x128_0_1_3_2_4) shapeCasts_S8x127x2x32x128_S8x127x2x4096

theorem windows_apply (b : Fin 8) (n : Fin 127) (g : Fin 2) (k : Fin 4096) :
    (windows x p (ix4 b n g k) : EReal) = tokOf x b ⟨n.val * 16 + k.val / 128, by omega⟩ ⟨g.val * 128 + k.val % 128, by omega⟩
      + posOf p ⟨k.val / 128, by omega⟩ ⟨k.val % 128, by omega⟩ := by
  pointwise [windows]
  by_cases hk : k.val / 128 < 16
  · rw [dif_pos hk]
  · rw [dif_neg hk]
    exact congrArg (fun i => (x (ix3 b i _) : EReal) + p _) (Fin.ext (by show (1 + n.val) * 16 + (k.val / 128 - 16) = n.val * 16 + k.val / 128; omega))

def first : FVec Ideal S8x127x2x256 .f32 :=
  Host.dotGeneral dot_S8x127x2x4096_S4096x256_S8x127x2x256_3_0_012_1_n_n none (windows x p) w

theorem first_apply (b : Fin 8) (n : Fin 127) (g : Fin 2) (j : Fin 256) :
    (first x p w (ix4 b n g j) : EReal) = hidden (tokOf x) (posOf p) (firstOf w) b g ⟨n.val, by omega⟩ j := by
  have : (first x p w (ix4 b n g j) : EReal) = ∑ k : Fin 4096, (windows x p (ix4 b n g k) : EReal) * w (ix2 k j) := by
    unfold first
    generalize windows x p = q
    pointwise
  exact this.trans (hidden_of_window (tokOf x) (posOf p) (firstOf w) b g ⟨n.val, by omega⟩ n.isLt j (fun k => windows x p (ix4 b n g k))
    fun k => windows_apply x p b n g k)

theorem zero_pad : (FloatOps.sitofp (F := Ideal) .f32 (0#32 : BitVec 32) : EReal) = 0 := by simp [FloatOps.sitofp]

/-- The smooth gate with the cube's factors grouped the other way. -/
theorem gelu_cube (a : EReal) : a * (Ideal.ofBits .f32 0x3F000000#32 * (1
    + Ideal.tanh (Ideal.ofBits .f32 0x3F4C422A#32 * (a + Ideal.ofBits .f32 0x3D372713#32 * (a * a * a))))) = gelu a := by
  rw [mul_comm (a * a) a]
  rfl

end Reference

open Cert.KernelCmpVIdeal.CmpV in
theorem algebraic : Cert.algebraic_KernelCmpVIdeal_ReferenceCmpVIdeal := by
  intro m ρ m' ρ' _ hagree
  refine ⟨_, run m ρ, ?_⟩
  refine (θ_run Cert.ReferenceCmpVIdeal.defs _ _).mono (fun _ h c => ⟨(h c).1.trans ?_, (h c).2⟩)
    (Cert.ReferenceCmpVIdeal.Value.run (F := Ideal) m' ρ')
  unfold Cert.ReferenceCmpVIdeal.Value.res_main_v28
  rw [(hagree c).1, (hagree c).2.1, (hagree c).2.2.1, (hagree c).2.2.2]
  funext y
  obtain ⟨b, n, e, rfl⟩ : ∃ (b : Fin 16) (n : Fin 128) (e : Fin 128), y = ix3 b n e := ⟨y 0, y 1, y 2, eq_ix3 y⟩
  generalize hP : Host.dotGeneral (F := Ideal) Cert.ReferenceCmpVIdeal.dot_S8x127x2x4096_S4096x256_S8x127x2x256_3_0_012_1_n_n none _ _ = P
  have hA : ∀ (b : Fin 8) (n : Fin 127) (g : Fin 2) (j : Fin 256), (P (ix4 b n g j) : EReal) = _ := fun b n g j =>
    (congrFun hP.symm _).trans (first_apply (argX m c) (argP m c) (argW m c) b n g j)
  clear hP
  pointwise
  by_cases hn : n.val < 127
  · rw [dif_pos ⟨by omega, by omega, hn⟩]
    refine Eq.trans ?_ (if_pos hn).symm
    refine Finset.sum_congr rfl fun j _ => congrArg (fun a : EReal => a * argU m c (ix2 j e)) ?_
    exact (gelu_cube _).trans (congrArg Cert.Compress.gelu (hA _ _ _ _))
  · rw [dif_neg fun h => hn h.2.2]
    exact zero_pad.trans (if_neg hn).symm

end Cert.Proof.CmpV

end
-- ==== Proof.lean ====
module

public import proofs.«01_k».proof.Defs

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelNormMix
public import proofs.«01_k».proof.Proof.Gen.KernelNormMix.Skeleton
public import proofs.«01_k».proof.Proof.Gen.KernelNormMix.Launch
public import proofs.«01_k».proof.Proof.Gen.KernelNormMix.Points
public import proofs.«01_k».proof.Proof.Gen.KernelNormMix.Frame
public import proofs.«01_k».proof.Proof.Gen.KernelNormMixIdeal
public import proofs.«01_k».proof.Proof.Gen.KernelNormMixIdeal.Skeleton
public import proofs.«01_k».proof.Proof.Gen.KernelNormMixIdeal.Launch
public import proofs.«01_k».proof.Proof.Gen.KernelNormMixIdeal.Points
public import proofs.«01_k».proof.Proof.Gen.KernelNormMixIdeal.Frame
public import proofs.«01_k».proof.Proof.Gen.KernelNormFfn
public import proofs.«01_k».proof.Proof.Gen.KernelNormFfn.Skeleton
public import proofs.«01_k».proof.Proof.Gen.KernelNormFfn.Launch
public import proofs.«01_k».proof.Proof.Gen.KernelNormFfn.Points
public import proofs.«01_k».proof.Proof.Gen.KernelNormFfn.Frame
public import proofs.«01_k».proof.Proof.Gen.KernelNormFfnIdeal
public import proofs.«01_k».proof.Proof.Gen.KernelNormFfnIdeal.Skeleton
public import proofs.«01_k».proof.Proof.Gen.KernelNormFfnIdeal.Launch
public import proofs.«01_k».proof.Proof.Gen.KernelNormFfnIdeal.Points
public import proofs.«01_k».proof.Proof.Gen.KernelNormFfnIdeal.Frame
public import proofs.«01_k».proof.Proof.Gen.KernelNormFinal
public import proofs.«01_k».proof.Proof.Gen.KernelNormFinal.Skeleton
public import proofs.«01_k».proof.Proof.Gen.KernelNormFinal.Launch
public import proofs.«01_k».proof.Proof.Gen.KernelNormFinal.Points
public import proofs.«01_k».proof.Proof.Gen.KernelNormFinal.Frame
public import proofs.«01_k».proof.Proof.Gen.KernelNormFinalIdeal
public import proofs.«01_k».proof.Proof.Gen.KernelNormFinalIdeal.Skeleton
public import proofs.«01_k».proof.Proof.Gen.KernelNormFinalIdeal.Launch
public import proofs.«01_k».proof.Proof.Gen.KernelNormFinalIdeal.Points
public import proofs.«01_k».proof.Proof.Gen.KernelNormFinalIdeal.Frame
public import proofs.«01_k».proof.Proof.Gen.KernelPlain
public import proofs.«01_k».proof.Proof.Gen.KernelPlain.Skeleton
public import proofs.«01_k».proof.Proof.Gen.KernelPlain.Launch
public import proofs.«01_k».proof.Proof.Gen.KernelPlain.Points
public import proofs.«01_k».proof.Proof.Gen.KernelPlain.Frame
public import proofs.«01_k».proof.Proof.Gen.KernelPlainIdeal
public import proofs.«01_k».proof.Proof.Gen.KernelPlainIdeal.Skeleton
public import proofs.«01_k».proof.Proof.Gen.KernelPlainIdeal.Launch
public import proofs.«01_k».proof.Proof.Gen.KernelPlainIdeal.Points
public import proofs.«01_k».proof.Proof.Gen.KernelPlainIdeal.Frame
public import proofs.«01_k».proof.Proof.Gen.KernelGate
public import proofs.«01_k».proof.Proof.Gen.KernelGate.Skeleton
public import proofs.«01_k».proof.Proof.Gen.KernelGate.Launch
public import proofs.«01_k».proof.Proof.Gen.KernelGate.Points
public import proofs.«01_k».proof.Proof.Gen.KernelGate.Frame
public import proofs.«01_k».proof.Proof.Gen.KernelGateIdeal
public import proofs.«01_k».proof.Proof.Gen.KernelGateIdeal.Skeleton
public import proofs.«01_k».proof.Proof.Gen.KernelGateIdeal.Launch
public import proofs.«01_k».proof.Proof.Gen.KernelGateIdeal.Points
public import proofs.«01_k».proof.Proof.Gen.KernelGateIdeal.Frame
public import proofs.«01_k».proof.Proof.Gen.KernelRope
public import proofs.«01_k».proof.Proof.Gen.KernelRope.Skeleton
public import proofs.«01_k».proof.Proof.Gen.KernelRope.Launch
public import proofs.«01_k».proof.Proof.Gen.KernelRope.Points
public import proofs.«01_k».proof.Proof.Gen.KernelRope.Frame
public import proofs.«01_k».proof.Proof.Gen.KernelRopeIdeal
public import proofs.«01_k».proof.Proof.Gen.KernelRopeIdeal.Skeleton
public import proofs.«01_k».proof.Proof.Gen.KernelRopeIdeal.Launch
public import proofs.«01_k».proof.Proof.Gen.KernelRopeIdeal.Points
public import proofs.«01_k».proof.Proof.Gen.KernelRopeIdeal.Frame
public import proofs.«01_k».proof.Proof.Gen.KernelSmall
public import proofs.«01_k».proof.Proof.Gen.KernelSmall.Skeleton
public import proofs.«01_k».proof.Proof.Gen.KernelSmall.Launch
public import proofs.«01_k».proof.Proof.Gen.KernelSmall.Points
public import proofs.«01_k».proof.Proof.Gen.KernelSmall.Frame
public import proofs.«01_k».proof.Proof.Gen.KernelSmallIdeal
public import proofs.«01_k».proof.Proof.Gen.KernelSmallIdeal.Skeleton
public import proofs.«01_k».proof.Proof.Gen.KernelSmallIdeal.Launch
public import proofs.«01_k».proof.Proof.Gen.KernelSmallIdeal.Points
public import proofs.«01_k».proof.Proof.Gen.KernelSmallIdeal.Frame
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.KernelCmpK
public import proofs.«01_k».proof.Proof.Gen.KernelCmpK.Skeleton
public import proofs.«01_k».proof.Proof.Gen.KernelCmpK.Launch
public import proofs.«01_k».proof.Proof.Gen.KernelCmpK.Points
public import proofs.«01_k».proof.Proof.Gen.KernelCmpK.Frame
public import proofs.«01_k».proof.Proof.Gen.KernelCmpKIdeal
public import proofs.«01_k».proof.Proof.Gen.KernelCmpKIdeal.Skeleton
public import proofs.«01_k».proof.Proof.Gen.KernelCmpKIdeal.Launch
public import proofs.«01_k».proof.Proof.Gen.KernelCmpKIdeal.Points
public import proofs.«01_k».proof.Proof.Gen.KernelCmpKIdeal.Frame
public import proofs.«01_k».proof.Proof.Gen.KernelCmpV
public import proofs.«01_k».proof.Proof.Gen.KernelCmpV.Skeleton
public import proofs.«01_k».proof.Proof.Gen.KernelCmpV.Launch
public import proofs.«01_k».proof.Proof.Gen.KernelCmpV.Points
public import proofs.«01_k».proof.Proof.Gen.KernelCmpV.Frame
public import proofs.«01_k».proof.Proof.Gen.KernelCmpVIdeal
public import proofs.«01_k».proof.Proof.Gen.KernelCmpVIdeal.Skeleton
public import proofs.«01_k».proof.Proof.Gen.KernelCmpVIdeal.Launch
public import proofs.«01_k».proof.Proof.Gen.KernelCmpVIdeal.Points
public import proofs.«01_k».proof.Proof.Gen.KernelCmpVIdeal.Frame
public import proofs.«01_k».proof.Proof.Gen.ReferenceIdeal
public import proofs.«01_k».proof.Proof.Gen.ReferenceIdeal.Run
public import proofs.«01_k».proof.Proof.Fox.Claims
public import proofs.«01_k».proof.Proof.Gen.ReferenceNormMixIdeal
public import proofs.«01_k».proof.Proof.NormMix.Claims
public import proofs.«01_k».proof.Proof.Gen.ReferenceNormFfnIdeal
public import proofs.«01_k».proof.Proof.NormFfn.Claims
public import proofs.«01_k».proof.Proof.Gen.ReferenceNormFinalIdeal
public import proofs.«01_k».proof.Proof.NormFinal.Claims
public import proofs.«01_k».proof.Proof.Gen.ReferencePlainIdeal
public import proofs.«01_k».proof.Proof.Plain.Claims
public import proofs.«01_k».proof.Proof.Gen.ReferenceGateIdeal
public import proofs.«01_k».proof.Proof.Gate.Claims
public import proofs.«01_k».proof.Proof.Gen.ReferenceRopeIdeal
public import proofs.«01_k».proof.Proof.Rope.Claims
public import proofs.«01_k».proof.Proof.Gen.ReferenceSmallIdeal
public import proofs.«01_k».proof.Proof.Small.Claims
public import proofs.«01_k».proof.Proof.Gen.ReferenceMergeIdeal
public import proofs.«01_k».proof.Proof.Merge.Claims
public import proofs.«01_k».proof.Proof.Gen.ReferenceCmpKIdeal
public import proofs.«01_k».proof.Proof.CmpK.Claims
public import proofs.«01_k».proof.Proof.Gen.ReferenceCmpVIdeal
public import proofs.«01_k».proof.Proof.CmpV.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelNormMix.Gen.facts, Cert.KernelNormMixIdeal.Gen.facts, Cert.ReferenceNormMixIdeal.Gen.facts,
  Cert.KernelNormFfn.Gen.facts, Cert.KernelNormFfnIdeal.Gen.facts, Cert.ReferenceNormFfnIdeal.Gen.facts,
  Cert.KernelNormFinal.Gen.facts, Cert.KernelNormFinalIdeal.Gen.facts, Cert.ReferenceNormFinalIdeal.Gen.facts,
  Cert.KernelPlain.Gen.facts, Cert.KernelPlainIdeal.Gen.facts, Cert.ReferencePlainIdeal.Gen.facts,
  Cert.KernelGate.Gen.facts, Cert.KernelGateIdeal.Gen.facts, Cert.ReferenceGateIdeal.Gen.facts,
  Cert.KernelRope.Gen.facts, Cert.KernelRopeIdeal.Gen.facts, Cert.ReferenceRopeIdeal.Gen.facts,
  Cert.KernelSmall.Gen.facts, Cert.KernelSmallIdeal.Gen.facts, Cert.ReferenceSmallIdeal.Gen.facts,
  Cert.KernelMerge.Gen.facts, Cert.KernelMergeIdeal.Gen.facts, Cert.ReferenceMergeIdeal.Gen.facts,
  Cert.KernelCmpK.Gen.facts, Cert.KernelCmpKIdeal.Gen.facts, Cert.ReferenceCmpKIdeal.Gen.facts,
  Cert.KernelCmpV.Gen.facts, Cert.KernelCmpVIdeal.Gen.facts, Cert.ReferenceCmpVIdeal.Gen.facts,
  Fox.frame_p, Fox.frame_pi, Fox.frame_ri,
  NormMix.frame_p, NormMix.frame_pi, NormMix.frame_ri,
  NormFfn.frame_p, NormFfn.frame_pi, NormFfn.frame_ri,
  NormFinal.frame_p, NormFinal.frame_pi, NormFinal.frame_ri,
  Plain.frame_p, Plain.frame_pi, Plain.frame_ri,
  Gate.frame_p, Gate.frame_pi, Gate.frame_ri,
  Rope.frame_p, Rope.frame_pi, Rope.frame_ri,
  Small.frame_p, Small.frame_pi, Small.frame_ri,
  Merge.frame_p, Merge.frame_pi, Merge.frame_ri,
  CmpK.frame_p, CmpK.frame_pi, CmpK.frame_ri,
  CmpV.frame_p, CmpV.frame_pi, CmpV.frame_ri,
  Fox.preserves, Fox.algebraic,
  trivial, NormMix.algebraic,
  trivial, NormFfn.algebraic,
  trivial, NormFinal.algebraic,
  trivial, Plain.algebraic,
  trivial, Gate.algebraic,
  trivial, Rope.algebraic,
  trivial, Small.algebraic,
  trivial, Merge.algebraic,
  trivial, CmpK.algebraic,
  trivial, CmpV.algebraic⟩

end Cert.Proof

end
